-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 2048]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x256 : Shape := ⟨2, ![4096, 256]⟩
abbrev S8x512x4096 : Shape := ⟨3, ![8, 512, 4096]⟩
abbrev S1x128 : Shape := ⟨2, ![1, 128]⟩
abbrev S8x128 : Shape := ⟨2, ![8, 128]⟩
abbrev S5x2 : Shape := ⟨2, ![5, 2]⟩
abbrev S10 : Shape := ⟨1, ![10]⟩
abbrev S7 : Shape := ⟨1, ![7]⟩
abbrev S8 : Shape := ⟨1, ![8]⟩
abbrev S4 : Shape := ⟨1, ![4]⟩
abbrev S_ : Shape := ⟨0, ![]⟩
abbrev S1 : Shape := ⟨1, ![1]⟩
abbrev S128x4096 : Shape := ⟨2, ![128, 4096]⟩
abbrev S1x128x4096 : Shape := ⟨3, ![1, 128, 4096]⟩
abbrev S1x1 : Shape := ⟨2, ![1, 1]⟩
abbrev S1x512x4096 : Shape := ⟨3, ![1, 512, 4096]⟩
abbrev S512x256 : Shape := ⟨2, ![512, 256]⟩
abbrev S1x512x256 : Shape := ⟨3, ![1, 512, 256]⟩
abbrev S1x1x1 : Shape := ⟨3, ![1, 1, 1]⟩
abbrev S1x256x4096 : Shape := ⟨3, ![1, 256, 4096]⟩
abbrev S256x4096 : Shape := ⟨2, ![256, 4096]⟩
abbrev S256x256 : Shape := ⟨2, ![256, 256]⟩
abbrev S1x256x256 : Shape := ⟨3, ![1, 256, 256]⟩
abbrev S1x96x4096 : Shape := ⟨3, ![1, 96, 4096]⟩
abbrev S96x4096 : Shape := ⟨2, ![96, 4096]⟩
abbrev S1x160x4096 : Shape := ⟨3, ![1, 160, 4096]⟩
abbrev S160x4096 : Shape := ⟨2, ![160, 4096]⟩
abbrev S14 : Shape := ⟨1, ![14]⟩
abbrev S1x14 : Shape := ⟨2, ![1, 14]⟩
abbrev S1x8x128 : Shape := ⟨3, ![1, 8, 128]⟩

abbrev nBuf : Space → Nat
  | .hbm => 3
  | .vmem => 7
  | .smem => 0
  | _ => 0

abbrev bufTy : (tb : Table) → Fin (tcTables nBuf tb) → BufTy
  | .hbm, ⟨0, _⟩ => ⟨S512x4096, .f32⟩
  | .hbm, ⟨1, _⟩ => ⟨S4096x256, .f32⟩
  | .hbm, ⟨2, _⟩ => ⟨S4096x256, .f32⟩
  | .local _ .vmem, ⟨0, _⟩ => ⟨S4096x256, .f32⟩
  | .local _ .vmem, ⟨1, _⟩ => ⟨S8x512x4096, .bf16⟩
  | .local _ .vmem, ⟨2, _⟩ => ⟨S512x4096, .f32⟩
  | .local _ .vmem, ⟨3, _⟩ => ⟨S4096x256, .f32⟩
  | .local _ .vmem, ⟨4, _⟩ => ⟨S4096x256, .bf16⟩
  | .local _ .vmem, ⟨5, _⟩ => ⟨S1x128, .f32⟩
  | .local _ .vmem, ⟨6, _⟩ => ⟨S8x128, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  (ofTc nBuf bufTy 1 81 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let c1_i32_11 : BitVec 32 := 1#32
  let v24 : BitVec 32 := Scalar.subi v8 c1_i32_11
  let c4_i32_12 : BitVec 32 := 4#32
  let c0_i32_13 : BitVec 32 := 0#32
  let v25 : BitVec 1 := Scalar.cmpi .eq c4_i32_12 c0_i32_13
  let c1_i32_14 : BitVec 32 := 1#32
  let v26 : BitVec 32 := Scalar.select v25 c1_i32_14 c4_i32_12
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let v35 : BitVec 32 := Scalar.addi v7 v34
  let c4_i32_18 : BitVec 32 := 4#32
  let v36 : BitVec 1 := Scalar.cmpi .slt v35 c4_i32_18
  let c11_i32_19 : BitVec 32 := 11#32
  let v37 : BitVec 32 := Scalar.subi c11_i32_19 v35
  let v38 : BitVec 32 := Scalar.select v36 v35 v37
  let c1_i32_38 : BitVec 32 := 1#32
  let v60 : BitVec 32 := Scalar.muli v38 c1_i32_38
  let v61 : BitVec 32 := Scalar.addi c0_i32_39 v60
  v61.toNat
def k0_dev2 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let c1_i32_2 : BitVec 32 := 1#32
  let v9 : BitVec 32 := Scalar.addi v8 c1_i32_2
  let c4_i32_3 : BitVec 32 := 4#32
  let c0_i32_4 : BitVec 32 := 0#32
  let v10 : BitVec 1 := Scalar.cmpi .eq c4_i32_3 c0_i32_4
  let c1_i32_5 : BitVec 32 := 1#32
  let v11 : BitVec 32 := Scalar.select v10 c1_i32_5 c4_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.addi v7 v19
  let c4_i32_9 : BitVec 32 := 4#32
  let v21 : BitVec 1 := Scalar.cmpi .slt v20 c4_i32_9
  let c11_i32_10 : BitVec 32 := 11#32
  let v22 : BitVec 32 := Scalar.subi c11_i32_10 v20
  let v23 : BitVec 32 := Scalar.select v21 v20 v22
  let c1_i32_41 : BitVec 32 := 1#32
  let v62 : BitVec 32 := Scalar.muli v23 c1_i32_41
  let v63 : BitVec 32 := Scalar.addi c0_i32_42 v62
  v63.toNat
def k0_dev3 (d0 : Dev nD) : Nat :=
  let c0_i32_45 : BitVec 32 := 0#32
  let c7_i32 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v39 : BitVec 32 := Scalar.subi c7_i32 v5
  let c4_i32_20 : BitVec 32 := 4#32
  let v40 : BitVec 1 := Scalar.cmpi .slt v39 c4_i32_20
  let c11_i32_21 : BitVec 32 := 11#32
  let v41 : BitVec 32 := Scalar.subi c11_i32_21 v39
  let v42 : BitVec 32 := Scalar.select v40 v39 v41
  let c1_i32_44 : BitVec 32 := 1#32
  let v64 : BitVec 32 := Scalar.muli v42 c1_i32_44
  let v65 : BitVec 32 := Scalar.addi c0_i32_45 v64
  v65.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v320 : Index := Scalar.indexCast v2
  let c0_205 : Index := 0#32
  let c0_206 : Index := 0#32
  ![v320.toNat, 0, 0]
def k0_off2 (d0 : Dev nD) (c0_i32_47 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let v66 : BitVec 32 := Scalar.subi v8 c0_i32_47
  let c4_i32_48 : BitVec 32 := 4#32
  let c0_i32_49 : BitVec 32 := 0#32
  let v67 : BitVec 1 := Scalar.cmpi .eq c4_i32_48 c0_i32_49
  let c1_i32_50 : BitVec 32 := 1#32
  let v68 : BitVec 32 := Scalar.select v67 c1_i32_50 c4_i32_48
  let v69 : BitVec 32 := Scalar.remsi v66 v68
  let c0_i32_52 : BitVec 32 := 0#32
  let v71 : BitVec 1 := Scalar.cmpi .slt v69 c0_i32_52
  let c0_i32_53 : BitVec 32 := 0#32
  let v72 : BitVec 1 := Scalar.cmpi .slt v68 c0_i32_53
  let v73 : BitVec 1 := Scalar.xori v71 v72
  let c0_i32_51 : BitVec 32 := 0#32
  let v70 : BitVec 1 := Scalar.cmpi .ne v69 c0_i32_51
  let v74 : BitVec 1 := Scalar.andi v73 v70
  let v75 : BitVec 32 := Scalar.addi v69 v68
  let v76 : BitVec 32 := Scalar.select v74 v75 v69
  let v77 : BitVec 32 := Scalar.addi v7 v76
  let c4_i32_54 : BitVec 32 := 4#32
  let v78 : BitVec 1 := Scalar.cmpi .slt v77 c4_i32_54
  let c11_i32_55 : BitVec 32 := 11#32
  let v79 : BitVec 32 := Scalar.subi c11_i32_55 v77
  let v80 : BitVec 32 := Scalar.select v78 v77 v79
  let c0_i32_213 : BitVec 32 := 0#32
  let c0_i32_214 : BitVec 32 := 0#32
  ![v80.toNat, 0, 0]
def k0_dev4 (d0 : Dev nD) : Nat :=
  let c0_i32_212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let c1_i32_2 : BitVec 32 := 1#32
  let v9 : BitVec 32 := Scalar.addi v8 c1_i32_2
  let c4_i32_3 : BitVec 32 := 4#32
  let c0_i32_4 : BitVec 32 := 0#32
  let v10 : BitVec 1 := Scalar.cmpi .eq c4_i32_3 c0_i32_4
  let c1_i32_5 : BitVec 32 := 1#32
  let v11 : BitVec 32 := Scalar.select v10 c1_i32_5 c4_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.addi v7 v19
  let c4_i32_9 : BitVec 32 := 4#32
  let v21 : BitVec 1 := Scalar.cmpi .slt v20 c4_i32_9
  let c11_i32_10 : BitVec 32 := 11#32
  let v22 : BitVec 32 := Scalar.subi c11_i32_10 v20
  let v23 : BitVec 32 := Scalar.select v21 v20 v22
  let c1_i32_211 : BitVec 32 := 1#32
  let v324 : BitVec 32 := Scalar.muli v23 c1_i32_211
  let v325 : BitVec 32 := Scalar.addi c0_i32_212 v324
  v325.toNat
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_221 : BitVec 32 := 0#32
  let c0_i32_222 : BitVec 32 := 0#32
  ![v2.toNat, 0, 0]
def k0_dev5 (d0 : Dev nD) : Nat :=
  let c0_i32_220 : BitVec 32 := 0#32
  let c7_i32 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v39 : BitVec 32 := Scalar.subi c7_i32 v5
  let c4_i32_20 : BitVec 32 := 4#32
  let v40 : BitVec 1 := Scalar.cmpi .slt v39 c4_i32_20
  let c11_i32_21 : BitVec 32 := 11#32
  let v41 : BitVec 32 := Scalar.subi c11_i32_21 v39
  let v42 : BitVec 32 := Scalar.select v40 v39 v41
  let c1_i32_219 : BitVec 32 := 1#32
  let v334 : BitVec 32 := Scalar.muli v42 c1_i32_219
  let v335 : BitVec 32 := Scalar.addi c0_i32_220 v334
  v335.toNat
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v350 : Index := Scalar.indexCast v2
  let c256_231 : Index := 256#32
  let c0_232 : Index := 0#32
  ![v350.toNat, 256, 0]
def k0_off5 (d0 : Dev nD) (c0_i32_123 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let v190 : BitVec 32 := Scalar.addi v8 c0_i32_123
  let c4_i32_124 : BitVec 32 := 4#32
  let c0_i32_125 : BitVec 32 := 0#32
  let v191 : BitVec 1 := Scalar.cmpi .eq c4_i32_124 c0_i32_125
  let c1_i32_126 : BitVec 32 := 1#32
  let v192 : BitVec 32 := Scalar.select v191 c1_i32_126 c4_i32_124
  let v193 : BitVec 32 := Scalar.remsi v190 v192
  let c0_i32_128 : BitVec 32 := 0#32
  let v195 : BitVec 1 := Scalar.cmpi .slt v193 c0_i32_128
  let c0_i32_129 : BitVec 32 := 0#32
  let v196 : BitVec 1 := Scalar.cmpi .slt v192 c0_i32_129
  let v197 : BitVec 1 := Scalar.xori v195 v196
  let c0_i32_127 : BitVec 32 := 0#32
  let v194 : BitVec 1 := Scalar.cmpi .ne v193 c0_i32_127
  let v198 : BitVec 1 := Scalar.andi v197 v194
  let v199 : BitVec 32 := Scalar.addi v193 v192
  let v200 : BitVec 32 := Scalar.select v198 v199 v193
  let v201 : BitVec 32 := Scalar.addi v7 v200
  let c4_i32_130 : BitVec 32 := 4#32
  let v202 : BitVec 1 := Scalar.cmpi .slt v201 c4_i32_130
  let c11_i32_131 : BitVec 32 := 11#32
  let v203 : BitVec 32 := Scalar.subi c11_i32_131 v201
  let v204 : BitVec 32 := Scalar.select v202 v201 v203
  let c256_i32_239 : BitVec 32 := 256#32
  let c0_i32_240 : BitVec 32 := 0#32
  ![v204.toNat, 256, 0]
def k0_dev6 (d0 : Dev nD) : Nat :=
  let c0_i32_238 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let c1_i32_11 : BitVec 32 := 1#32
  let v24 : BitVec 32 := Scalar.subi v8 c1_i32_11
  let c4_i32_12 : BitVec 32 := 4#32
  let c0_i32_13 : BitVec 32 := 0#32
  let v25 : BitVec 1 := Scalar.cmpi .eq c4_i32_12 c0_i32_13
  let c1_i32_14 : BitVec 32 := 1#32
  let v26 : BitVec 32 := Scalar.select v25 c1_i32_14 c4_i32_12
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let v35 : BitVec 32 := Scalar.addi v7 v34
  let c4_i32_18 : BitVec 32 := 4#32
  let v36 : BitVec 1 := Scalar.cmpi .slt v35 c4_i32_18
  let c11_i32_19 : BitVec 32 := 11#32
  let v37 : BitVec 32 := Scalar.subi c11_i32_19 v35
  let v38 : BitVec 32 := Scalar.select v36 v35 v37
  let c1_i32_237 : BitVec 32 := 1#32
  let v354 : BitVec 32 := Scalar.muli v38 c1_i32_237
  let v355 : BitVec 32 := Scalar.addi c0_i32_238 v354
  v355.toNat
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_247 : BitVec 32 := 256#32
  let c0_i32_248 : BitVec 32 := 0#32
  ![v2.toNat, 256, 0]
def k0_dev7 (d0 : Dev nD) : Nat :=
  let c0_i32_246 : BitVec 32 := 0#32
  let c7_i32 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v39 : BitVec 32 := Scalar.subi c7_i32 v5
  let c4_i32_20 : BitVec 32 := 4#32
  let v40 : BitVec 1 := Scalar.cmpi .slt v39 c4_i32_20
  let c11_i32_21 : BitVec 32 := 11#32
  let v41 : BitVec 32 := Scalar.subi c11_i32_21 v39
  let v42 : BitVec 32 := Scalar.select v40 v39 v41
  let c1_i32_245 : BitVec 32 := 1#32
  let v364 : BitVec 32 := Scalar.muli v42 c1_i32_245
  let v365 : BitVec 32 := Scalar.addi c0_i32_246 v364
  v365.toNat
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v380 : Index := Scalar.indexCast v2
  let c128_257 : Index := 128#32
  let c0_258 : Index := 0#32
  ![v380.toNat, 128, 0]
def k0_off8 (d0 : Dev nD) (c0_i32_47 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let v66 : BitVec 32 := Scalar.subi v8 c0_i32_47
  let c4_i32_48 : BitVec 32 := 4#32
  let c0_i32_49 : BitVec 32 := 0#32
  let v67 : BitVec 1 := Scalar.cmpi .eq c4_i32_48 c0_i32_49
  let c1_i32_50 : BitVec 32 := 1#32
  let v68 : BitVec 32 := Scalar.select v67 c1_i32_50 c4_i32_48
  let v69 : BitVec 32 := Scalar.remsi v66 v68
  let c0_i32_52 : BitVec 32 := 0#32
  let v71 : BitVec 1 := Scalar.cmpi .slt v69 c0_i32_52
  let c0_i32_53 : BitVec 32 := 0#32
  let v72 : BitVec 1 := Scalar.cmpi .slt v68 c0_i32_53
  let v73 : BitVec 1 := Scalar.xori v71 v72
  let c0_i32_51 : BitVec 32 := 0#32
  let v70 : BitVec 1 := Scalar.cmpi .ne v69 c0_i32_51
  let v74 : BitVec 1 := Scalar.andi v73 v70
  let v75 : BitVec 32 := Scalar.addi v69 v68
  let v76 : BitVec 32 := Scalar.select v74 v75 v69
  let v77 : BitVec 32 := Scalar.addi v7 v76
  let c4_i32_54 : BitVec 32 := 4#32
  let v78 : BitVec 1 := Scalar.cmpi .slt v77 c4_i32_54
  let c11_i32_55 : BitVec 32 := 11#32
  let v79 : BitVec 32 := Scalar.subi c11_i32_55 v77
  let v80 : BitVec 32 := Scalar.select v78 v77 v79
  let c128_i32_265 : BitVec 32 := 128#32
  let c0_i32_266 : BitVec 32 := 0#32
  ![v80.toNat, 128, 0]
def k0_dev8 (d0 : Dev nD) : Nat :=
  let c0_i32_264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let c1_i32_2 : BitVec 32 := 1#32
  let v9 : BitVec 32 := Scalar.addi v8 c1_i32_2
  let c4_i32_3 : BitVec 32 := 4#32
  let c0_i32_4 : BitVec 32 := 0#32
  let v10 : BitVec 1 := Scalar.cmpi .eq c4_i32_3 c0_i32_4
  let c1_i32_5 : BitVec 32 := 1#32
  let v11 : BitVec 32 := Scalar.select v10 c1_i32_5 c4_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.addi v7 v19
  let c4_i32_9 : BitVec 32 := 4#32
  let v21 : BitVec 1 := Scalar.cmpi .slt v20 c4_i32_9
  let c11_i32_10 : BitVec 32 := 11#32
  let v22 : BitVec 32 := Scalar.subi c11_i32_10 v20
  let v23 : BitVec 32 := Scalar.select v21 v20 v22
  let c1_i32_263 : BitVec 32 := 1#32
  let v384 : BitVec 32 := Scalar.muli v23 c1_i32_263
  let v385 : BitVec 32 := Scalar.addi c0_i32_264 v384
  v385.toNat
def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_273 : BitVec 32 := 128#32
  let c0_i32_274 : BitVec 32 := 0#32
  ![v2.toNat, 128, 0]
def k0_dev9 (d0 : Dev nD) : Nat :=
  let c0_i32_272 : BitVec 32 := 0#32
  let c7_i32 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v39 : BitVec 32 := Scalar.subi c7_i32 v5
  let c4_i32_20 : BitVec 32 := 4#32
  let v40 : BitVec 1 := Scalar.cmpi .slt v39 c4_i32_20
  let c11_i32_21 : BitVec 32 := 11#32
  let v41 : BitVec 32 := Scalar.subi c11_i32_21 v39
  let v42 : BitVec 32 := Scalar.select v40 v39 v41
  let c1_i32_271 : BitVec 32 := 1#32
  let v394 : BitVec 32 := Scalar.muli v42 c1_i32_271
  let v395 : BitVec 32 := Scalar.addi c0_i32_272 v394
  v395.toNat
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v410 : Index := Scalar.indexCast v2
  let c384_283 : Index := 384#32
  let c0_284 : Index := 0#32
  ![v410.toNat, 384, 0]
def k0_off11 (d0 : Dev nD) (c0_i32_123 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let v190 : BitVec 32 := Scalar.addi v8 c0_i32_123
  let c4_i32_124 : BitVec 32 := 4#32
  let c0_i32_125 : BitVec 32 := 0#32
  let v191 : BitVec 1 := Scalar.cmpi .eq c4_i32_124 c0_i32_125
  let c1_i32_126 : BitVec 32 := 1#32
  let v192 : BitVec 32 := Scalar.select v191 c1_i32_126 c4_i32_124
  let v193 : BitVec 32 := Scalar.remsi v190 v192
  let c0_i32_128 : BitVec 32 := 0#32
  let v195 : BitVec 1 := Scalar.cmpi .slt v193 c0_i32_128
  let c0_i32_129 : BitVec 32 := 0#32
  let v196 : BitVec 1 := Scalar.cmpi .slt v192 c0_i32_129
  let v197 : BitVec 1 := Scalar.xori v195 v196
  let c0_i32_127 : BitVec 32 := 0#32
  let v194 : BitVec 1 := Scalar.cmpi .ne v193 c0_i32_127
  let v198 : BitVec 1 := Scalar.andi v197 v194
  let v199 : BitVec 32 := Scalar.addi v193 v192
  let v200 : BitVec 32 := Scalar.select v198 v199 v193
  let v201 : BitVec 32 := Scalar.addi v7 v200
  let c4_i32_130 : BitVec 32 := 4#32
  let v202 : BitVec 1 := Scalar.cmpi .slt v201 c4_i32_130
  let c11_i32_131 : BitVec 32 := 11#32
  let v203 : BitVec 32 := Scalar.subi c11_i32_131 v201
  let v204 : BitVec 32 := Scalar.select v202 v201 v203
  let c384_i32_291 : BitVec 32 := 384#32
  let c0_i32_292 : BitVec 32 := 0#32
  ![v204.toNat, 384, 0]
def k0_dev10 (d0 : Dev nD) : Nat :=
  let c0_i32_290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let c1_i32_11 : BitVec 32 := 1#32
  let v24 : BitVec 32 := Scalar.subi v8 c1_i32_11
  let c4_i32_12 : BitVec 32 := 4#32
  let c0_i32_13 : BitVec 32 := 0#32
  let v25 : BitVec 1 := Scalar.cmpi .eq c4_i32_12 c0_i32_13
  let c1_i32_14 : BitVec 32 := 1#32
  let v26 : BitVec 32 := Scalar.select v25 c1_i32_14 c4_i32_12
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let v35 : BitVec 32 := Scalar.addi v7 v34
  let c4_i32_18 : BitVec 32 := 4#32
  let v36 : BitVec 1 := Scalar.cmpi .slt v35 c4_i32_18
  let c11_i32_19 : BitVec 32 := 11#32
  let v37 : BitVec 32 := Scalar.subi c11_i32_19 v35
  let v38 : BitVec 32 := Scalar.select v36 v35 v37
  let c1_i32_289 : BitVec 32 := 1#32
  let v414 : BitVec 32 := Scalar.muli v38 c1_i32_289
  let v415 : BitVec 32 := Scalar.addi c0_i32_290 v414
  v415.toNat
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c384_i32_299 : BitVec 32 := 384#32
  let c0_i32_300 : BitVec 32 := 0#32
  ![v2.toNat, 384, 0]
def k0_dev11 (d0 : Dev nD) : Nat :=
  let c0_i32_298 : BitVec 32 := 0#32
  let c7_i32 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v39 : BitVec 32 := Scalar.subi c7_i32 v5
  let c4_i32_20 : BitVec 32 := 4#32
  let v40 : BitVec 1 := Scalar.cmpi .slt v39 c4_i32_20
  let c11_i32_21 : BitVec 32 := 11#32
  let v41 : BitVec 32 := Scalar.subi c11_i32_21 v39
  let v42 : BitVec 32 := Scalar.select v40 v39 v41
  let c1_i32_297 : BitVec 32 := 1#32
  let v424 : BitVec 32 := Scalar.muli v42 c1_i32_297
  let v425 : BitVec 32 := Scalar.addi c0_i32_298 v424
  v425.toNat
def k0_off13 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v439 : Index := Scalar.indexCast v2
  let c0_307 : Index := 0#32
  let c0_308 : Index := 0#32
  ![v439.toNat, 0, 0]
def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v450 : BitVec 32 := Scalar.muli v2 c512_i32
  let c0_i32_313 : BitVec 32 := 0#32
  let v451 : BitVec 32 := Scalar.addi v450 c0_i32_313
  let v452 : Index := Scalar.indexCast v451
  let c0_314 : Index := 0#32
  ![v452.toNat, 0]
def k0_dev12 (d0 : Dev nD) : Nat :=
  let c0_i32_330 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let c1_i32_2 : BitVec 32 := 1#32
  let v9 : BitVec 32 := Scalar.addi v8 c1_i32_2
  let c4_i32_3 : BitVec 32 := 4#32
  let c0_i32_4 : BitVec 32 := 0#32
  let v10 : BitVec 1 := Scalar.cmpi .eq c4_i32_3 c0_i32_4
  let c1_i32_5 : BitVec 32 := 1#32
  let v11 : BitVec 32 := Scalar.select v10 c1_i32_5 c4_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.addi v7 v19
  let c4_i32_9 : BitVec 32 := 4#32
  let v21 : BitVec 1 := Scalar.cmpi .slt v20 c4_i32_9
  let c11_i32_10 : BitVec 32 := 11#32
  let v22 : BitVec 32 := Scalar.subi c11_i32_10 v20
  let v23 : BitVec 32 := Scalar.select v21 v20 v22
  let c1_i32_329 : BitVec 32 := 1#32
  let v462 : BitVec 32 := Scalar.muli v23 c1_i32_329
  let v463 : BitVec 32 := Scalar.addi c0_i32_330 v462
  v463.toNat
def k0_dev13 (d0 : Dev nD) : Nat :=
  let c0_i32_338 : BitVec 32 := 0#32
  let c7_i32 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v39 : BitVec 32 := Scalar.subi c7_i32 v5
  let c4_i32_20 : BitVec 32 := 4#32
  let v40 : BitVec 1 := Scalar.cmpi .slt v39 c4_i32_20
  let c11_i32_21 : BitVec 32 := 11#32
  let v41 : BitVec 32 := Scalar.subi c11_i32_21 v39
  let v42 : BitVec 32 := Scalar.select v40 v39 v41
  let c1_i32_337 : BitVec 32 := 1#32
  let v472 : BitVec 32 := Scalar.muli v42 c1_i32_337
  let v473 : BitVec 32 := Scalar.addi c0_i32_338 v472
  v473.toNat
def k0_dev14 (d0 : Dev nD) : Nat :=
  let c0_i32_358 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let c1_i32_2 : BitVec 32 := 1#32
  let v9 : BitVec 32 := Scalar.addi v8 c1_i32_2
  let c4_i32_3 : BitVec 32 := 4#32
  let c0_i32_4 : BitVec 32 := 0#32
  let v10 : BitVec 1 := Scalar.cmpi .eq c4_i32_3 c0_i32_4
  let c1_i32_5 : BitVec 32 := 1#32
  let v11 : BitVec 32 := Scalar.select v10 c1_i32_5 c4_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.addi v7 v19
  let c4_i32_9 : BitVec 32 := 4#32
  let v21 : BitVec 1 := Scalar.cmpi .slt v20 c4_i32_9
  let c11_i32_10 : BitVec 32 := 11#32
  let v22 : BitVec 32 := Scalar.subi c11_i32_10 v20
  let v23 : BitVec 32 := Scalar.select v21 v20 v22
  let c1_i32_357 : BitVec 32 := 1#32
  let v490 : BitVec 32 := Scalar.muli v23 c1_i32_357
  let v491 : BitVec 32 := Scalar.addi c0_i32_358 v490
  v491.toNat
def k0_dev15 (d0 : Dev nD) : Nat :=
  let c0_i32_365 : BitVec 32 := 0#32
  let c7_i32 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v39 : BitVec 32 := Scalar.subi c7_i32 v5
  let c4_i32_20 : BitVec 32 := 4#32
  let v40 : BitVec 1 := Scalar.cmpi .slt v39 c4_i32_20
  let c11_i32_21 : BitVec 32 := 11#32
  let v41 : BitVec 32 := Scalar.subi c11_i32_21 v39
  let v42 : BitVec 32 := Scalar.select v40 v39 v41
  let c1_i32_364 : BitVec 32 := 1#32
  let v500 : BitVec 32 := Scalar.muli v42 c1_i32_364
  let v501 : BitVec 32 := Scalar.addi c0_i32_365 v500
  v501.toNat
def k0_dev16 (d0 : Dev nD) : Nat :=
  let c0_i32_385 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let c1_i32_11 : BitVec 32 := 1#32
  let v24 : BitVec 32 := Scalar.subi v8 c1_i32_11
  let c4_i32_12 : BitVec 32 := 4#32
  let c0_i32_13 : BitVec 32 := 0#32
  let v25 : BitVec 1 := Scalar.cmpi .eq c4_i32_12 c0_i32_13
  let c1_i32_14 : BitVec 32 := 1#32
  let v26 : BitVec 32 := Scalar.select v25 c1_i32_14 c4_i32_12
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let v35 : BitVec 32 := Scalar.addi v7 v34
  let c4_i32_18 : BitVec 32 := 4#32
  let v36 : BitVec 1 := Scalar.cmpi .slt v35 c4_i32_18
  let c11_i32_19 : BitVec 32 := 11#32
  let v37 : BitVec 32 := Scalar.subi c11_i32_19 v35
  let v38 : BitVec 32 := Scalar.select v36 v35 v37
  let c1_i32_384 : BitVec 32 := 1#32
  let v518 : BitVec 32 := Scalar.muli v38 c1_i32_384
  let v519 : BitVec 32 := Scalar.addi c0_i32_385 v518
  v519.toNat
def k0_dev17 (d0 : Dev nD) : Nat :=
  let c0_i32_392 : BitVec 32 := 0#32
  let c7_i32 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v39 : BitVec 32 := Scalar.subi c7_i32 v5
  let c4_i32_20 : BitVec 32 := 4#32
  let v40 : BitVec 1 := Scalar.cmpi .slt v39 c4_i32_20
  let c11_i32_21 : BitVec 32 := 11#32
  let v41 : BitVec 32 := Scalar.subi c11_i32_21 v39
  let v42 : BitVec 32 := Scalar.select v40 v39 v41
  let c1_i32_391 : BitVec 32 := 1#32
  let v528 : BitVec 32 := Scalar.muli v42 c1_i32_391
  let v529 : BitVec 32 := Scalar.addi c0_i32_392 v528
  v529.toNat
def k0_dev18 (d0 : Dev nD) : Nat :=
  let c0_i32_412 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let c1_i32_11 : BitVec 32 := 1#32
  let v24 : BitVec 32 := Scalar.subi v8 c1_i32_11
  let c4_i32_12 : BitVec 32 := 4#32
  let c0_i32_13 : BitVec 32 := 0#32
  let v25 : BitVec 1 := Scalar.cmpi .eq c4_i32_12 c0_i32_13
  let c1_i32_14 : BitVec 32 := 1#32
  let v26 : BitVec 32 := Scalar.select v25 c1_i32_14 c4_i32_12
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let v35 : BitVec 32 := Scalar.addi v7 v34
  let c4_i32_18 : BitVec 32 := 4#32
  let v36 : BitVec 1 := Scalar.cmpi .slt v35 c4_i32_18
  let c11_i32_19 : BitVec 32 := 11#32
  let v37 : BitVec 32 := Scalar.subi c11_i32_19 v35
  let v38 : BitVec 32 := Scalar.select v36 v35 v37
  let c1_i32_411 : BitVec 32 := 1#32
  let v546 : BitVec 32 := Scalar.muli v38 c1_i32_411
  let v547 : BitVec 32 := Scalar.addi c0_i32_412 v546
  v547.toNat
def k0_dev19 (d0 : Dev nD) : Nat :=
  let c0_i32_420 : BitVec 32 := 0#32
  let c7_i32 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v39 : BitVec 32 := Scalar.subi c7_i32 v5
  let c4_i32_20 : BitVec 32 := 4#32
  let v40 : BitVec 1 := Scalar.cmpi .slt v39 c4_i32_20
  let c11_i32_21 : BitVec 32 := 11#32
  let v41 : BitVec 32 := Scalar.subi c11_i32_21 v39
  let v42 : BitVec 32 := Scalar.select v40 v39 v41
  let c1_i32_419 : BitVec 32 := 1#32
  let v556 : BitVec 32 := Scalar.muli v42 c1_i32_419
  let v557 : BitVec 32 := Scalar.addi c0_i32_420 v556
  v557.toNat
def k0_off15 (d0 : Dev nD) (c1_i32_56 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let v81 : BitVec 32 := Scalar.subi v8 c1_i32_56
  let c4_i32_57 : BitVec 32 := 4#32
  let c0_i32_58 : BitVec 32 := 0#32
  let v82 : BitVec 1 := Scalar.cmpi .eq c4_i32_57 c0_i32_58
  let c1_i32_59 : BitVec 32 := 1#32
  let v83 : BitVec 32 := Scalar.select v82 c1_i32_59 c4_i32_57
  let v84 : BitVec 32 := Scalar.remsi v81 v83
  let c0_i32_61 : BitVec 32 := 0#32
  let v86 : BitVec 1 := Scalar.cmpi .slt v84 c0_i32_61
  let c0_i32_62 : BitVec 32 := 0#32
  let v87 : BitVec 1 := Scalar.cmpi .slt v83 c0_i32_62
  let v88 : BitVec 1 := Scalar.xori v86 v87
  let c0_i32_60 : BitVec 32 := 0#32
  let v85 : BitVec 1 := Scalar.cmpi .ne v84 c0_i32_60
  let v89 : BitVec 1 := Scalar.andi v88 v85
  let v90 : BitVec 32 := Scalar.addi v84 v83
  let v91 : BitVec 32 := Scalar.select v89 v90 v84
  let v92 : BitVec 32 := Scalar.addi v7 v91
  let c4_i32_63 : BitVec 32 := 4#32
  let v93 : BitVec 1 := Scalar.cmpi .slt v92 c4_i32_63
  let c11_i32_64 : BitVec 32 := 11#32
  let v94 : BitVec 32 := Scalar.subi c11_i32_64 v92
  let v95 : BitVec 32 := Scalar.select v93 v92 v94
  let v566 : Index := Scalar.indexCast v95
  let c0_425 : Index := 0#32
  let c0_426 : Index := 0#32
  ![v566.toNat, 0, 0]
def k0_off16 (d0 : Dev nD) (c1_i32_56 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let v81 : BitVec 32 := Scalar.subi v8 c1_i32_56
  let c4_i32_57 : BitVec 32 := 4#32
  let c0_i32_58 : BitVec 32 := 0#32
  let v82 : BitVec 1 := Scalar.cmpi .eq c4_i32_57 c0_i32_58
  let c1_i32_59 : BitVec 32 := 1#32
  let v83 : BitVec 32 := Scalar.select v82 c1_i32_59 c4_i32_57
  let v84 : BitVec 32 := Scalar.remsi v81 v83
  let c0_i32_61 : BitVec 32 := 0#32
  let v86 : BitVec 1 := Scalar.cmpi .slt v84 c0_i32_61
  let c0_i32_62 : BitVec 32 := 0#32
  let v87 : BitVec 1 := Scalar.cmpi .slt v83 c0_i32_62
  let v88 : BitVec 1 := Scalar.xori v86 v87
  let c0_i32_60 : BitVec 32 := 0#32
  let v85 : BitVec 1 := Scalar.cmpi .ne v84 c0_i32_60
  let v89 : BitVec 1 := Scalar.andi v88 v85
  let v90 : BitVec 32 := Scalar.addi v84 v83
  let v91 : BitVec 32 := Scalar.select v89 v90 v84
  let v92 : BitVec 32 := Scalar.addi v7 v91
  let c4_i32_63 : BitVec 32 := 4#32
  let v93 : BitVec 1 := Scalar.cmpi .slt v92 c4_i32_63
  let c11_i32_64 : BitVec 32 := 11#32
  let v94 : BitVec 32 := Scalar.subi c11_i32_64 v92
  let v95 : BitVec 32 := Scalar.select v93 v92 v94
  let c512_i32_432 : BitVec 32 := 512#32
  let v577 : BitVec 32 := Scalar.muli v95 c512_i32_432
  let c0_i32_433 : BitVec 32 := 0#32
  let v578 : BitVec 32 := Scalar.addi v577 c0_i32_433
  let v579 : Index := Scalar.indexCast v578
  let c0_434 : Index := 0#32
  ![v579.toNat, 0]
def k0_off17 (d0 : Dev nD) (c1_i32_132 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let v205 : BitVec 32 := Scalar.addi v8 c1_i32_132
  let c4_i32_133 : BitVec 32 := 4#32
  let c0_i32_134 : BitVec 32 := 0#32
  let v206 : BitVec 1 := Scalar.cmpi .eq c4_i32_133 c0_i32_134
  let c1_i32_135 : BitVec 32 := 1#32
  let v207 : BitVec 32 := Scalar.select v206 c1_i32_135 c4_i32_133
  let v208 : BitVec 32 := Scalar.remsi v205 v207
  let c0_i32_137 : BitVec 32 := 0#32
  let v210 : BitVec 1 := Scalar.cmpi .slt v208 c0_i32_137
  let c0_i32_138 : BitVec 32 := 0#32
  let v211 : BitVec 1 := Scalar.cmpi .slt v207 c0_i32_138
  let v212 : BitVec 1 := Scalar.xori v210 v211
  let c0_i32_136 : BitVec 32 := 0#32
  let v209 : BitVec 1 := Scalar.cmpi .ne v208 c0_i32_136
  let v213 : BitVec 1 := Scalar.andi v212 v209
  let v214 : BitVec 32 := Scalar.addi v208 v207
  let v215 : BitVec 32 := Scalar.select v213 v214 v208
  let v216 : BitVec 32 := Scalar.addi v7 v215
  let c4_i32_139 : BitVec 32 := 4#32
  let v217 : BitVec 1 := Scalar.cmpi .slt v216 c4_i32_139
  let c11_i32_140 : BitVec 32 := 11#32
  let v218 : BitVec 32 := Scalar.subi c11_i32_140 v216
  let v219 : BitVec 32 := Scalar.select v217 v216 v218
  let v581 : Index := Scalar.indexCast v219
  let c256_435 : Index := 256#32
  let c0_436 : Index := 0#32
  ![v581.toNat, 256, 0]
def k0_off18 (d0 : Dev nD) (c1_i32_132 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let v205 : BitVec 32 := Scalar.addi v8 c1_i32_132
  let c4_i32_133 : BitVec 32 := 4#32
  let c0_i32_134 : BitVec 32 := 0#32
  let v206 : BitVec 1 := Scalar.cmpi .eq c4_i32_133 c0_i32_134
  let c1_i32_135 : BitVec 32 := 1#32
  let v207 : BitVec 32 := Scalar.select v206 c1_i32_135 c4_i32_133
  let v208 : BitVec 32 := Scalar.remsi v205 v207
  let c0_i32_137 : BitVec 32 := 0#32
  let v210 : BitVec 1 := Scalar.cmpi .slt v208 c0_i32_137
  let c0_i32_138 : BitVec 32 := 0#32
  let v211 : BitVec 1 := Scalar.cmpi .slt v207 c0_i32_138
  let v212 : BitVec 1 := Scalar.xori v210 v211
  let c0_i32_136 : BitVec 32 := 0#32
  let v209 : BitVec 1 := Scalar.cmpi .ne v208 c0_i32_136
  let v213 : BitVec 1 := Scalar.andi v212 v209
  let v214 : BitVec 32 := Scalar.addi v208 v207
  let v215 : BitVec 32 := Scalar.select v213 v214 v208
  let v216 : BitVec 32 := Scalar.addi v7 v215
  let c4_i32_139 : BitVec 32 := 4#32
  let v217 : BitVec 1 := Scalar.cmpi .slt v216 c4_i32_139
  let c11_i32_140 : BitVec 32 := 11#32
  let v218 : BitVec 32 := Scalar.subi c11_i32_140 v216
  let v219 : BitVec 32 := Scalar.select v217 v216 v218
  let c512_i32_442 : BitVec 32 := 512#32
  let v592 : BitVec 32 := Scalar.muli v219 c512_i32_442
  let c256_i32_443 : BitVec 32 := 256#32
  let v593 : BitVec 32 := Scalar.addi v592 c256_i32_443
  let v594 : Index := Scalar.indexCast v593
  let c0_444 : Index := 0#32
  ![v594.toNat, 0]
def k0_off19 (d0 : Dev nD) : Fin 3 → Nat :=
  let c7_i32 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v39 : BitVec 32 := Scalar.subi c7_i32 v5
  let c4_i32_20 : BitVec 32 := 4#32
  let v40 : BitVec 1 := Scalar.cmpi .slt v39 c4_i32_20
  let c11_i32_21 : BitVec 32 := 11#32
  let v41 : BitVec 32 := Scalar.subi c11_i32_21 v39
  let v42 : BitVec 32 := Scalar.select v40 v39 v41
  let c0_i32_449 : BitVec 32 := 0#32
  let c0_i32_450 : BitVec 32 := 0#32
  ![v42.toNat, 0, 0]
def k0_off20 (d0 : Dev nD) (c0_i32_83 : BitVec 32) : Fin 3 → Nat :=
  let c7_i32_90 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let v126 : BitVec 32 := Scalar.subi v8 c0_i32_83
  let c4_i32_84 : BitVec 32 := 4#32
  let c0_i32_85 : BitVec 32 := 0#32
  let v127 : BitVec 1 := Scalar.cmpi .eq c4_i32_84 c0_i32_85
  let c1_i32_86 : BitVec 32 := 1#32
  let v128 : BitVec 32 := Scalar.select v127 c1_i32_86 c4_i32_84
  let v129 : BitVec 32 := Scalar.remsi v126 v128
  let c0_i32_88 : BitVec 32 := 0#32
  let v131 : BitVec 1 := Scalar.cmpi .slt v129 c0_i32_88
  let c0_i32_89 : BitVec 32 := 0#32
  let v132 : BitVec 1 := Scalar.cmpi .slt v128 c0_i32_89
  let v133 : BitVec 1 := Scalar.xori v131 v132
  let c0_i32_87 : BitVec 32 := 0#32
  let v130 : BitVec 1 := Scalar.cmpi .ne v129 c0_i32_87
  let v134 : BitVec 1 := Scalar.andi v133 v130
  let v135 : BitVec 32 := Scalar.addi v129 v128
  let v136 : BitVec 32 := Scalar.select v134 v135 v129
  let v137 : BitVec 32 := Scalar.addi v7 v136
  let v138 : BitVec 32 := Scalar.subi c7_i32_90 v137
  let c4_i32_91 : BitVec 32 := 4#32
  let v139 : BitVec 1 := Scalar.cmpi .slt v138 c4_i32_91
  let c11_i32_92 : BitVec 32 := 11#32
  let v140 : BitVec 32 := Scalar.subi c11_i32_92 v138
  let v141 : BitVec 32 := Scalar.select v139 v138 v140
  let c0_i32_459 : BitVec 32 := 0#32
  let c0_i32_460 : BitVec 32 := 0#32
  ![v141.toNat, 0, 0]
def k0_off20_at (r : Fin 3) : BitVec 32 :=
  if r.val < 1 then
    0#32
  else
    if r.val < 2 then
      1#32
    else
      3#32
def k0_dev20 (d0 : Dev nD) : Nat :=
  let c0_i32_458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let c1_i32_2 : BitVec 32 := 1#32
  let v9 : BitVec 32 := Scalar.addi v8 c1_i32_2
  let c4_i32_3 : BitVec 32 := 4#32
  let c0_i32_4 : BitVec 32 := 0#32
  let v10 : BitVec 1 := Scalar.cmpi .eq c4_i32_3 c0_i32_4
  let c1_i32_5 : BitVec 32 := 1#32
  let v11 : BitVec 32 := Scalar.select v10 c1_i32_5 c4_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.addi v7 v19
  let c4_i32_9 : BitVec 32 := 4#32
  let v21 : BitVec 1 := Scalar.cmpi .slt v20 c4_i32_9
  let c11_i32_10 : BitVec 32 := 11#32
  let v22 : BitVec 32 := Scalar.subi c11_i32_10 v20
  let v23 : BitVec 32 := Scalar.select v21 v20 v22
  let c1_i32_457 : BitVec 32 := 1#32
  let v604 : BitVec 32 := Scalar.muli v23 c1_i32_457
  let v605 : BitVec 32 := Scalar.addi c0_i32_458 v604
  v605.toNat
def k0_off21 (d0 : Dev nD) : Fin 3 → Nat :=
  let c7_i32 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v39 : BitVec 32 := Scalar.subi c7_i32 v5
  let c4_i32_20 : BitVec 32 := 4#32
  let v40 : BitVec 1 := Scalar.cmpi .slt v39 c4_i32_20
  let c11_i32_21 : BitVec 32 := 11#32
  let v41 : BitVec 32 := Scalar.subi c11_i32_21 v39
  let v42 : BitVec 32 := Scalar.select v40 v39 v41
  let c128_i32_467 : BitVec 32 := 128#32
  let c0_i32_468 : BitVec 32 := 0#32
  ![v42.toNat, 128, 0]
def k0_off22 (d0 : Dev nD) (c0_i32_83 : BitVec 32) : Fin 3 → Nat :=
  let c7_i32_90 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let v126 : BitVec 32 := Scalar.subi v8 c0_i32_83
  let c4_i32_84 : BitVec 32 := 4#32
  let c0_i32_85 : BitVec 32 := 0#32
  let v127 : BitVec 1 := Scalar.cmpi .eq c4_i32_84 c0_i32_85
  let c1_i32_86 : BitVec 32 := 1#32
  let v128 : BitVec 32 := Scalar.select v127 c1_i32_86 c4_i32_84
  let v129 : BitVec 32 := Scalar.remsi v126 v128
  let c0_i32_88 : BitVec 32 := 0#32
  let v131 : BitVec 1 := Scalar.cmpi .slt v129 c0_i32_88
  let c0_i32_89 : BitVec 32 := 0#32
  let v132 : BitVec 1 := Scalar.cmpi .slt v128 c0_i32_89
  let v133 : BitVec 1 := Scalar.xori v131 v132
  let c0_i32_87 : BitVec 32 := 0#32
  let v130 : BitVec 1 := Scalar.cmpi .ne v129 c0_i32_87
  let v134 : BitVec 1 := Scalar.andi v133 v130
  let v135 : BitVec 32 := Scalar.addi v129 v128
  let v136 : BitVec 32 := Scalar.select v134 v135 v129
  let v137 : BitVec 32 := Scalar.addi v7 v136
  let v138 : BitVec 32 := Scalar.subi c7_i32_90 v137
  let c4_i32_91 : BitVec 32 := 4#32
  let v139 : BitVec 1 := Scalar.cmpi .slt v138 c4_i32_91
  let c11_i32_92 : BitVec 32 := 11#32
  let v140 : BitVec 32 := Scalar.subi c11_i32_92 v138
  let v141 : BitVec 32 := Scalar.select v139 v138 v140
  let c128_i32_477 : BitVec 32 := 128#32
  let c0_i32_478 : BitVec 32 := 0#32
  ![v141.toNat, 128, 0]
def k0_off22_at (r : Fin 3) : BitVec 32 :=
  if r.val < 1 then
    0#32
  else
    if r.val < 2 then
      1#32
    else
      3#32
def k0_dev21 (d0 : Dev nD) : Nat :=
  let c0_i32_476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let c1_i32_2 : BitVec 32 := 1#32
  let v9 : BitVec 32 := Scalar.addi v8 c1_i32_2
  let c4_i32_3 : BitVec 32 := 4#32
  let c0_i32_4 : BitVec 32 := 0#32
  let v10 : BitVec 1 := Scalar.cmpi .eq c4_i32_3 c0_i32_4
  let c1_i32_5 : BitVec 32 := 1#32
  let v11 : BitVec 32 := Scalar.select v10 c1_i32_5 c4_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.addi v7 v19
  let c4_i32_9 : BitVec 32 := 4#32
  let v21 : BitVec 1 := Scalar.cmpi .slt v20 c4_i32_9
  let c11_i32_10 : BitVec 32 := 11#32
  let v22 : BitVec 32 := Scalar.subi c11_i32_10 v20
  let v23 : BitVec 32 := Scalar.select v21 v20 v22
  let c1_i32_475 : BitVec 32 := 1#32
  let v622 : BitVec 32 := Scalar.muli v23 c1_i32_475
  let v623 : BitVec 32 := Scalar.addi c0_i32_476 v622
  v623.toNat
def k0_off23 (d0 : Dev nD) : Fin 3 → Nat :=
  let c7_i32 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v39 : BitVec 32 := Scalar.subi c7_i32 v5
  let c4_i32_20 : BitVec 32 := 4#32
  let v40 : BitVec 1 := Scalar.cmpi .slt v39 c4_i32_20
  let c11_i32_21 : BitVec 32 := 11#32
  let v41 : BitVec 32 := Scalar.subi c11_i32_21 v39
  let v42 : BitVec 32 := Scalar.select v40 v39 v41
  let c256_i32_485 : BitVec 32 := 256#32
  let c0_i32_486 : BitVec 32 := 0#32
  ![v42.toNat, 256, 0]
def k0_off24 (d0 : Dev nD) (c0_i32_159 : BitVec 32) : Fin 3 → Nat :=
  let c7_i32_166 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let v250 : BitVec 32 := Scalar.addi v8 c0_i32_159
  let c4_i32_160 : BitVec 32 := 4#32
  let c0_i32_161 : BitVec 32 := 0#32
  let v251 : BitVec 1 := Scalar.cmpi .eq c4_i32_160 c0_i32_161
  let c1_i32_162 : BitVec 32 := 1#32
  let v252 : BitVec 32 := Scalar.select v251 c1_i32_162 c4_i32_160
  let v253 : BitVec 32 := Scalar.remsi v250 v252
  let c0_i32_164 : BitVec 32 := 0#32
  let v255 : BitVec 1 := Scalar.cmpi .slt v253 c0_i32_164
  let c0_i32_165 : BitVec 32 := 0#32
  let v256 : BitVec 1 := Scalar.cmpi .slt v252 c0_i32_165
  let v257 : BitVec 1 := Scalar.xori v255 v256
  let c0_i32_163 : BitVec 32 := 0#32
  let v254 : BitVec 1 := Scalar.cmpi .ne v253 c0_i32_163
  let v258 : BitVec 1 := Scalar.andi v257 v254
  let v259 : BitVec 32 := Scalar.addi v253 v252
  let v260 : BitVec 32 := Scalar.select v258 v259 v253
  let v261 : BitVec 32 := Scalar.addi v7 v260
  let v262 : BitVec 32 := Scalar.subi c7_i32_166 v261
  let c4_i32_167 : BitVec 32 := 4#32
  let v263 : BitVec 1 := Scalar.cmpi .slt v262 c4_i32_167
  let c11_i32_168 : BitVec 32 := 11#32
  let v264 : BitVec 32 := Scalar.subi c11_i32_168 v262
  let v265 : BitVec 32 := Scalar.select v263 v262 v264
  let c256_i32_495 : BitVec 32 := 256#32
  let c0_i32_496 : BitVec 32 := 0#32
  ![v265.toNat, 256, 0]
def k0_off24_at (r : Fin 3) : BitVec 32 :=
  if r.val < 1 then
    0#32
  else
    if r.val < 2 then
      1#32
    else
      3#32
def k0_dev22 (d0 : Dev nD) : Nat :=
  let c0_i32_494 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let c1_i32_11 : BitVec 32 := 1#32
  let v24 : BitVec 32 := Scalar.subi v8 c1_i32_11
  let c4_i32_12 : BitVec 32 := 4#32
  let c0_i32_13 : BitVec 32 := 0#32
  let v25 : BitVec 1 := Scalar.cmpi .eq c4_i32_12 c0_i32_13
  let c1_i32_14 : BitVec 32 := 1#32
  let v26 : BitVec 32 := Scalar.select v25 c1_i32_14 c4_i32_12
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let v35 : BitVec 32 := Scalar.addi v7 v34
  let c4_i32_18 : BitVec 32 := 4#32
  let v36 : BitVec 1 := Scalar.cmpi .slt v35 c4_i32_18
  let c11_i32_19 : BitVec 32 := 11#32
  let v37 : BitVec 32 := Scalar.subi c11_i32_19 v35
  let v38 : BitVec 32 := Scalar.select v36 v35 v37
  let c1_i32_493 : BitVec 32 := 1#32
  let v640 : BitVec 32 := Scalar.muli v38 c1_i32_493
  let v641 : BitVec 32 := Scalar.addi c0_i32_494 v640
  v641.toNat
def k0_off25 (d0 : Dev nD) : Fin 3 → Nat :=
  let c7_i32 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v39 : BitVec 32 := Scalar.subi c7_i32 v5
  let c4_i32_20 : BitVec 32 := 4#32
  let v40 : BitVec 1 := Scalar.cmpi .slt v39 c4_i32_20
  let c11_i32_21 : BitVec 32 := 11#32
  let v41 : BitVec 32 := Scalar.subi c11_i32_21 v39
  let v42 : BitVec 32 := Scalar.select v40 v39 v41
  let c384_i32_503 : BitVec 32 := 384#32
  let c0_i32_504 : BitVec 32 := 0#32
  ![v42.toNat, 384, 0]
def k0_off26 (d0 : Dev nD) (c0_i32_159 : BitVec 32) : Fin 3 → Nat :=
  let c7_i32_166 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let v250 : BitVec 32 := Scalar.addi v8 c0_i32_159
  let c4_i32_160 : BitVec 32 := 4#32
  let c0_i32_161 : BitVec 32 := 0#32
  let v251 : BitVec 1 := Scalar.cmpi .eq c4_i32_160 c0_i32_161
  let c1_i32_162 : BitVec 32 := 1#32
  let v252 : BitVec 32 := Scalar.select v251 c1_i32_162 c4_i32_160
  let v253 : BitVec 32 := Scalar.remsi v250 v252
  let c0_i32_164 : BitVec 32 := 0#32
  let v255 : BitVec 1 := Scalar.cmpi .slt v253 c0_i32_164
  let c0_i32_165 : BitVec 32 := 0#32
  let v256 : BitVec 1 := Scalar.cmpi .slt v252 c0_i32_165
  let v257 : BitVec 1 := Scalar.xori v255 v256
  let c0_i32_163 : BitVec 32 := 0#32
  let v254 : BitVec 1 := Scalar.cmpi .ne v253 c0_i32_163
  let v258 : BitVec 1 := Scalar.andi v257 v254
  let v259 : BitVec 32 := Scalar.addi v253 v252
  let v260 : BitVec 32 := Scalar.select v258 v259 v253
  let v261 : BitVec 32 := Scalar.addi v7 v260
  let v262 : BitVec 32 := Scalar.subi c7_i32_166 v261
  let c4_i32_167 : BitVec 32 := 4#32
  let v263 : BitVec 1 := Scalar.cmpi .slt v262 c4_i32_167
  let c11_i32_168 : BitVec 32 := 11#32
  let v264 : BitVec 32 := Scalar.subi c11_i32_168 v262
  let v265 : BitVec 32 := Scalar.select v263 v262 v264
  let c384_i32_513 : BitVec 32 := 384#32
  let c0_i32_514 : BitVec 32 := 0#32
  ![v265.toNat, 384, 0]
def k0_off26_at (r : Fin 3) : BitVec 32 :=
  if r.val < 1 then
    0#32
  else
    if r.val < 2 then
      1#32
    else
      3#32
def k0_dev23 (d0 : Dev nD) : Nat :=
  let c0_i32_512 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let c1_i32_11 : BitVec 32 := 1#32
  let v24 : BitVec 32 := Scalar.subi v8 c1_i32_11
  let c4_i32_12 : BitVec 32 := 4#32
  let c0_i32_13 : BitVec 32 := 0#32
  let v25 : BitVec 1 := Scalar.cmpi .eq c4_i32_12 c0_i32_13
  let c1_i32_14 : BitVec 32 := 1#32
  let v26 : BitVec 32 := Scalar.select v25 c1_i32_14 c4_i32_12
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let v35 : BitVec 32 := Scalar.addi v7 v34
  let c4_i32_18 : BitVec 32 := 4#32
  let v36 : BitVec 1 := Scalar.cmpi .slt v35 c4_i32_18
  let c11_i32_19 : BitVec 32 := 11#32
  let v37 : BitVec 32 := Scalar.subi c11_i32_19 v35
  let v38 : BitVec 32 := Scalar.select v36 v35 v37
  let c1_i32_511 : BitVec 32 := 1#32
  let v658 : BitVec 32 := Scalar.muli v38 c1_i32_511
  let v659 : BitVec 32 := Scalar.addi c0_i32_512 v658
  v659.toNat
def k0_off27 (d0 : Dev nD) : Fin 3 → Nat :=
  let c7_i32 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v39 : BitVec 32 := Scalar.subi c7_i32 v5
  let c4_i32_20 : BitVec 32 := 4#32
  let v40 : BitVec 1 := Scalar.cmpi .slt v39 c4_i32_20
  let c11_i32_21 : BitVec 32 := 11#32
  let v41 : BitVec 32 := Scalar.subi c11_i32_21 v39
  let v42 : BitVec 32 := Scalar.select v40 v39 v41
  let v668 : Index := Scalar.indexCast v42
  let c0_517 : Index := 0#32
  let c0_518 : Index := 0#32
  ![v668.toNat, 0, 0]
def k0_off28 (d0 : Dev nD) : Fin 2 → Nat :=
  let c7_i32 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v39 : BitVec 32 := Scalar.subi c7_i32 v5
  let c4_i32_20 : BitVec 32 := 4#32
  let v40 : BitVec 1 := Scalar.cmpi .slt v39 c4_i32_20
  let c11_i32_21 : BitVec 32 := 11#32
  let v41 : BitVec 32 := Scalar.subi c11_i32_21 v39
  let v42 : BitVec 32 := Scalar.select v40 v39 v41
  let c512_i32_524 : BitVec 32 := 512#32
  let v679 : BitVec 32 := Scalar.muli v42 c512_i32_524
  let c0_i32_525 : BitVec 32 := 0#32
  let v680 : BitVec 32 := Scalar.addi v679 c0_i32_525
  let v681 : Index := Scalar.indexCast v680
  let c0_526 : Index := 0#32
  ![v681.toNat, 0]
def k0_dev24 (d0 : Dev nD) : Nat :=
  let c0_i32_542 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let c1_i32_2 : BitVec 32 := 1#32
  let v9 : BitVec 32 := Scalar.addi v8 c1_i32_2
  let c4_i32_3 : BitVec 32 := 4#32
  let c0_i32_4 : BitVec 32 := 0#32
  let v10 : BitVec 1 := Scalar.cmpi .eq c4_i32_3 c0_i32_4
  let c1_i32_5 : BitVec 32 := 1#32
  let v11 : BitVec 32 := Scalar.select v10 c1_i32_5 c4_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.addi v7 v19
  let c4_i32_9 : BitVec 32 := 4#32
  let v21 : BitVec 1 := Scalar.cmpi .slt v20 c4_i32_9
  let c11_i32_10 : BitVec 32 := 11#32
  let v22 : BitVec 32 := Scalar.subi c11_i32_10 v20
  let v23 : BitVec 32 := Scalar.select v21 v20 v22
  let c1_i32_541 : BitVec 32 := 1#32
  let v691 : BitVec 32 := Scalar.muli v23 c1_i32_541
  let v692 : BitVec 32 := Scalar.addi c0_i32_542 v691
  v692.toNat
def k0_dev25 (d0 : Dev nD) : Nat :=
  let c0_i32_562 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let c1_i32_2 : BitVec 32 := 1#32
  let v9 : BitVec 32 := Scalar.addi v8 c1_i32_2
  let c4_i32_3 : BitVec 32 := 4#32
  let c0_i32_4 : BitVec 32 := 0#32
  let v10 : BitVec 1 := Scalar.cmpi .eq c4_i32_3 c0_i32_4
  let c1_i32_5 : BitVec 32 := 1#32
  let v11 : BitVec 32 := Scalar.select v10 c1_i32_5 c4_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.addi v7 v19
  let c4_i32_9 : BitVec 32 := 4#32
  let v21 : BitVec 1 := Scalar.cmpi .slt v20 c4_i32_9
  let c11_i32_10 : BitVec 32 := 11#32
  let v22 : BitVec 32 := Scalar.subi c11_i32_10 v20
  let v23 : BitVec 32 := Scalar.select v21 v20 v22
  let c1_i32_561 : BitVec 32 := 1#32
  let v709 : BitVec 32 := Scalar.muli v23 c1_i32_561
  let v710 : BitVec 32 := Scalar.addi c0_i32_562 v709
  v710.toNat
def k0_off29 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let c2_i32_65 : BitVec 32 := 2#32
  let v96 : BitVec 32 := Scalar.subi v8 c2_i32_65
  let c4_i32_66 : BitVec 32 := 4#32
  let c0_i32_67 : BitVec 32 := 0#32
  let v97 : BitVec 1 := Scalar.cmpi .eq c4_i32_66 c0_i32_67
  let c1_i32_68 : BitVec 32 := 1#32
  let v98 : BitVec 32 := Scalar.select v97 c1_i32_68 c4_i32_66
  let v99 : BitVec 32 := Scalar.remsi v96 v98
  let c0_i32_70 : BitVec 32 := 0#32
  let v101 : BitVec 1 := Scalar.cmpi .slt v99 c0_i32_70
  let c0_i32_71 : BitVec 32 := 0#32
  let v102 : BitVec 1 := Scalar.cmpi .slt v98 c0_i32_71
  let v103 : BitVec 1 := Scalar.xori v101 v102
  let c0_i32_69 : BitVec 32 := 0#32
  let v100 : BitVec 1 := Scalar.cmpi .ne v99 c0_i32_69
  let v104 : BitVec 1 := Scalar.andi v103 v100
  let v105 : BitVec 32 := Scalar.addi v99 v98
  let v106 : BitVec 32 := Scalar.select v104 v105 v99
  let v107 : BitVec 32 := Scalar.addi v7 v106
  let c4_i32_72 : BitVec 32 := 4#32
  let v108 : BitVec 1 := Scalar.cmpi .slt v107 c4_i32_72
  let c11_i32_73 : BitVec 32 := 11#32
  let v109 : BitVec 32 := Scalar.subi c11_i32_73 v107
  let v110 : BitVec 32 := Scalar.select v108 v107 v109
  let c160_i32 : BitVec 32 := 160#32
  let c0_i32_571 : BitVec 32 := 0#32
  ![v110.toNat, 160, 0]
def k0_dev26 (d0 : Dev nD) : Nat :=
  let c0_i32_570 : BitVec 32 := 0#32
  let c7_i32 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v39 : BitVec 32 := Scalar.subi c7_i32 v5
  let c4_i32_20 : BitVec 32 := 4#32
  let v40 : BitVec 1 := Scalar.cmpi .slt v39 c4_i32_20
  let c11_i32_21 : BitVec 32 := 11#32
  let v41 : BitVec 32 := Scalar.subi c11_i32_21 v39
  let v42 : BitVec 32 := Scalar.select v40 v39 v41
  let c1_i32_569 : BitVec 32 := 1#32
  let v719 : BitVec 32 := Scalar.muli v42 c1_i32_569
  let v720 : BitVec 32 := Scalar.addi c0_i32_570 v719
  v720.toNat
def k0_dev27 (d0 : Dev nD) : Nat :=
  let c0_i32_589 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let c1_i32_11 : BitVec 32 := 1#32
  let v24 : BitVec 32 := Scalar.subi v8 c1_i32_11
  let c4_i32_12 : BitVec 32 := 4#32
  let c0_i32_13 : BitVec 32 := 0#32
  let v25 : BitVec 1 := Scalar.cmpi .eq c4_i32_12 c0_i32_13
  let c1_i32_14 : BitVec 32 := 1#32
  let v26 : BitVec 32 := Scalar.select v25 c1_i32_14 c4_i32_12
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let v35 : BitVec 32 := Scalar.addi v7 v34
  let c4_i32_18 : BitVec 32 := 4#32
  let v36 : BitVec 1 := Scalar.cmpi .slt v35 c4_i32_18
  let c11_i32_19 : BitVec 32 := 11#32
  let v37 : BitVec 32 := Scalar.subi c11_i32_19 v35
  let v38 : BitVec 32 := Scalar.select v36 v35 v37
  let c1_i32_588 : BitVec 32 := 1#32
  let v737 : BitVec 32 := Scalar.muli v38 c1_i32_588
  let v738 : BitVec 32 := Scalar.addi c0_i32_589 v737
  v738.toNat
def k0_dev28 (d0 : Dev nD) : Nat :=
  let c0_i32_609 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let c1_i32_11 : BitVec 32 := 1#32
  let v24 : BitVec 32 := Scalar.subi v8 c1_i32_11
  let c4_i32_12 : BitVec 32 := 4#32
  let c0_i32_13 : BitVec 32 := 0#32
  let v25 : BitVec 1 := Scalar.cmpi .eq c4_i32_12 c0_i32_13
  let c1_i32_14 : BitVec 32 := 1#32
  let v26 : BitVec 32 := Scalar.select v25 c1_i32_14 c4_i32_12
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let v35 : BitVec 32 := Scalar.addi v7 v34
  let c4_i32_18 : BitVec 32 := 4#32
  let v36 : BitVec 1 := Scalar.cmpi .slt v35 c4_i32_18
  let c11_i32_19 : BitVec 32 := 11#32
  let v37 : BitVec 32 := Scalar.subi c11_i32_19 v35
  let v38 : BitVec 32 := Scalar.select v36 v35 v37
  let c1_i32_608 : BitVec 32 := 1#32
  let v755 : BitVec 32 := Scalar.muli v38 c1_i32_608
  let v756 : BitVec 32 := Scalar.addi c0_i32_609 v755
  v756.toNat
def k0_off30 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let c2_i32_141 : BitVec 32 := 2#32
  let v220 : BitVec 32 := Scalar.addi v8 c2_i32_141
  let c4_i32_142 : BitVec 32 := 4#32
  let c0_i32_143 : BitVec 32 := 0#32
  let v221 : BitVec 1 := Scalar.cmpi .eq c4_i32_142 c0_i32_143
  let c1_i32_144 : BitVec 32 := 1#32
  let v222 : BitVec 32 := Scalar.select v221 c1_i32_144 c4_i32_142
  let v223 : BitVec 32 := Scalar.remsi v220 v222
  let c0_i32_146 : BitVec 32 := 0#32
  let v225 : BitVec 1 := Scalar.cmpi .slt v223 c0_i32_146
  let c0_i32_147 : BitVec 32 := 0#32
  let v226 : BitVec 1 := Scalar.cmpi .slt v222 c0_i32_147
  let v227 : BitVec 1 := Scalar.xori v225 v226
  let c0_i32_145 : BitVec 32 := 0#32
  let v224 : BitVec 1 := Scalar.cmpi .ne v223 c0_i32_145
  let v228 : BitVec 1 := Scalar.andi v227 v224
  let v229 : BitVec 32 := Scalar.addi v223 v222
  let v230 : BitVec 32 := Scalar.select v228 v229 v223
  let v231 : BitVec 32 := Scalar.addi v7 v230
  let c4_i32_148 : BitVec 32 := 4#32
  let v232 : BitVec 1 := Scalar.cmpi .slt v231 c4_i32_148
  let c11_i32_149 : BitVec 32 := 11#32
  let v233 : BitVec 32 := Scalar.subi c11_i32_149 v231
  let v234 : BitVec 32 := Scalar.select v232 v231 v233
  let c416_i32 : BitVec 32 := 416#32
  let c0_i32_617 : BitVec 32 := 0#32
  ![v234.toNat, 416, 0]
def k0_dev29 (d0 : Dev nD) : Nat :=
  let c0_i32_616 : BitVec 32 := 0#32
  let c7_i32 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v39 : BitVec 32 := Scalar.subi c7_i32 v5
  let c4_i32_20 : BitVec 32 := 4#32
  let v40 : BitVec 1 := Scalar.cmpi .slt v39 c4_i32_20
  let c11_i32_21 : BitVec 32 := 11#32
  let v41 : BitVec 32 := Scalar.subi c11_i32_21 v39
  let v42 : BitVec 32 := Scalar.select v40 v39 v41
  let c1_i32_615 : BitVec 32 := 1#32
  let v765 : BitVec 32 := Scalar.muli v42 c1_i32_615
  let v766 : BitVec 32 := Scalar.addi c0_i32_616 v765
  v766.toNat
def k0_off31 (d0 : Dev nD) (c1_i32_93 : BitVec 32) : Fin 3 → Nat :=
  let c7_i32_100 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let v142 : BitVec 32 := Scalar.subi v8 c1_i32_93
  let c4_i32_94 : BitVec 32 := 4#32
  let c0_i32_95 : BitVec 32 := 0#32
  let v143 : BitVec 1 := Scalar.cmpi .eq c4_i32_94 c0_i32_95
  let c1_i32_96 : BitVec 32 := 1#32
  let v144 : BitVec 32 := Scalar.select v143 c1_i32_96 c4_i32_94
  let v145 : BitVec 32 := Scalar.remsi v142 v144
  let c0_i32_98 : BitVec 32 := 0#32
  let v147 : BitVec 1 := Scalar.cmpi .slt v145 c0_i32_98
  let c0_i32_99 : BitVec 32 := 0#32
  let v148 : BitVec 1 := Scalar.cmpi .slt v144 c0_i32_99
  let v149 : BitVec 1 := Scalar.xori v147 v148
  let c0_i32_97 : BitVec 32 := 0#32
  let v146 : BitVec 1 := Scalar.cmpi .ne v145 c0_i32_97
  let v150 : BitVec 1 := Scalar.andi v149 v146
  let v151 : BitVec 32 := Scalar.addi v145 v144
  let v152 : BitVec 32 := Scalar.select v150 v151 v145
  let v153 : BitVec 32 := Scalar.addi v7 v152
  let v154 : BitVec 32 := Scalar.subi c7_i32_100 v153
  let c4_i32_101 : BitVec 32 := 4#32
  let v155 : BitVec 1 := Scalar.cmpi .slt v154 c4_i32_101
  let c11_i32_102 : BitVec 32 := 11#32
  let v156 : BitVec 32 := Scalar.subi c11_i32_102 v154
  let v157 : BitVec 32 := Scalar.select v155 v154 v156
  let c0_i32_666 : BitVec 32 := 0#32
  let c0_i32_667 : BitVec 32 := 0#32
  ![v157.toNat, 0, 0]
def k0_dev30 (d0 : Dev nD) : Nat :=
  let c0_i32_665 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let c1_i32_2 : BitVec 32 := 1#32
  let v9 : BitVec 32 := Scalar.addi v8 c1_i32_2
  let c4_i32_3 : BitVec 32 := 4#32
  let c0_i32_4 : BitVec 32 := 0#32
  let v10 : BitVec 1 := Scalar.cmpi .eq c4_i32_3 c0_i32_4
  let c1_i32_5 : BitVec 32 := 1#32
  let v11 : BitVec 32 := Scalar.select v10 c1_i32_5 c4_i32_3
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.addi v7 v19
  let c4_i32_9 : BitVec 32 := 4#32
  let v21 : BitVec 1 := Scalar.cmpi .slt v20 c4_i32_9
  let c11_i32_10 : BitVec 32 := 11#32
  let v22 : BitVec 32 := Scalar.subi c11_i32_10 v20
  let v23 : BitVec 32 := Scalar.select v21 v20 v22
  let c1_i32_664 : BitVec 32 := 1#32
  let v821 : BitVec 32 := Scalar.muli v23 c1_i32_664
  let v822 : BitVec 32 := Scalar.addi c0_i32_665 v821
  v822.toNat
def k0_off32 (d0 : Dev nD) (c1_i32_169 : BitVec 32) : Fin 3 → Nat :=
  let c7_i32_176 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let v266 : BitVec 32 := Scalar.addi v8 c1_i32_169
  let c4_i32_170 : BitVec 32 := 4#32
  let c0_i32_171 : BitVec 32 := 0#32
  let v267 : BitVec 1 := Scalar.cmpi .eq c4_i32_170 c0_i32_171
  let c1_i32_172 : BitVec 32 := 1#32
  let v268 : BitVec 32 := Scalar.select v267 c1_i32_172 c4_i32_170
  let v269 : BitVec 32 := Scalar.remsi v266 v268
  let c0_i32_174 : BitVec 32 := 0#32
  let v271 : BitVec 1 := Scalar.cmpi .slt v269 c0_i32_174
  let c0_i32_175 : BitVec 32 := 0#32
  let v272 : BitVec 1 := Scalar.cmpi .slt v268 c0_i32_175
  let v273 : BitVec 1 := Scalar.xori v271 v272
  let c0_i32_173 : BitVec 32 := 0#32
  let v270 : BitVec 1 := Scalar.cmpi .ne v269 c0_i32_173
  let v274 : BitVec 1 := Scalar.andi v273 v270
  let v275 : BitVec 32 := Scalar.addi v269 v268
  let v276 : BitVec 32 := Scalar.select v274 v275 v269
  let v277 : BitVec 32 := Scalar.addi v7 v276
  let v278 : BitVec 32 := Scalar.subi c7_i32_176 v277
  let c4_i32_177 : BitVec 32 := 4#32
  let v279 : BitVec 1 := Scalar.cmpi .slt v278 c4_i32_177
  let c11_i32_178 : BitVec 32 := 11#32
  let v280 : BitVec 32 := Scalar.subi c11_i32_178 v278
  let v281 : BitVec 32 := Scalar.select v279 v278 v280
  let c256_i32_696 : BitVec 32 := 256#32
  let c0_i32_697 : BitVec 32 := 0#32
  ![v281.toNat, 256, 0]
def k0_dev31 (d0 : Dev nD) : Nat :=
  let c0_i32_695 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let c1_i32_11 : BitVec 32 := 1#32
  let v24 : BitVec 32 := Scalar.subi v8 c1_i32_11
  let c4_i32_12 : BitVec 32 := 4#32
  let c0_i32_13 : BitVec 32 := 0#32
  let v25 : BitVec 1 := Scalar.cmpi .eq c4_i32_12 c0_i32_13
  let c1_i32_14 : BitVec 32 := 1#32
  let v26 : BitVec 32 := Scalar.select v25 c1_i32_14 c4_i32_12
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let v35 : BitVec 32 := Scalar.addi v7 v34
  let c4_i32_18 : BitVec 32 := 4#32
  let v36 : BitVec 1 := Scalar.cmpi .slt v35 c4_i32_18
  let c11_i32_19 : BitVec 32 := 11#32
  let v37 : BitVec 32 := Scalar.subi c11_i32_19 v35
  let v38 : BitVec 32 := Scalar.select v36 v35 v37
  let c1_i32_694 : BitVec 32 := 1#32
  let v847 : BitVec 32 := Scalar.muli v38 c1_i32_694
  let v848 : BitVec 32 := Scalar.addi c0_i32_695 v847
  v848.toNat
def k0_off33 (d0 : Dev nD) (c1_i32_93 : BitVec 32) : Fin 3 → Nat :=
  let c7_i32_100 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let v142 : BitVec 32 := Scalar.subi v8 c1_i32_93
  let c4_i32_94 : BitVec 32 := 4#32
  let c0_i32_95 : BitVec 32 := 0#32
  let v143 : BitVec 1 := Scalar.cmpi .eq c4_i32_94 c0_i32_95
  let c1_i32_96 : BitVec 32 := 1#32
  let v144 : BitVec 32 := Scalar.select v143 c1_i32_96 c4_i32_94
  let v145 : BitVec 32 := Scalar.remsi v142 v144
  let c0_i32_98 : BitVec 32 := 0#32
  let v147 : BitVec 1 := Scalar.cmpi .slt v145 c0_i32_98
  let c0_i32_99 : BitVec 32 := 0#32
  let v148 : BitVec 1 := Scalar.cmpi .slt v144 c0_i32_99
  let v149 : BitVec 1 := Scalar.xori v147 v148
  let c0_i32_97 : BitVec 32 := 0#32
  let v146 : BitVec 1 := Scalar.cmpi .ne v145 c0_i32_97
  let v150 : BitVec 1 := Scalar.andi v149 v146
  let v151 : BitVec 32 := Scalar.addi v145 v144
  let v152 : BitVec 32 := Scalar.select v150 v151 v145
  let v153 : BitVec 32 := Scalar.addi v7 v152
  let v154 : BitVec 32 := Scalar.subi c7_i32_100 v153
  let c4_i32_101 : BitVec 32 := 4#32
  let v155 : BitVec 1 := Scalar.cmpi .slt v154 c4_i32_101
  let c11_i32_102 : BitVec 32 := 11#32
  let v156 : BitVec 32 := Scalar.subi c11_i32_102 v154
  let v157 : BitVec 32 := Scalar.select v155 v154 v156
  let v857 : Index := Scalar.indexCast v157
  let c0_700 : Index := 0#32
  let c0_701 : Index := 0#32
  ![v857.toNat, 0, 0]
def k0_off34 (d0 : Dev nD) (c1_i32_93 : BitVec 32) : Fin 2 → Nat :=
  let c7_i32_100 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let v142 : BitVec 32 := Scalar.subi v8 c1_i32_93
  let c4_i32_94 : BitVec 32 := 4#32
  let c0_i32_95 : BitVec 32 := 0#32
  let v143 : BitVec 1 := Scalar.cmpi .eq c4_i32_94 c0_i32_95
  let c1_i32_96 : BitVec 32 := 1#32
  let v144 : BitVec 32 := Scalar.select v143 c1_i32_96 c4_i32_94
  let v145 : BitVec 32 := Scalar.remsi v142 v144
  let c0_i32_98 : BitVec 32 := 0#32
  let v147 : BitVec 1 := Scalar.cmpi .slt v145 c0_i32_98
  let c0_i32_99 : BitVec 32 := 0#32
  let v148 : BitVec 1 := Scalar.cmpi .slt v144 c0_i32_99
  let v149 : BitVec 1 := Scalar.xori v147 v148
  let c0_i32_97 : BitVec 32 := 0#32
  let v146 : BitVec 1 := Scalar.cmpi .ne v145 c0_i32_97
  let v150 : BitVec 1 := Scalar.andi v149 v146
  let v151 : BitVec 32 := Scalar.addi v145 v144
  let v152 : BitVec 32 := Scalar.select v150 v151 v145
  let v153 : BitVec 32 := Scalar.addi v7 v152
  let v154 : BitVec 32 := Scalar.subi c7_i32_100 v153
  let c4_i32_101 : BitVec 32 := 4#32
  let v155 : BitVec 1 := Scalar.cmpi .slt v154 c4_i32_101
  let c11_i32_102 : BitVec 32 := 11#32
  let v156 : BitVec 32 := Scalar.subi c11_i32_102 v154
  let v157 : BitVec 32 := Scalar.select v155 v154 v156
  let c512_i32_707 : BitVec 32 := 512#32
  let v868 : BitVec 32 := Scalar.muli v157 c512_i32_707
  let c0_i32_708 : BitVec 32 := 0#32
  let v869 : BitVec 32 := Scalar.addi v868 c0_i32_708
  let v870 : Index := Scalar.indexCast v869
  let c0_709 : Index := 0#32
  ![v870.toNat, 0]
def k0_off35 (d0 : Dev nD) (c1_i32_169 : BitVec 32) : Fin 3 → Nat :=
  let c7_i32_176 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let v266 : BitVec 32 := Scalar.addi v8 c1_i32_169
  let c4_i32_170 : BitVec 32 := 4#32
  let c0_i32_171 : BitVec 32 := 0#32
  let v267 : BitVec 1 := Scalar.cmpi .eq c4_i32_170 c0_i32_171
  let c1_i32_172 : BitVec 32 := 1#32
  let v268 : BitVec 32 := Scalar.select v267 c1_i32_172 c4_i32_170
  let v269 : BitVec 32 := Scalar.remsi v266 v268
  let c0_i32_174 : BitVec 32 := 0#32
  let v271 : BitVec 1 := Scalar.cmpi .slt v269 c0_i32_174
  let c0_i32_175 : BitVec 32 := 0#32
  let v272 : BitVec 1 := Scalar.cmpi .slt v268 c0_i32_175
  let v273 : BitVec 1 := Scalar.xori v271 v272
  let c0_i32_173 : BitVec 32 := 0#32
  let v270 : BitVec 1 := Scalar.cmpi .ne v269 c0_i32_173
  let v274 : BitVec 1 := Scalar.andi v273 v270
  let v275 : BitVec 32 := Scalar.addi v269 v268
  let v276 : BitVec 32 := Scalar.select v274 v275 v269
  let v277 : BitVec 32 := Scalar.addi v7 v276
  let v278 : BitVec 32 := Scalar.subi c7_i32_176 v277
  let c4_i32_177 : BitVec 32 := 4#32
  let v279 : BitVec 1 := Scalar.cmpi .slt v278 c4_i32_177
  let c11_i32_178 : BitVec 32 := 11#32
  let v280 : BitVec 32 := Scalar.subi c11_i32_178 v278
  let v281 : BitVec 32 := Scalar.select v279 v278 v280
  let v872 : Index := Scalar.indexCast v281
  let c256_710 : Index := 256#32
  let c0_711 : Index := 0#32
  ![v872.toNat, 256, 0]
def k0_off36 (d0 : Dev nD) (c1_i32_169 : BitVec 32) : Fin 2 → Nat :=
  let c7_i32_176 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let v266 : BitVec 32 := Scalar.addi v8 c1_i32_169
  let c4_i32_170 : BitVec 32 := 4#32
  let c0_i32_171 : BitVec 32 := 0#32
  let v267 : BitVec 1 := Scalar.cmpi .eq c4_i32_170 c0_i32_171
  let c1_i32_172 : BitVec 32 := 1#32
  let v268 : BitVec 32 := Scalar.select v267 c1_i32_172 c4_i32_170
  let v269 : BitVec 32 := Scalar.remsi v266 v268
  let c0_i32_174 : BitVec 32 := 0#32
  let v271 : BitVec 1 := Scalar.cmpi .slt v269 c0_i32_174
  let c0_i32_175 : BitVec 32 := 0#32
  let v272 : BitVec 1 := Scalar.cmpi .slt v268 c0_i32_175
  let v273 : BitVec 1 := Scalar.xori v271 v272
  let c0_i32_173 : BitVec 32 := 0#32
  let v270 : BitVec 1 := Scalar.cmpi .ne v269 c0_i32_173
  let v274 : BitVec 1 := Scalar.andi v273 v270
  let v275 : BitVec 32 := Scalar.addi v269 v268
  let v276 : BitVec 32 := Scalar.select v274 v275 v269
  let v277 : BitVec 32 := Scalar.addi v7 v276
  let v278 : BitVec 32 := Scalar.subi c7_i32_176 v277
  let c4_i32_177 : BitVec 32 := 4#32
  let v279 : BitVec 1 := Scalar.cmpi .slt v278 c4_i32_177
  let c11_i32_178 : BitVec 32 := 11#32
  let v280 : BitVec 32 := Scalar.subi c11_i32_178 v278
  let v281 : BitVec 32 := Scalar.select v279 v278 v280
  let c512_i32_717 : BitVec 32 := 512#32
  let v883 : BitVec 32 := Scalar.muli v281 c512_i32_717
  let c256_i32_718 : BitVec 32 := 256#32
  let v884 : BitVec 32 := Scalar.addi v883 c256_i32_718
  let v885 : Index := Scalar.indexCast v884
  let c0_719 : Index := 0#32
  ![v885.toNat, 0]
def k0_off37 (d0 : Dev nD) : Fin 3 → Nat :=
  let c7_i32_110 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let c2_i32_103 : BitVec 32 := 2#32
  let v158 : BitVec 32 := Scalar.subi v8 c2_i32_103
  let c4_i32_104 : BitVec 32 := 4#32
  let c0_i32_105 : BitVec 32 := 0#32
  let v159 : BitVec 1 := Scalar.cmpi .eq c4_i32_104 c0_i32_105
  let c1_i32_106 : BitVec 32 := 1#32
  let v160 : BitVec 32 := Scalar.select v159 c1_i32_106 c4_i32_104
  let v161 : BitVec 32 := Scalar.remsi v158 v160
  let c0_i32_108 : BitVec 32 := 0#32
  let v163 : BitVec 1 := Scalar.cmpi .slt v161 c0_i32_108
  let c0_i32_109 : BitVec 32 := 0#32
  let v164 : BitVec 1 := Scalar.cmpi .slt v160 c0_i32_109
  let v165 : BitVec 1 := Scalar.xori v163 v164
  let c0_i32_107 : BitVec 32 := 0#32
  let v162 : BitVec 1 := Scalar.cmpi .ne v161 c0_i32_107
  let v166 : BitVec 1 := Scalar.andi v165 v162
  let v167 : BitVec 32 := Scalar.addi v161 v160
  let v168 : BitVec 32 := Scalar.select v166 v167 v161
  let v169 : BitVec 32 := Scalar.addi v7 v168
  let v170 : BitVec 32 := Scalar.subi c7_i32_110 v169
  let c4_i32_111 : BitVec 32 := 4#32
  let v171 : BitVec 1 := Scalar.cmpi .slt v170 c4_i32_111
  let c11_i32_112 : BitVec 32 := 11#32
  let v172 : BitVec 32 := Scalar.subi c11_i32_112 v170
  let v173 : BitVec 32 := Scalar.select v171 v170 v172
  let c160_i32_846 : BitVec 32 := 160#32
  let c0_i32_847 : BitVec 32 := 0#32
  ![v173.toNat, 160, 0]
def k0_off38 (d0 : Dev nD) : Fin 3 → Nat :=
  let c7_i32_186 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_0 : BitVec 32 := 4#32
  let v6 : BitVec 1 := Scalar.cmpi .slt v5 c4_i32_0
  let c0_i32 : BitVec 32 := 0#32
  let c4_i32_1 : BitVec 32 := 4#32
  let v7 : BitVec 32 := Scalar.select v6 c0_i32 c4_i32_1
  let v8 : BitVec 32 := Scalar.subi v5 v7
  let c2_i32_179 : BitVec 32 := 2#32
  let v282 : BitVec 32 := Scalar.addi v8 c2_i32_179
  let c4_i32_180 : BitVec 32 := 4#32
  let c0_i32_181 : BitVec 32 := 0#32
  let v283 : BitVec 1 := Scalar.cmpi .eq c4_i32_180 c0_i32_181
  let c1_i32_182 : BitVec 32 := 1#32
  let v284 : BitVec 32 := Scalar.select v283 c1_i32_182 c4_i32_180
  let v285 : BitVec 32 := Scalar.remsi v282 v284
  let c0_i32_184 : BitVec 32 := 0#32
  let v287 : BitVec 1 := Scalar.cmpi .slt v285 c0_i32_184
  let c0_i32_185 : BitVec 32 := 0#32
  let v288 : BitVec 1 := Scalar.cmpi .slt v284 c0_i32_185
  let v289 : BitVec 1 := Scalar.xori v287 v288
  let c0_i32_183 : BitVec 32 := 0#32
  let v286 : BitVec 1 := Scalar.cmpi .ne v285 c0_i32_183
  let v290 : BitVec 1 := Scalar.andi v289 v286
  let v291 : BitVec 32 := Scalar.addi v285 v284
  let v292 : BitVec 32 := Scalar.select v290 v291 v285
  let v293 : BitVec 32 := Scalar.addi v7 v292
  let v294 : BitVec 32 := Scalar.subi c7_i32_186 v293
  let c4_i32_187 : BitVec 32 := 4#32
  let v295 : BitVec 1 := Scalar.cmpi .slt v294 c4_i32_187
  let c11_i32_188 : BitVec 32 := 11#32
  let v296 : BitVec 32 := Scalar.subi c11_i32_188 v294
  let v297 : BitVec 32 := Scalar.select v295 v294 v296
  let c416_i32_874 : BitVec 32 := 416#32
  let c0_i32_875 : BitVec 32 := 0#32
  ![v297.toNat, 416, 0]
def k0_off39 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1265 : Index := Scalar.indexCast v2
  let c0_1123 : Index := 0#32
  ![v1265.toNat, 0]
def k0_off40 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off41 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1137 : BitVec 32 := 0#32
  ![v2.toNat, 0]
def k0_dev32 (d0 : Dev nD) : Nat :=
  let c0_i32_1136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_1124 : BitVec 32 := 1#32
  let v1269 : BitVec 32 := Scalar.addi v5 c1_i32_1124
  let c0_i32_1125 : BitVec 32 := 0#32
  let v1270 : BitVec 32 := Scalar.addi v1269 c0_i32_1125
  let c8_i32_1126 : BitVec 32 := 8#32
  let c0_i32_1127 : BitVec 32 := 0#32
  let v1271 : BitVec 1 := Scalar.cmpi .eq c8_i32_1126 c0_i32_1127
  let c1_i32_1128 : BitVec 32 := 1#32
  let v1272 : BitVec 32 := Scalar.select v1271 c1_i32_1128 c8_i32_1126
  let v1273 : BitVec 32 := Scalar.remsi v1270 v1272
  let c0_i32_1130 : BitVec 32 := 0#32
  let v1275 : BitVec 1 := Scalar.cmpi .slt v1273 c0_i32_1130
  let c0_i32_1131 : BitVec 32 := 0#32
  let v1276 : BitVec 1 := Scalar.cmpi .slt v1272 c0_i32_1131
  let v1277 : BitVec 1 := Scalar.xori v1275 v1276
  let c0_i32_1129 : BitVec 32 := 0#32
  let v1274 : BitVec 1 := Scalar.cmpi .ne v1273 c0_i32_1129
  let v1278 : BitVec 1 := Scalar.andi v1277 v1274
  let v1279 : BitVec 32 := Scalar.addi v1273 v1272
  let v1280 : BitVec 32 := Scalar.select v1278 v1279 v1273
  let c4_i32_1132 : BitVec 32 := 4#32
  let v1281 : BitVec 1 := Scalar.cmpi .slt v1280 c4_i32_1132
  let c11_i32_1133 : BitVec 32 := 11#32
  let v1282 : BitVec 32 := Scalar.subi c11_i32_1133 v1280
  let v1283 : BitVec 32 := Scalar.select v1281 v1280 v1282
  let c1_i32_1135 : BitVec 32 := 1#32
  let v1284 : BitVec 32 := Scalar.muli v1283 c1_i32_1135
  let v1285 : BitVec 32 := Scalar.addi c0_i32_1136 v1284
  v1285.toNat
def k0_dev33 (d0 : Dev nD) : Nat :=
  let c0_i32_1150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_1138 : BitVec 32 := 1#32
  let v1291 : BitVec 32 := Scalar.addi v5 c1_i32_1138
  let c1_i32_1139 : BitVec 32 := 1#32
  let v1292 : BitVec 32 := Scalar.addi v1291 c1_i32_1139
  let c8_i32_1140 : BitVec 32 := 8#32
  let c0_i32_1141 : BitVec 32 := 0#32
  let v1293 : BitVec 1 := Scalar.cmpi .eq c8_i32_1140 c0_i32_1141
  let c1_i32_1142 : BitVec 32 := 1#32
  let v1294 : BitVec 32 := Scalar.select v1293 c1_i32_1142 c8_i32_1140
  let v1295 : BitVec 32 := Scalar.remsi v1292 v1294
  let c0_i32_1144 : BitVec 32 := 0#32
  let v1297 : BitVec 1 := Scalar.cmpi .slt v1295 c0_i32_1144
  let c0_i32_1145 : BitVec 32 := 0#32
  let v1298 : BitVec 1 := Scalar.cmpi .slt v1294 c0_i32_1145
  let v1299 : BitVec 1 := Scalar.xori v1297 v1298
  let c0_i32_1143 : BitVec 32 := 0#32
  let v1296 : BitVec 1 := Scalar.cmpi .ne v1295 c0_i32_1143
  let v1300 : BitVec 1 := Scalar.andi v1299 v1296
  let v1301 : BitVec 32 := Scalar.addi v1295 v1294
  let v1302 : BitVec 32 := Scalar.select v1300 v1301 v1295
  let c4_i32_1146 : BitVec 32 := 4#32
  let v1303 : BitVec 1 := Scalar.cmpi .slt v1302 c4_i32_1146
  let c11_i32_1147 : BitVec 32 := 11#32
  let v1304 : BitVec 32 := Scalar.subi c11_i32_1147 v1302
  let v1305 : BitVec 32 := Scalar.select v1303 v1302 v1304
  let c1_i32_1149 : BitVec 32 := 1#32
  let v1306 : BitVec 32 := Scalar.muli v1305 c1_i32_1149
  let v1307 : BitVec 32 := Scalar.addi c0_i32_1150 v1306
  v1307.toNat
def k0_dev34 (d0 : Dev nD) : Nat :=
  let c0_i32_1164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_1152 : BitVec 32 := 1#32
  let v1313 : BitVec 32 := Scalar.addi v5 c1_i32_1152
  let c2_i32_1153 : BitVec 32 := 2#32
  let v1314 : BitVec 32 := Scalar.addi v1313 c2_i32_1153
  let c8_i32_1154 : BitVec 32 := 8#32
  let c0_i32_1155 : BitVec 32 := 0#32
  let v1315 : BitVec 1 := Scalar.cmpi .eq c8_i32_1154 c0_i32_1155
  let c1_i32_1156 : BitVec 32 := 1#32
  let v1316 : BitVec 32 := Scalar.select v1315 c1_i32_1156 c8_i32_1154
  let v1317 : BitVec 32 := Scalar.remsi v1314 v1316
  let c0_i32_1158 : BitVec 32 := 0#32
  let v1319 : BitVec 1 := Scalar.cmpi .slt v1317 c0_i32_1158
  let c0_i32_1159 : BitVec 32 := 0#32
  let v1320 : BitVec 1 := Scalar.cmpi .slt v1316 c0_i32_1159
  let v1321 : BitVec 1 := Scalar.xori v1319 v1320
  let c0_i32_1157 : BitVec 32 := 0#32
  let v1318 : BitVec 1 := Scalar.cmpi .ne v1317 c0_i32_1157
  let v1322 : BitVec 1 := Scalar.andi v1321 v1318
  let v1323 : BitVec 32 := Scalar.addi v1317 v1316
  let v1324 : BitVec 32 := Scalar.select v1322 v1323 v1317
  let c4_i32_1160 : BitVec 32 := 4#32
  let v1325 : BitVec 1 := Scalar.cmpi .slt v1324 c4_i32_1160
  let c11_i32_1161 : BitVec 32 := 11#32
  let v1326 : BitVec 32 := Scalar.subi c11_i32_1161 v1324
  let v1327 : BitVec 32 := Scalar.select v1325 v1324 v1326
  let c1_i32_1163 : BitVec 32 := 1#32
  let v1328 : BitVec 32 := Scalar.muli v1327 c1_i32_1163
  let v1329 : BitVec 32 := Scalar.addi c0_i32_1164 v1328
  v1329.toNat
def k0_dev35 (d0 : Dev nD) : Nat :=
  let c0_i32_1178 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_1166 : BitVec 32 := 1#32
  let v1335 : BitVec 32 := Scalar.addi v5 c1_i32_1166
  let c3_i32_1167 : BitVec 32 := 3#32
  let v1336 : BitVec 32 := Scalar.addi v1335 c3_i32_1167
  let c8_i32_1168 : BitVec 32 := 8#32
  let c0_i32_1169 : BitVec 32 := 0#32
  let v1337 : BitVec 1 := Scalar.cmpi .eq c8_i32_1168 c0_i32_1169
  let c1_i32_1170 : BitVec 32 := 1#32
  let v1338 : BitVec 32 := Scalar.select v1337 c1_i32_1170 c8_i32_1168
  let v1339 : BitVec 32 := Scalar.remsi v1336 v1338
  let c0_i32_1172 : BitVec 32 := 0#32
  let v1341 : BitVec 1 := Scalar.cmpi .slt v1339 c0_i32_1172
  let c0_i32_1173 : BitVec 32 := 0#32
  let v1342 : BitVec 1 := Scalar.cmpi .slt v1338 c0_i32_1173
  let v1343 : BitVec 1 := Scalar.xori v1341 v1342
  let c0_i32_1171 : BitVec 32 := 0#32
  let v1340 : BitVec 1 := Scalar.cmpi .ne v1339 c0_i32_1171
  let v1344 : BitVec 1 := Scalar.andi v1343 v1340
  let v1345 : BitVec 32 := Scalar.addi v1339 v1338
  let v1346 : BitVec 32 := Scalar.select v1344 v1345 v1339
  let c4_i32_1174 : BitVec 32 := 4#32
  let v1347 : BitVec 1 := Scalar.cmpi .slt v1346 c4_i32_1174
  let c11_i32_1175 : BitVec 32 := 11#32
  let v1348 : BitVec 32 := Scalar.subi c11_i32_1175 v1346
  let v1349 : BitVec 32 := Scalar.select v1347 v1346 v1348
  let c1_i32_1177 : BitVec 32 := 1#32
  let v1350 : BitVec 32 := Scalar.muli v1349 c1_i32_1177
  let v1351 : BitVec 32 := Scalar.addi c0_i32_1178 v1350
  v1351.toNat
def k0_dev36 (d0 : Dev nD) : Nat :=
  let c0_i32_1192 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_1180 : BitVec 32 := 1#32
  let v1357 : BitVec 32 := Scalar.addi v5 c1_i32_1180
  let c4_i32_1181 : BitVec 32 := 4#32
  let v1358 : BitVec 32 := Scalar.addi v1357 c4_i32_1181
  let c8_i32_1182 : BitVec 32 := 8#32
  let c0_i32_1183 : BitVec 32 := 0#32
  let v1359 : BitVec 1 := Scalar.cmpi .eq c8_i32_1182 c0_i32_1183
  let c1_i32_1184 : BitVec 32 := 1#32
  let v1360 : BitVec 32 := Scalar.select v1359 c1_i32_1184 c8_i32_1182
  let v1361 : BitVec 32 := Scalar.remsi v1358 v1360
  let c0_i32_1186 : BitVec 32 := 0#32
  let v1363 : BitVec 1 := Scalar.cmpi .slt v1361 c0_i32_1186
  let c0_i32_1187 : BitVec 32 := 0#32
  let v1364 : BitVec 1 := Scalar.cmpi .slt v1360 c0_i32_1187
  let v1365 : BitVec 1 := Scalar.xori v1363 v1364
  let c0_i32_1185 : BitVec 32 := 0#32
  let v1362 : BitVec 1 := Scalar.cmpi .ne v1361 c0_i32_1185
  let v1366 : BitVec 1 := Scalar.andi v1365 v1362
  let v1367 : BitVec 32 := Scalar.addi v1361 v1360
  let v1368 : BitVec 32 := Scalar.select v1366 v1367 v1361
  let c4_i32_1188 : BitVec 32 := 4#32
  let v1369 : BitVec 1 := Scalar.cmpi .slt v1368 c4_i32_1188
  let c11_i32_1189 : BitVec 32 := 11#32
  let v1370 : BitVec 32 := Scalar.subi c11_i32_1189 v1368
  let v1371 : BitVec 32 := Scalar.select v1369 v1368 v1370
  let c1_i32_1191 : BitVec 32 := 1#32
  let v1372 : BitVec 32 := Scalar.muli v1371 c1_i32_1191
  let v1373 : BitVec 32 := Scalar.addi c0_i32_1192 v1372
  v1373.toNat
def k0_dev37 (d0 : Dev nD) : Nat :=
  let c0_i32_1206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_1194 : BitVec 32 := 1#32
  let v1379 : BitVec 32 := Scalar.addi v5 c1_i32_1194
  let c5_i32_1195 : BitVec 32 := 5#32
  let v1380 : BitVec 32 := Scalar.addi v1379 c5_i32_1195
  let c8_i32_1196 : BitVec 32 := 8#32
  let c0_i32_1197 : BitVec 32 := 0#32
  let v1381 : BitVec 1 := Scalar.cmpi .eq c8_i32_1196 c0_i32_1197
  let c1_i32_1198 : BitVec 32 := 1#32
  let v1382 : BitVec 32 := Scalar.select v1381 c1_i32_1198 c8_i32_1196
  let v1383 : BitVec 32 := Scalar.remsi v1380 v1382
  let c0_i32_1200 : BitVec 32 := 0#32
  let v1385 : BitVec 1 := Scalar.cmpi .slt v1383 c0_i32_1200
  let c0_i32_1201 : BitVec 32 := 0#32
  let v1386 : BitVec 1 := Scalar.cmpi .slt v1382 c0_i32_1201
  let v1387 : BitVec 1 := Scalar.xori v1385 v1386
  let c0_i32_1199 : BitVec 32 := 0#32
  let v1384 : BitVec 1 := Scalar.cmpi .ne v1383 c0_i32_1199
  let v1388 : BitVec 1 := Scalar.andi v1387 v1384
  let v1389 : BitVec 32 := Scalar.addi v1383 v1382
  let v1390 : BitVec 32 := Scalar.select v1388 v1389 v1383
  let c4_i32_1202 : BitVec 32 := 4#32
  let v1391 : BitVec 1 := Scalar.cmpi .slt v1390 c4_i32_1202
  let c11_i32_1203 : BitVec 32 := 11#32
  let v1392 : BitVec 32 := Scalar.subi c11_i32_1203 v1390
  let v1393 : BitVec 32 := Scalar.select v1391 v1390 v1392
  let c1_i32_1205 : BitVec 32 := 1#32
  let v1394 : BitVec 32 := Scalar.muli v1393 c1_i32_1205
  let v1395 : BitVec 32 := Scalar.addi c0_i32_1206 v1394
  v1395.toNat
def k0_dev38 (d0 : Dev nD) : Nat :=
  let c0_i32_1220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_1208 : BitVec 32 := 1#32
  let v1401 : BitVec 32 := Scalar.addi v5 c1_i32_1208
  let c6_i32_1209 : BitVec 32 := 6#32
  let v1402 : BitVec 32 := Scalar.addi v1401 c6_i32_1209
  let c8_i32_1210 : BitVec 32 := 8#32
  let c0_i32_1211 : BitVec 32 := 0#32
  let v1403 : BitVec 1 := Scalar.cmpi .eq c8_i32_1210 c0_i32_1211
  let c1_i32_1212 : BitVec 32 := 1#32
  let v1404 : BitVec 32 := Scalar.select v1403 c1_i32_1212 c8_i32_1210
  let v1405 : BitVec 32 := Scalar.remsi v1402 v1404
  let c0_i32_1214 : BitVec 32 := 0#32
  let v1407 : BitVec 1 := Scalar.cmpi .slt v1405 c0_i32_1214
  let c0_i32_1215 : BitVec 32 := 0#32
  let v1408 : BitVec 1 := Scalar.cmpi .slt v1404 c0_i32_1215
  let v1409 : BitVec 1 := Scalar.xori v1407 v1408
  let c0_i32_1213 : BitVec 32 := 0#32
  let v1406 : BitVec 1 := Scalar.cmpi .ne v1405 c0_i32_1213
  let v1410 : BitVec 1 := Scalar.andi v1409 v1406
  let v1411 : BitVec 32 := Scalar.addi v1405 v1404
  let v1412 : BitVec 32 := Scalar.select v1410 v1411 v1405
  let c4_i32_1216 : BitVec 32 := 4#32
  let v1413 : BitVec 1 := Scalar.cmpi .slt v1412 c4_i32_1216
  let c11_i32_1217 : BitVec 32 := 11#32
  let v1414 : BitVec 32 := Scalar.subi c11_i32_1217 v1412
  let v1415 : BitVec 32 := Scalar.select v1413 v1412 v1414
  let c1_i32_1219 : BitVec 32 := 1#32
  let v1416 : BitVec 32 := Scalar.muli v1415 c1_i32_1219
  let v1417 : BitVec 32 := Scalar.addi c0_i32_1220 v1416
  v1417.toNat
def k0_off42 (d0 : Dev nD) (c0_i32_1223 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_1222 : BitVec 32 := 1#32
  let v1423 : BitVec 32 := Scalar.addi v5 c1_i32_1222
  let v1424 : BitVec 32 := Scalar.addi v1423 c0_i32_1223
  let c8_i32_1224 : BitVec 32 := 8#32
  let c0_i32_1225 : BitVec 32 := 0#32
  let v1425 : BitVec 1 := Scalar.cmpi .eq c8_i32_1224 c0_i32_1225
  let c1_i32_1226 : BitVec 32 := 1#32
  let v1426 : BitVec 32 := Scalar.select v1425 c1_i32_1226 c8_i32_1224
  let v1427 : BitVec 32 := Scalar.remsi v1424 v1426
  let c0_i32_1228 : BitVec 32 := 0#32
  let v1429 : BitVec 1 := Scalar.cmpi .slt v1427 c0_i32_1228
  let c0_i32_1229 : BitVec 32 := 0#32
  let v1430 : BitVec 1 := Scalar.cmpi .slt v1426 c0_i32_1229
  let v1431 : BitVec 1 := Scalar.xori v1429 v1430
  let c0_i32_1227 : BitVec 32 := 0#32
  let v1428 : BitVec 1 := Scalar.cmpi .ne v1427 c0_i32_1227
  let v1432 : BitVec 1 := Scalar.andi v1431 v1428
  let v1433 : BitVec 32 := Scalar.addi v1427 v1426
  let v1434 : BitVec 32 := Scalar.select v1432 v1433 v1427
  let c4_i32_1230 : BitVec 32 := 4#32
  let v1435 : BitVec 1 := Scalar.cmpi .slt v1434 c4_i32_1230
  let c11_i32_1231 : BitVec 32 := 11#32
  let v1436 : BitVec 32 := Scalar.subi c11_i32_1231 v1434
  let v1437 : BitVec 32 := Scalar.select v1435 v1434 v1436
  ![v1437.toNat]
def k0_off43 (d0 : Dev nD) (c0_i32_1223 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_1222 : BitVec 32 := 1#32
  let v1423 : BitVec 32 := Scalar.addi v5 c1_i32_1222
  let v1424 : BitVec 32 := Scalar.addi v1423 c0_i32_1223
  let c8_i32_1224 : BitVec 32 := 8#32
  let c0_i32_1225 : BitVec 32 := 0#32
  let v1425 : BitVec 1 := Scalar.cmpi .eq c8_i32_1224 c0_i32_1225
  let c1_i32_1226 : BitVec 32 := 1#32
  let v1426 : BitVec 32 := Scalar.select v1425 c1_i32_1226 c8_i32_1224
  let v1427 : BitVec 32 := Scalar.remsi v1424 v1426
  let c0_i32_1228 : BitVec 32 := 0#32
  let v1429 : BitVec 1 := Scalar.cmpi .slt v1427 c0_i32_1228
  let c0_i32_1229 : BitVec 32 := 0#32
  let v1430 : BitVec 1 := Scalar.cmpi .slt v1426 c0_i32_1229
  let v1431 : BitVec 1 := Scalar.xori v1429 v1430
  let c0_i32_1227 : BitVec 32 := 0#32
  let v1428 : BitVec 1 := Scalar.cmpi .ne v1427 c0_i32_1227
  let v1432 : BitVec 1 := Scalar.andi v1431 v1428
  let v1433 : BitVec 32 := Scalar.addi v1427 v1426
  let v1434 : BitVec 32 := Scalar.select v1432 v1433 v1427
  let c4_i32_1230 : BitVec 32 := 4#32
  let v1435 : BitVec 1 := Scalar.cmpi .slt v1434 c4_i32_1230
  let c11_i32_1231 : BitVec 32 := 11#32
  let v1436 : BitVec 32 := Scalar.subi c11_i32_1231 v1434
  let v1437 : BitVec 32 := Scalar.select v1435 v1434 v1436
  let c0_i32_1235 : BitVec 32 := 0#32
  ![v1437.toNat, 0]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Sites.lean ====
/-
# The mesh, the transfers and the cells

Eight devices form two squares. In a square every device has a right neighbour `rho` and a left one `lam`; `zed` is its
partner in the other square. A device's chunk of `x` (512 rows, cast to bf16) is copied to every other device's `gather`
buffer by 28 transfers a device, the SITES, numbered in program order. Site `k`, started by device `c`, copies rows
`siteLo k ≤ r < siteHi k` of chunk `chunkOf k c` from `c`'s `gather` to the same rows of the same chunk of `dest k c`'s.
Afterwards every device sends the largest value it computed to the seven others (the amax transfers).

The cells are numbered by `Fin 81`: index 0 is the runtime's barrier semaphore, index `i ≥ 1` DMA semaphore `i`. What a cell
is for is its `Role`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Pointwise.Index

@[expose] public section

noncomputable section

namespace Cert.RingProof

open Cert.KernelIdeal Cert.KernelIdeal.Gen
open Idealize.ShloMosaic
open Idealize.ShloMosaic.TcCoe

/-! ## The mesh -/

/-- The right neighbour in the square. -/
abbrev rho (c : Dev nD) : Dev nD := (![1, 2, 3, 0, 7, 4, 5, 6] : Fin 8 → Fin 8) c
/-- The left neighbour in the square. -/
abbrev lam (c : Dev nD) : Dev nD := (![3, 0, 1, 2, 5, 6, 7, 4] : Fin 8 → Fin 8) c
/-- The partner in the other square. -/
abbrev zed (c : Dev nD) : Dev nD := (![4, 5, 6, 7, 0, 1, 2, 3] : Fin 8 → Fin 8) c
/-- The device at position `p` of the ring through both squares (its own inverse). -/
abbrev ringPos (p : Fin 8) : Fin 8 := (![0, 1, 2, 3, 7, 6, 5, 4] : Fin 8 → Fin 8) p

theorem lam_rho (c : Dev nD) : lam (rho c) = c := by revert c; decide
theorem rho_lam (c : Dev nD) : rho (lam c) = c := by revert c; decide
theorem zed_zed (c : Dev nD) : zed (zed c) = c := by revert c; decide

/-! ## The directions -/

/-- Which neighbour a transfer goes to: 0 right, 1 left, 2 the partner. -/
abbrev step (j : Fin 3) (c : Dev nD) : Dev nD := (![rho c, lam c, zed c] : Fin 3 → Dev nD) j
/-- The direction back. -/
abbrev back (j : Fin 3) (c : Dev nD) : Dev nD := (![lam c, rho c, zed c] : Fin 3 → Dev nD) j

theorem back_step (j : Fin 3) (c : Dev nD) : back j (step j c) = c := by revert j c; decide
theorem step_back (j : Fin 3) (c : Dev nD) : step j (back j c) = c := by revert j c; decide

/-! ## The sites -/

/-- The direction of site `k`. -/
abbrev dirOf (k : Fin 28) : Fin 3 :=
  (![0, 2, 1, 2, 0, 2, 1, 2, 0, 2, 0, 2, 1, 2, 1, 2, 0, 0, 1, 1, 0, 0, 2, 1, 1, 2, 0, 1] : Fin 28 → Fin 3) k
/-- The device site `k` of device `c` copies to, -/
abbrev dest (k : Fin 28) (c : Dev nD) : Dev nD := step (dirOf k) c
/-- and the device whose site `k` copies to `c`. -/
abbrev orig (k : Fin 28) (c : Dev nD) : Dev nD := back (dirOf k) c
theorem orig_dest (k : Fin 28) (c : Dev nD) : orig k (dest k c) = c := back_step _ c
theorem dest_orig (k : Fin 28) (c : Dev nD) : dest k (orig k c) = c := step_back _ c

/-- The chunk that site `k` of device `c` copies. -/
abbrev chunkOf (k : Fin 28) (c : Dev nD) : Dev nD :=
  (![c, c, c, c, c, c, c, c, lam c, lam c, lam c, lam c, rho c, rho c, rho c, rho c, zed c, zed c, zed c, zed c,
     lam (lam c), lam (lam c), lam (lam c), rho (rho c), rho (rho c), rho (rho c), zed (lam c), zed (rho c)] : Fin 28 → Dev nD) k
/-- The first row it copies, -/
abbrev siteLo (k : Fin 28) : ℕ :=
  (![0, 0, 256, 256, 128, 128, 384, 384, 0, 0, 128, 128, 256, 256, 384, 384, 0, 128, 256, 384, 0, 128, 160, 256, 384, 416, 0, 256] : Fin 28 → ℕ) k
/-- and the row after the last. -/
abbrev siteHi (k : Fin 28) : ℕ :=
  (![128, 128, 384, 384, 256, 256, 512, 512, 128, 128, 256, 256, 384, 384, 512, 512, 128, 256, 384, 512, 128, 256, 256, 384, 512, 512, 160, 416] : Fin 28 → ℕ) k
/-- The index of its send semaphore (on the sender), -/
abbrev sendIx (k : Fin 28) : Fin 81 :=
  (![1, 41, 21, 43, 2, 42, 22, 44, 3, 45, 4, 46, 23, 47, 24, 48, 7, 8, 27, 28, 5, 6, 49, 25, 26, 50, 9, 29] : Fin 28 → Fin 81) k
/-- and of its receive semaphore (on the target): ten further. -/
abbrev recvIx (k : Fin 28) : Fin 81 :=
  (![11, 51, 31, 53, 12, 52, 32, 54, 13, 55, 14, 56, 33, 57, 34, 58, 17, 18, 37, 38, 15, 16, 59, 35, 36, 60, 19, 39] : Fin 28 → Fin 81) k

/-! ## The amax transfers -/

/-- The device that amax transfer `k` of device `c` goes to: `k + 1` places further along the ring. -/
abbrev amaxDest (k : Fin 7) (c : Dev nD) : Dev nD := ringPos (ringPos c + 1 + ⟨k.val, by omega⟩)
/-- The device whose amax transfer `k` goes to `c`. -/
abbrev amaxOrig (k : Fin 7) (c : Dev nD) : Dev nD := ringPos (ringPos c - 1 - ⟨k.val, by omega⟩)
theorem amaxOrig_dest (k : Fin 7) (c : Dev nD) : amaxOrig k (amaxDest k c) = c := by revert k c; decide
theorem amaxDest_orig (k : Fin 7) (c : Dev nD) : amaxDest k (amaxOrig k c) = c := by revert k c; decide

/-! ## The indices of the amax cells -/

/-- The index of the receive cell of device `s`'s amax. -/
abbrev arecvIx (s : Fin 8) : Fin 81 := ⟨68 + s.val, by omega⟩
abbrev asendIx (k : Fin 7) : Fin 81 := ⟨61 + k.val, by omega⟩
abbrev xinIx (s : Fin 4) : Fin 81 := ⟨76 + s.val, by omega⟩

/-! ## Relative positions -/

/-- The devices as device `c` sees them. -/
abbrev rel (d : Fin 8) (c : Dev nD) : Dev nD :=
  (![c, lam c, rho c, zed c, lam (lam c), zed (lam c), zed (rho c), zed (lam (lam c))] : Fin 8 → Dev nD) d
theorem rel_inj (c : Dev nD) : Function.Injective fun d => rel d c := by revert c; decide
/-- The chunk that site `k` copies, seen from its sender, -/
abbrev srcRel (k : Fin 28) : Fin 8 := (![0, 0, 0, 0, 0, 0, 0, 0, 1, 1, 1, 1, 2, 2, 2, 2, 3, 3, 3, 3, 4, 4, 4, 4, 4, 4, 5, 6] : Fin 28 → Fin 8) k
/-- and from its target. -/
abbrev dstRel (k : Fin 28) : Fin 8 := (![1, 3, 2, 3, 1, 3, 2, 3, 4, 6, 4, 6, 4, 5, 4, 5, 5, 5, 6, 6, 2, 2, 7, 1, 1, 7, 7, 7] : Fin 28 → Fin 8) k
theorem srcRel_eq (k : Fin 28) (c : Dev nD) : chunkOf k c = rel (srcRel k) c := by revert k c; decide
theorem dstRel_eq (k : Fin 28) (c : Dev nD) : chunkOf k (orig k c) = rel (dstRel k) c := by revert k c; decide

/-! ## The order of the waits -/

/-- The cell that wait `t` of device `c` waits on: the barrier; the copies of `x` and `w`; the landings; the ends of the
    sites; the landings of the amax transfers and their ends. -/
abbrev waitIx (c : Dev nD) (t : Fin 76) : Fin 81 :=
  if h : t.val < 34 then
    (![0, 76, 78, 77, 79, 80, 11, 12, 31, 32, 51, 52, 53, 54, 13, 14, 33, 34, 17, 18, 37, 38, 15, 16, 35, 36, 55, 56, 57, 58, 19, 59, 39, 60] :
      Fin 34 → Fin 81) ⟨t.val, h⟩
  else if h : t.val < 62 then sendIx ⟨t.val - 34, by omega⟩
  else if h : t.val < 69 then arecvIx (amaxDest ⟨t.val - 62, by omega⟩ c)
  else asendIx ⟨t.val - 69, by omega⟩
/-- The cells that `c` never waits on. -/
abbrev idleIx (c : Dev nD) (i : Fin 5) : Fin 81 := (![10, 20, 30, 40, arecvIx c] : Fin 5 → Fin 81) i
/-- Every cell is one of these, once. -/
abbrev cellIx (c : Dev nD) (x : Fin 76 ⊕ Fin 5) : Fin 81 := Sum.elim (waitIx c) (idleIx c) x
theorem cellIx_surj (c : Dev nD) : Function.Surjective (cellIx c) := by revert c; decide
theorem cellIx_bij (c : Dev nD) : Function.Bijective (cellIx c) :=
  (Fintype.bijective_iff_surjective_and_card _).mpr ⟨cellIx_surj c, by simp⟩

/-- The wait for the landing of site `k`. -/
abbrev recvNo (k : Fin 28) : ℕ :=
  (![6, 10, 8, 12, 7, 11, 9, 13, 14, 26, 15, 27, 16, 28, 17, 29, 18, 19, 20, 21, 22, 23, 31, 24, 25, 33, 30, 32] : Fin 28 → ℕ) k
theorem recvNo_lt (k : Fin 28) : recvNo k < 34 := by revert k; decide
theorem wait_recv (k : Fin 28) (c : Dev nD) : waitIx c ⟨recvNo k, (recvNo_lt k).trans (by decide)⟩ = recvIx k := by revert k c; decide

/-! ## The pieces of the gathered `x` -/

/-- The rows of a chunk are cut here. -/
abbrev cut (i : Fin 7) : ℕ := (![0, 128, 160, 256, 384, 416, 512] : Fin 7 → ℕ) i
/-- The first piece of site `k` and the one after its last. -/
abbrev loIx (k : Fin 28) : Fin 7 := (![0, 0, 3, 3, 1, 1, 4, 4, 0, 0, 1, 1, 3, 3, 4, 4, 0, 1, 3, 4, 0, 1, 2, 3, 4, 5, 0, 3] : Fin 28 → Fin 7) k
abbrev hiIx (k : Fin 28) : Fin 7 := (![1, 1, 4, 4, 3, 3, 6, 6, 1, 1, 3, 3, 4, 4, 6, 6, 1, 3, 4, 6, 1, 3, 3, 4, 6, 6, 2, 5] : Fin 28 → Fin 7) k
theorem cut_lo (k : Fin 28) : siteLo k = cut (loIx k) := by revert k; decide
theorem cut_hi (k : Fin 28) : siteHi k = cut (hiIx k) := by revert k; decide

/-- A piece: a chunk (seen from the device), a range of rows, and which of three shares. -/
abbrev Piece : Type := Fin 8 × Fin 6 × Fin 3
/-- The wait after which the device holds a range of rows of a chunk, -/
abbrev arrAt (d : Fin 8) (i : Fin 6) : ℕ :=
  (![![1, 3, 3, 2, 4, 4], ![6, 7, 7, 24, 25, 25], ![22, 23, 23, 8, 9, 9], ![10, 11, 11, 12, 13, 13], ![14, 15, 15, 16, 17, 17],
     ![18, 19, 19, 28, 29, 29], ![26, 27, 27, 20, 21, 21], ![30, 30, 31, 32, 32, 33]] : Fin 8 → Fin 6 → ℕ) d i
abbrev arr (p : Piece) : ℕ := arrAt p.1 p.2.1
/-- and the site that a piece is lent to (99: none). -/
abbrev dep (p : Piece) : ℕ :=
  (![![![0, 1, 99], ![4, 5, 99], ![4, 5, 99], ![2, 3, 99], ![6, 7, 99], ![6, 7, 99]],
     ![![8, 9, 99], ![10, 11, 99], ![10, 11, 99], ![99, 99, 99], ![99, 99, 99], ![99, 99, 99]],
     ![![99, 99, 99], ![99, 99, 99], ![99, 99, 99], ![12, 13, 99], ![14, 15, 99], ![14, 15, 99]],
     ![![16, 99, 99], ![17, 99, 99], ![17, 99, 99], ![18, 99, 99], ![19, 99, 99], ![19, 99, 99]],
     ![![20, 99, 99], ![21, 99, 99], ![21, 22, 99], ![23, 99, 99], ![24, 99, 99], ![24, 25, 99]],
     ![![26, 99, 99], ![26, 99, 99], ![99, 99, 99], ![99, 99, 99], ![99, 99, 99], ![99, 99, 99]],
     ![![99, 99, 99], ![99, 99, 99], ![99, 99, 99], ![27, 99, 99], ![27, 99, 99], ![99, 99, 99]],
     ![![99, 99, 99], ![99, 99, 99], ![99, 99, 99], ![99, 99, 99], ![99, 99, 99], ![99, 99, 99]]] : Fin 8 → Fin 6 → Fin 3 → ℕ) p.1 p.2.1 p.2.2

/-! ## The rows of the amax buffers that change hands -/

/-- Permission `n`: the row of device `rel (ownRow n) c` in the amax buffer of device `rel (ownDev n) c`. -/
abbrev ownDev (n : Fin 17) : Fin 8 := (![0, 0, 0, 0, 2, 1, 3, 1, 4, 3, 3, 3, 5, 5, 7, 6, 0] : Fin 17 → Fin 8) n
abbrev ownRow (n : Fin 17) : Fin 8 := (![4, 5, 7, 6, 0, 0, 0, 2, 0, 2, 4, 1, 0, 2, 0, 0, 0] : Fin 17 → Fin 8) n
/-- The wait it comes with (0: held from the barrier on), -/
abbrev ownArr (n : Fin 17) : ℕ := (![0, 0, 0, 0, 0, 0, 0, 6, 14, 10, 10, 12, 18, 18, 30, 20, 0] : Fin 17 → ℕ) n
/-- the site it goes with (99: none), -/
abbrev ownDep (n : Fin 17) : ℕ := (![0, 1, 1, 3, 99, 99, 99, 8, 99, 16, 16, 18, 99, 26, 99, 99, 99] : Fin 17 → ℕ) n
/-- and its number on the device it goes to. -/
abbrev ownNext (n : Fin 17) : Fin 17 := (![7, 9, 10, 11, 16, 16, 16, 8, 16, 12, 13, 15, 16, 14, 16, 16, 16] : Fin 17 → Fin 17) n

/-! ## The cells -/

/-- The runtime's barrier semaphore. -/
abbrev barS : Sem sig := (SemArray.scalar (sig.barrier 0 rfl) : Sems sig S_).sem
/-- The semaphore of index `i`. -/
abbrev csem (i : Fin 81) : SemLoc sig := if i = 0 then .reg barS else .dma i
/-- Device `c`'s cell of index `i`. -/
abbrev kcell (ci : Dev nD × Fin 81) : GSem nD τ sig := ((ci.1 : Thread nD τ), csem ci.2)

theorem csem_inj : Function.Injective csem := by
  intro i j h
  unfold csem at h
  split at h <;> split at h
  · simp_all
  · cases h
  · cases h
  · exact SemLoc.dma.inj h
theorem kcell_inj : Function.Injective kcell := by
  rintro ⟨c, i⟩ ⟨d, j⟩ h
  have h1 := congrArg (fun g : GSem nD τ sig => g.1.1) h
  have h2 := csem_inj (congrArg (fun g : GSem nD τ sig => g.2) h)
  exact Prod.ext h1 h2

/-- What a cell is for. -/
inductive Role where
  /-- the barrier -/
  | bar
  /-- the source of site `k` has been read -/
  | send (k : Fin 28)
  /-- site `k` has landed -/
  | recv (k : Fin 28)
  /-- the source of amax transfer `k` has been read -/
  | asend (k : Fin 7)
  /-- device `s`'s amax has landed -/
  | arecv (s : Fin 8)
  /-- rows `128 s ≤ r < 128 (s + 1)` of `x` are in vmem -/
  | xin (s : Fin 4)
  /-- `w` is in vmem -/
  | win
  /-- unused by the body -/
  | idle
deriving DecidableEq

/-- The role of DMA semaphore `i`. -/
def dmaRole (i : Fin 81) : Role :=
  (![.idle,
     .send 0, .send 4, .send 8, .send 10, .send 20, .send 21, .send 16, .send 17, .send 26, .idle,
     .recv 0, .recv 4, .recv 8, .recv 10, .recv 20, .recv 21, .recv 16, .recv 17, .recv 26, .idle,
     .send 2, .send 6, .send 12, .send 14, .send 23, .send 24, .send 18, .send 19, .send 27, .idle,
     .recv 2, .recv 6, .recv 12, .recv 14, .recv 23, .recv 24, .recv 18, .recv 19, .recv 27, .idle,
     .send 1, .send 5, .send 3, .send 7, .send 9, .send 11, .send 13, .send 15, .send 22, .send 25,
     .recv 1, .recv 5, .recv 3, .recv 7, .recv 9, .recv 11, .recv 13, .recv 15, .recv 22, .recv 25,
     .asend 0, .asend 1, .asend 2, .asend 3, .asend 4, .asend 5, .asend 6,
     .arecv 0, .arecv 1, .arecv 2, .arecv 3, .arecv 4, .arecv 5, .arecv 6, .arecv 7,
     .xin 0, .xin 1, .xin 2, .xin 3, .win] : Fin 81 → Role) i
/-- The role of a semaphore. -/
def roleOf : SemLoc sig → Role
  | .reg _ => .bar
  | .dma q => dmaRole q

theorem role_bar : roleOf (csem 0) = .bar := rfl
theorem role_send (k : Fin 28) : roleOf (csem (sendIx k)) = .send k := by revert k; decide
theorem role_recv (k : Fin 28) : roleOf (csem (recvIx k)) = .recv k := by revert k; decide
theorem role_asend (k : Fin 7) : roleOf (csem (asendIx k)) = .asend k := by revert k; decide
theorem role_arecv (s : Fin 8) : roleOf (csem (arecvIx s)) = .arecv s := by revert s; decide
theorem role_xin (s : Fin 4) : roleOf (csem (xinIx s)) = .xin s := by revert s; decide
theorem role_win : roleOf (csem 80) = .win := by decide

theorem csem_dma {i : Fin 81} (h : i ≠ 0) : csem i = .dma i := if_neg h

end Cert.RingProof

end
-- ==== Proof.Protocol.lean ====
/-
# The protocol

One round (round 0) on every cell; who pays, what a payment hands over:

* barrier cell of `e`: one unit from each neighbour. The neighbour `step j e` pays duty `j`; with it `e` receives the regions
  of that neighbour's `gather` that `e`'s sites of direction `j` copy into, and row `e` of that neighbour's amax buffer.
* receive cell of site `k` on `e`: paid by the transfer of `orig k e`, whose landing hands over the region, holding its part
  of the gathered `x` (`GF`, the same contents on every device), and for some sites (`extra`) rows of amax buffers that a
  device further on will write.
* send cell of site `k` on `e`: the share of the source that the transfer was lent.
* receive cell of device `s`'s amax on `e`: row `s` of the amax buffer, holding `s`'s amax; its send cells: the lent share.
* the cells of the local copies of `x` and `w`: the copy's destination and its source.

A wait finds only higher cells still owed: the barrier is at level 1, the receive cell of site `k` at `k + 2`, those of the
amax transfers at 40, and in every device the wait for site `k` comes after the start of site `k`.
-/
module

public import proofs.«01_k».proof.Proof.Sites

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The contents -/

/-- Device `c`'s blocks of the arguments. -/
abbrev xArg (c : Dev nD) : (main_arg0 : Ref sig .tc).ty.Contents (Elt F) := m ((c : Thread nD τ).loc main_arg0)
abbrev wArg (c : Dev nD) : (main_arg1 : Ref sig .tc).ty.Contents (Elt F) := m ((c : Thread nD τ).loc main_arg1)

/-- The gathered `x`: chunk `o` is device `o`'s block, cast. -/
def GF : (cc0_scratch0 : Ref sig .tc).ty.Contents (Elt F) := fun i =>
  truncf .bf16 (xArg m (i 0) : FVec F S512x4096 .f32) bitsLt_bf16_f32 (ix2 (n0 := 512) (n1 := 4096) (i 1) (i 2))

/-- Device `c`'s block of `w`, cast. -/
def WF (c : Dev nD) : (cc0_scratch3 : Ref sig .tc).ty.Contents (Elt F) := k0_pay6 (wArg m c : Vec F S4096x256 .f32)

/-- Chunk `o` of the gathered `x`, -/
def chunkX (o : Dev nD) : Vec F S1x512x4096 .bf16 := fun i => GF m (ix3 (n0 := 8) (n1 := 512) (n2 := 4096) o (i 1) (i 2))
/-- and its half `h`. -/
def halfX (o : Dev nD) (h : Fin 2) : Vec F S1x256x4096 .bf16 := fun i =>
  GF m (ix3 (n0 := 8) (n1 := 512) (n2 := 4096) o ⟨256 * h.val + (i 1).val, by have h1 : (i 1).val < 256 := (i 1).isLt; have h2 := h.isLt; omega⟩ (i 2))

/-- The products before quantization, `relu (x w)`, of chunk `o` on device `c`, computed whole, -/
def chunkY (c o : Dev nD) : FVec F S512x256 .f32 := k0_pay7 (chunkX m o) (WF m c)
/-- and of its half `h`. -/
def halfY (c o : Dev nD) (h : Fin 2) : FVec F S256x256 .f32 := k0_pay9 (halfX m o h) (WF m c)

/-- The chunk of row `r` of the result, its place in the chunk, its half, its place in the half. -/
def rowChunk (r : Fin 4096) : Dev nD := ⟨r.val / 512, by have := r.isLt; show r.val / 512 < 8; omega⟩
def rowIn (r : Fin 4096) : Fin 512 := ⟨r.val % 512, by omega⟩
def rowHalf (r : Fin 4096) : Fin 2 := ⟨r.val % 512 / 256, by omega⟩
def rowInHalf (r : Fin 4096) : Fin 256 := ⟨r.val % 256, by omega⟩

/-- All of device `c`'s products: it computes its own and its partner's chunk whole, the others by halves. -/
def YF (c : Dev nD) : Vec F S4096x256 .f32 := fun i =>
  if rowChunk (i 0) = c ∨ rowChunk (i 0) = zed c then
    chunkY m c (rowChunk (i 0)) (ix2 (n0 := 512) (n1 := 256) (rowIn (i 0)) (i 1))
  else
    halfY m c (rowChunk (i 0)) (rowHalf (i 0)) (ix2 (n0 := 256) (n1 := 256) (rowInHalf (i 0)) (i 1))

/-- The largest of the products of chunk `o`, and of its half `h`. -/
def chunkMax (c o : Dev nD) : F .f32 := k0_pay8 (chunkX m o) (WF m c)
def halfMax (c o : Dev nD) (h : Fin 2) : F .f32 := k0_pay10 (halfX m o h) (WF m c)

/-- The largest of device `c`'s products. -/
def amaxOf (c : Dev nD) : FVec F S1 .f32 :=
  k0_pay35 (chunkMax m c c) (halfMax m c (lam c) 0) (halfMax m c (rho c) 1) (chunkMax m c (zed c))
    (halfMax m c (lam (lam c)) 0) (halfMax m c (rho (rho c)) 1) (halfMax m c (zed (lam c)) 0) (halfMax m c (zed (rho c)) 1)
    (halfMax m c (rho c) 0) (halfMax m c (lam c) 1) (halfMax m c (zed (rho c)) 0) (halfMax m c (zed (lam c)) 1)
    (halfMax m c (zed (lam (lam c))) 0) (halfMax m c (zed (rho (rho c))) 1)

/-- The amax vector a device sends, -/
def amaxRow (c : Dev nD) : (cc0_scratch4 : Ref sig .tc).ty.Contents (Elt F) := k0_pay37 (amaxOf m c)
/-- and the amax buffer once all have arrived: row `s` is device `s`'s. -/
def AF : (cc0_scratch5 : Ref sig .tc).ty.Contents (Elt F) := fun i => amaxRow m (i 0) (ix2 (n0 := 1) (n1 := 128) 0 (i 1))

/-! ## The regions -/

/-- Rows `a ≤ r < b` of chunk `o` of a `gather` buffer. -/
def rows (o : Dev nD) (a b : ℕ) : Finset S8x512x4096.Idx :=
  Finset.univ.filter fun i => (i 0).val = o.val ∧ a ≤ (i 1).val ∧ (i 1).val < b
/-- Rows `a ≤ r < b` of a block of `x`. -/
def xrows (a b : ℕ) : Finset S512x4096.Idx := Finset.univ.filter fun i => a ≤ (i 0).val ∧ (i 0).val < b
/-- Row `s` of an amax buffer. -/
def arow (s : Dev nD) : Finset S8x128.Idx := Finset.univ.filter fun i => (i 0).val = s.val

/-- Rows `a ≤ r < b` of chunk `o` in `c`'s `gather` buffer, at share `q` and contents `f`. -/
def gP (c o : Dev nD) (a b : ℕ) (q : PosShare TreeShare) (f : (cc0_scratch0 : Ref sig .tc).ty.Contents (Elt F)) : sProp 𝕄 :=
  ((c : Thread nD τ).loc cc0_scratch0) ↦[rows o a b]{q} f
/-- The same outright, at any contents. -/
def gAny (c o : Dev nD) (a b : ℕ) : sProp 𝕄 := iprop(∃ f, gP c o a b fullShare f)
/-- Row `s` of `c`'s amax buffer, outright, at any contents. -/
def aAny (c s : Dev nD) : sProp 𝕄 := iprop(∃ f : (cc0_scratch5 : Ref sig .tc).ty.Contents (Elt F), ((c : Thread nD τ).loc cc0_scratch5) ↦[arow s]{fullShare} f)
/-- The amax vector of `c` in its source buffer, at share `q`. -/
def sP (c : Dev nD) (q : PosShare TreeShare) : sProp 𝕄 := ((c : Thread nD τ).loc cc0_scratch4) ↦{q} amaxRow m c
/-- Row `s` of `c`'s amax buffer, holding `s`'s amax. -/
def aGot (c s : Dev nD) : sProp 𝕄 := ((c : Thread nD τ).loc cc0_scratch5) ↦[arow s]{fullShare} AF m

/-! ## The shares of a region: a ring transfer's, a crossing transfer's, the matmul's -/

abbrev shL : PosShare TreeShare := (fullShare : PosShare TreeShare).left
abbrev shM : PosShare TreeShare := (fullShare : PosShare TreeShare).right.left
abbrev shR : PosShare TreeShare := (fullShare : PosShare TreeShare).right.right

/-- The share of its source that site `k` is lent. -/
abbrev shareOf (k : Fin 28) : PosShare TreeShare := if dirOf k = 2 then shM else shL

/-! ## The amounts -/

abbrev gM : Memref sig .tc .vmem S8x512x4096 .bf16 := Memref.whole cc0_scratch0
abbrev xM : Memref sig .tc .vmem S512x4096 .f32 := Memref.whole cc0_scratch1
abbrev wM : Memref sig .tc .vmem S4096x256 .f32 := Memref.whole cc0_scratch2
abbrev wbM : Memref sig .tc .vmem S4096x256 .bf16 := Memref.whole cc0_scratch3
abbrev sM : Memref sig .tc .vmem S1x128 .f32 := Memref.whole cc0_scratch4
abbrev aM : Memref sig .tc .vmem S8x128 .f32 := Memref.whole cc0_scratch5
abbrev oM : Memref sig .tc .vmem S4096x256 .f32 := Memref.whole cc0_stg0_0

/-- What a transfer of `n` rows credits, -/
abbrev gCredit (n : ℕ) : ℕ := sig.dmaCredit .tc (Kind.tc.table .vmem) gM.view.buf ⟨2, ![n, 4096]⟩ .bf16
/-- site `k`, -/
def siteAmt (k : Fin 28) : ℕ := gCredit (siteHi k - siteLo k)
/-- an amax transfer, -/
def amaxAmt : ℕ := sM.view.dmaCredit
/-- the copies of a piece of `x` and of `w`. -/
def xAmt : ℕ := (xM.slice (Rect.unit (s := S512x4096) ![0, 0] S128x4096.size inb_S512x4096_S128x4096_0_0) (fun _ => rfl)).view.dmaCredit
def wAmt : ℕ := wM.view.dmaCredit

theorem siteAmt_pos (k : Fin 28) : 0 < siteAmt k := by
  refine sig.dmaCredit_pos _ _ _ _ _ ?_
  revert k; decide
theorem amaxAmt_pos : 0 < amaxAmt := View.dmaCredit_pos _ (by decide)
theorem xAmt_pos : 0 < xAmt := View.dmaCredit_pos _ (by decide)
theorem wAmt_pos : 0 < wAmt := View.dmaCredit_pos _ (by decide)

/-! ## The payloads -/

/-- Permission `n` of device `c` (`ownDev`, `ownRow`). -/
def aItem (c : Dev nD) (n : Fin 17) : sProp 𝕄 := aAny (rel (ownDev n) c) (rel (ownRow n) c)
/-- The amax rows that travel with site `k`'s landing on `e`. -/
def extra (k : Fin 28) (e : Dev nD) : sProp 𝕄 := bigSep (Finset.univ.filter fun n : Fin 17 => ownArr n = recvNo k) (aItem e)

/-- The region that site `k` of device `c` copies into, on its target. -/
def target (c : Dev nD) (k : Fin 28) : sProp 𝕄 := gAny (dest k c) (chunkOf k c) (siteLo k) (siteHi k)

/-- What duty `j` of device `e`'s barrier cell hands over. -/
def barPay (e : Dev nD) (j : Fin 3) : sProp 𝕄 :=
  iprop(bigSep (Finset.univ.filter fun k : Fin 28 => dirOf k = j) (target e) ∗ aAny (step j e) e)

/-- What a cell of role `r` on device `e` hands over. -/
def rolePay (e : Dev nD) (r : Role) (j : Fin 3) : sProp 𝕄 :=
  match r with
  | .bar => barPay e j
  | .send k => gP e (chunkOf k e) (siteLo k) (siteHi k) (shareOf k) (GF m)
  | .recv k => iprop(gP e (chunkOf k (orig k e)) (siteLo k) (siteHi k) fullShare (GF m) ∗ extra k e)
  | .asend k => sP m e (Transfers.shareTokN fullShare k.val)
  | .arecv s => aGot m e s
  | .xin s => iprop((((e : Thread nD τ).loc cc0_scratch1) ↦[xrows (128 * s.val) (128 * s.val + 128)]{fullShare} xArg m e)
      ∗ ((e : Thread nD τ).loc main_arg0) ↦[xrows (128 * s.val) (128 * s.val + 128)]{fullShare} xArg m e)
  | .win => iprop((((e : Thread nD τ).loc cc0_scratch2) ↦{fullShare} wArg m e) ∗ ((e : Thread nD τ).loc main_arg1) ↦{fullShare} wArg m e)
  | .idle => iprop(emp)

def roleAmt : Role → ℕ
  | .bar => 1
  | .send k | .recv k => siteAmt k
  | .asend _ | .arecv _ => amaxAmt
  | .xin _ => xAmt
  | .win => wAmt
  | .idle => 1

theorem roleAmt_pos : ∀ r : Role, 0 < roleAmt r
  | .bar | .idle => Nat.one_pos
  | .send k | .recv k => siteAmt_pos k
  | .asend _ | .arecv _ => amaxAmt_pos
  | .xin _ => xAmt_pos
  | .win => wAmt_pos

/-- The duties of a cell of role `r` on `e`. -/
def roleDuties (e : Dev nD) : Role → Finset (Fin 3)
  | .bar => Finset.univ
  | .idle => ∅
  | .arecv s => if s = e then ∅ else {0}
  | _ => {0}

instance gAny_storable (c o : Dev nD) (a b : ℕ) : BI.Storable (upEmb : UEmb _ 𝕄) (gAny (F := F) c o a b) := by unfold gAny gP; infer_instance
instance gP_storable (c o : Dev nD) (a b : ℕ) (q f) : BI.Storable (upEmb : UEmb _ 𝕄) (gP (F := F) c o a b q f) := by unfold gP; infer_instance
instance aAny_storable (c s : Dev nD) : BI.Storable (upEmb : UEmb _ 𝕄) (aAny (F := F) c s) := by unfold aAny; infer_instance
instance aGot_storable (c s : Dev nD) : BI.Storable (upEmb : UEmb _ 𝕄) (aGot (F := F) m c s) := by unfold aGot; infer_instance
instance sP_storable (c : Dev nD) (q) : BI.Storable (upEmb : UEmb _ 𝕄) (sP (F := F) m c q) := by unfold sP; infer_instance
instance extra_storable (k : Fin 28) (e : Dev nD) : BI.Storable (upEmb : UEmb _ 𝕄) (extra (F := F) k e) := by
  unfold extra aItem; infer_instance
instance target_storable (c : Dev nD) (k : Fin 28) : BI.Storable (upEmb : UEmb _ 𝕄) (target (F := F) c k) := by unfold target; infer_instance
instance barPay_storable (e : Dev nD) (j : Fin 3) : BI.Storable (upEmb : UEmb _ 𝕄) (barPay (F := F) e j) := by unfold barPay; infer_instance
instance rolePay_storable (e : Dev nD) (r : Role) (j : Fin 3) : BI.Storable (upEmb : UEmb _ 𝕄) (rolePay (F := F) m e r j) := by
  cases r <;> (unfold rolePay; infer_instance)

/-! ## The schedule -/

def Rd : Rounds.Schedule (GSem nD τ sig) (Fin 3) 𝕄 where
  duties g r := if r = 0 ∧ g.1.2 = .tc then roleDuties g.1.1 (roleOf g.2) else ∅
  unitless _ := False
  amount g _ _ := roleAmt (roleOf g.2)
  payload g _ d := rolePay m g.1.1 (roleOf g.2) d
  amount_pos g _ _ _ := roleAmt_pos _

instance Rd_payload_storable (g : GSem nD τ sig) (r : ℕ) (d : Fin 3) :
    BI.Storable (upEmb : UEmb _ 𝕄) ((Rd (F := F) m).payload g r d) := rolePay_storable m g.1.1 (roleOf g.2) d

theorem duties_cell (e : Dev nD) (s : SemLoc sig) : (Rd (F := F) m).duties ((e : Thread nD τ), s) 0 = roleDuties e (roleOf s) := by
  dsimp only [Rd]; exact if_pos ⟨rfl, rfl⟩
theorem duties_later (g : GSem nD τ sig) : ∀ r, 1 ≤ r → (Rd (F := F) m).duties g r = ∅ :=
  fun r hr => by dsimp only [Rd]; exact if_neg fun h => by omega
theorem amount_cell (e : Dev nD) (s : SemLoc sig) (r : ℕ) (d : Fin 3) : (Rd (F := F) m).amount ((e : Thread nD τ), s) r d = roleAmt (roleOf s) := rfl
theorem payload_cell (e : Dev nD) (s : SemLoc sig) (r : ℕ) (d : Fin 3) : (Rd (F := F) m).payload ((e : Thread nD τ), s) r d = rolePay m e (roleOf s) d := rfl

/-- A cell with the one duty 0 expects its amount, -/
theorem expect_one {e : Dev nD} {s : SemLoc sig} (h : roleDuties e (roleOf s) = {0}) :
    (Rd (F := F) m).expect ((e : Thread nD τ), s) 0 = roleAmt (roleOf s) := by
  unfold Schedule.expect Schedule.amountOf
  rw [duties_cell, h, Finset.sum_singleton, amount_cell]
/-- the barrier three units. -/
theorem expect_bar (e : Dev nD) : (Rd (F := F) m).expect (kcell (e, 0)) 0 = 3 := by
  unfold Schedule.expect Schedule.amountOf
  rw [duties_cell]
  rfl

/-! ## What each device owes at launch -/

/-- The cell that payment `j` of device `c` goes to: three barrier signals, 28 sites, seven amax transfers. -/
def payKey (c : Dev nD) (j : Fin 38) : Dev nD × Fin 81 :=
  if h : j.val < 3 then (back ⟨j.val, h⟩ c, 0)
  else if h2 : j.val < 31 then (dest ⟨j.val - 3, by omega⟩ c, recvIx ⟨j.val - 3, by omega⟩)
  else (amaxDest ⟨j.val - 31, by omega⟩ c, arecvIx c)
/-- Its amount. -/
def payAmt (j : Fin 38) : ℕ :=
  if h : j.val < 3 then 1 else if h2 : j.val < 31 then siteAmt ⟨j.val - 3, by omega⟩ else amaxAmt
/-- The payments from number `n` on, -/
abbrev paysFrom (n : ℕ) : Finset (Fin 38) := Finset.univ.filter fun j => n ≤ j.val
/-- and what is owed for them. -/
def owedFrom (c : Dev nD) (n : ℕ) : CellTallies nD τ sig Unit :=
  ∑ j ∈ paysFrom n, tallyAt (kcell (payKey c j)) () (payAmt j)

theorem paysFrom_succ (j : Fin 38) : paysFrom j.val = insert j (paysFrom (j.val + 1)) := by
  ext i; simp only [Finset.mem_filter, Finset.mem_univ, true_and, Finset.mem_insert, Fin.ext_iff]; omega
theorem owedFrom_succ (c : Dev nD) (j : Fin 38) :
    owedFrom c j.val = owedFrom c (j.val + 1) + tallyAt (kcell (payKey c j)) () (payAmt j) := by
  unfold owedFrom
  rw [paysFrom_succ, Finset.sum_insert (by simp), add_comm]
theorem owedFrom_end (c : Dev nD) : owedFrom c 38 = 0 := by
  unfold owedFrom
  rw [show paysFrom 38 = ∅ from by ext i; simp only [Finset.mem_filter, Finset.mem_univ, true_and, Finset.notMem_empty, iff_false]; omega, Finset.sum_empty]

/-! ## The levels -/

def L (g : GSem nD τ sig) : Finset Unit := if g.1.2 = .tc then {()} else ∅
def roleLev : Role → ℕ
  | .bar => 1
  | .recv k => k.val + 2
  | .arecv _ => 40
  | _ => 0
def lv (g : GSem nD τ sig) (_ : Unit) : ℕ := roleLev (roleOf g.2)

theorem L_of_ne (g : GSem nD τ sig) (h : g.1.2 ≠ .tc) : L g = ∅ := if_neg h
theorem L_tc (c : Dev nD) (sm : SemLoc sig) : L ((c : Thread nD τ), sm) = {()} := if_pos rfl

/-- The level of the cell that payment `j` goes to. -/
abbrev payLev (j : Fin 38) : ℕ := if j.val < 3 then 1 else if j.val < 31 then j.val - 1 else 40
theorem lev_payKey (c : Dev nD) (j : Fin 38) : roleLev (roleOf (csem (payKey c j).2)) = payLev j := by
  unfold payKey payLev
  split
  · rfl
  · split
    · rw [role_recv]; simp only [roleLev]; omega
    · rw [role_arecv]; rfl

theorem owedFrom_pos {c : Dev nD} {n : ℕ} {g : GSem nD τ sig} {u : Unit} (h : 0 < owedFrom c n g u) :
    ∃ j : Fin 38, n ≤ j.val ∧ g = kcell (payKey c j) := by
  unfold owedFrom at h
  rw [Finset.sum_apply, Finsupp.finset_sum_apply] at h
  obtain ⟨j, hj, hp⟩ := Finset.exists_ne_zero_of_sum_ne_zero (Nat.pos_iff_ne_zero.mp h)
  refine ⟨j, (Finset.mem_filter.mp hj).2, ?_⟩
  by_contra hne
  rw [tallyAt_apply, if_neg (fun h => hne h.1)] at hp
  exact hp rfl

/-- A device may wait on a semaphore below the cells of all the payments it still owes. -/
theorem mayWait_of (c : Dev nD) (s : SemLoc sig) (n : ℕ) (h : ∀ j : Fin 38, n ≤ j.val → roleLev (roleOf s) < payLev j) :
    (levAts L lv : sProp 𝕄) ⊢ MayWait (c : Thread nD τ) s () (owedFrom c n) := by
  refine MayOwe.of_cut (L := L) (lev := lv) (roleLev (roleOf s)) (fun p hp => by rw [Finset.mem_singleton.mp hp, L_tc]; exact Finset.mem_singleton_self _)
    (fun g u hg => by obtain ⟨j, hj, rfl⟩ := owedFrom_pos hg; rw [L_tc]; exact Finset.mem_singleton_self _)
    (fun p hp => by rw [Finset.mem_singleton.mp hp]; exact le_rfl)
    (fun g u hg => by
      obtain ⟨j, hj, rfl⟩ := owedFrom_pos hg
      show roleLev (roleOf s) < roleLev (roleOf (csem (payKey c j).2))
      rw [lev_payKey]; exact h j hj)

end Cert.RingProof

end
-- ==== Proof.State.lean ====
/-
# A device's state, and its waits and transfers as the protocol sees them

`St c n t` is what device `c` holds of the protocol after its first `n` payments and its first `t` waits: the cells'
invariants, what it still owes, the tokens of the payments to come, its positions on the cells it has not yet waited for, with
the credit it will wait with, and the other cells' counters at zero.
-/
module

public import proofs.«01_k».proof.Proof.Protocol

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Lists of resources by number -/

theorem bs_insert {I : Type} [DecidableEq I] {s : Finset I} {i : I} (h : i ∉ s) (Φ : I → sProp 𝕄) : bigSep (insert i s) Φ = iprop(Φ i ∗ bigSep s Φ) :=
  bigSep_insert h
theorem bs_erase {I : Type} [DecidableEq I] {s : Finset I} {i : I} (h : i ∈ s) (Φ : I → sProp 𝕄) : bigSep s Φ = iprop(Φ i ∗ bigSep (s.erase i) Φ) :=
  bigSep_erase h
theorem bs_elim {I : Type} [DecidableEq I] {s : Finset I} {i : I} (h : i ∈ s) (Φ : I → sProp 𝕄) : bigSep s Φ ⊢ Φ i :=
  bigSep_elim h
theorem sep_emp_eq (P : sProp 𝕄) : iprop(P ∗ emp) = P := equiv_iff.mp sep_emp
/-- Items from number `j` on, or up to it: the one with that number and the others. -/
theorem bigSep_from_succ {N : ℕ} (j : Fin N) (Φ : Fin N → sProp 𝕄) :
    bigSep (Finset.univ.filter fun i : Fin N => j.val ≤ i.val) Φ
      = iprop(Φ j ∗ bigSep (Finset.univ.filter fun i : Fin N => j.val + 1 ≤ i.val) Φ) := by
  refine Eq.trans ?_ (bigSep_insert (s := Finset.univ.filter fun i : Fin N => j.val + 1 ≤ i.val) (i := j) (by simp))
  congr 1
  ext i; simp only [Finset.mem_filter, Finset.mem_univ, true_and, Finset.mem_insert, Fin.ext_iff]; omega
theorem bigSep_upto_succ {N : ℕ} (j : Fin N) (Φ : Fin N → sProp 𝕄) :
    bigSep (Finset.univ.filter fun i : Fin N => i.val < j.val + 1) Φ
      = iprop(Φ j ∗ bigSep (Finset.univ.filter fun i : Fin N => i.val < j.val) Φ) := by
  refine Eq.trans ?_ (bigSep_insert (s := Finset.univ.filter fun i : Fin N => i.val < j.val) (i := j) (by simp))
  congr 1
  ext i; simp only [Finset.mem_filter, Finset.mem_univ, true_and, Finset.mem_insert, Fin.ext_iff]; omega

variable (m : (ℓ : Loc nD τ sig) → Buf (Elt F) ℓ)

/-! ## The state -/

/-- Every cell's invariant, and that every cell has reached round 0. -/
def records (K : Dev nD × Fin 81 → ℕ) : sProp 𝕄 :=
  iprop(bigSep Finset.univ (fun ci => cellInv ER (Rd m) (K ci) (kcell ci)) ∗ bigSep Finset.univ (fun ci => reached ER (kcell ci) 0))
instance records_persistent (K : Dev nD × Fin 81 → ℕ) : BI.Persistent (records m K) := by unfold records; infer_instance

theorem inv_at (K : Dev nD × Fin 81 → ℕ) (ci : Dev nD × Fin 81) : records m K ⊢ cellInv ER (Rd m) (K ci) (kcell ci) := by
  unfold records
  iintro ⟨H, -⟩; iapply (bs_elim (Finset.mem_univ ci) (fun ci => cellInv ER (Rd m) (K ci) (kcell ci))); iexact H
theorem reached_at (K : Dev nD × Fin 81 → ℕ) (ci : Dev nD × Fin 81) : records m K ⊢ reached ER (kcell ci) 0 := by
  unfold records
  iintro ⟨-, H⟩; iapply (bs_elim (Finset.mem_univ ci) (fun ci => reached ER (kcell ci) 0)); iexact H

/-- The credit that comes at launch, on the cells that other devices pay. -/
def launchCr (c : Dev nD) (i : Fin 81) : sProp 𝕄 :=
  match roleOf (csem i) with
  | .bar => cred (tallyAt (kcell (c, i)) () 3)
  | .recv k => cred (tallyAt (kcell (c, i)) () (siteAmt k))
  | .arecv s => if s = c then iprop(emp) else cred (tallyAt (kcell (c, i)) () amaxAmt)
  | _ => iprop(emp)
theorem launchCr_recv (c : Dev nD) (k : Fin 28) : launchCr (F := F) c (recvIx k) = cred (tallyAt (kcell (c, recvIx k)) () (siteAmt k)) := by
  unfold launchCr; rw [role_recv]
theorem launchCr_arecv {c s : Dev nD} (h : s ≠ c) : launchCr (F := F) c (arecvIx s) = cred (tallyAt (kcell (c, arecvIx s)) () amaxAmt) := by
  unfold launchCr; rw [role_arecv]; exact if_neg h
theorem launchCr_send (c : Dev nD) (k : Fin 28) : launchCr (F := F) c (sendIx k) = iprop(emp) := by
  unfold launchCr; rw [role_send]
theorem launchCr_asend (c : Dev nD) (k : Fin 7) : launchCr (F := F) c (asendIx k) = iprop(emp) := by
  unfold launchCr; rw [role_asend]
theorem launchCr_xin (c : Dev nD) (s : Fin 4) : launchCr (F := F) c (xinIx s) = iprop(emp) := by
  unfold launchCr; rw [role_xin]
theorem launchCr_win (c : Dev nD) : launchCr (F := F) c 80 = iprop(emp) := by
  unfold launchCr; rw [role_win]
theorem launchCr_bar (c : Dev nD) : launchCr (F := F) c 0 = cred (tallyAt (kcell (c, 0)) () 3) := rfl
/-- A cell not yet waited for: the position, and that credit. -/
def todo (c : Dev nD) (i : Fin 81) : sProp 𝕄 := iprop(atPos ER (kcell (c, i)) 0 ∅ 0 ∗ launchCr c i)
/-- The cells that device `c` waits on, those of the waits before `t` closed. -/
def cellsAt (c : Dev nD) (t : ℕ) : sProp 𝕄 :=
  iprop(bigSep (Finset.univ.filter fun i : Fin 76 => i.val < t) (fun i => semVal (kcell (c, waitIx c i)) 0)
    ∗ bigSep (Finset.univ.filter fun i : Fin 76 => t ≤ i.val) (fun i => todo c (waitIx c i)))

theorem cellsAt_take {c : Dev nD} (t : Fin 76) :
    cellsAt (F := F) c t.val ⊢ iprop(todo c (waitIx c t) ∗ (semVal (kcell (c, waitIx c t)) 0 -∗ cellsAt c (t.val + 1))) := by
  unfold cellsAt
  rw [bigSep_from_succ t, bigSep_upto_succ t]
  iintro ⟨H1, H2, H3⟩
  isplitl [H2]; · iexact H2
  iintro H
  isplitl [H H1]
  · isplitl [H] <;> iassumption
  iexact H3

/-- The duty that payment `j` pays. -/
def payDuty (j : Fin 38) : Fin 3 := if h : j.val < 3 then ⟨j.val, h⟩ else 0
/-- The send cell of payment `j`, if it is a transfer. -/
def paySend (j : Fin 38) : Fin 81 :=
  if h2 : j.val < 31 then sendIx ⟨j.val - 3, by omega⟩ else asendIx ⟨j.val - 31, by omega⟩
/-- The tokens of payment `j` of device `c`. -/
def payTok (c : Dev nD) (j : Fin 38) : sProp 𝕄 :=
  iprop(dutyTok ER (kcell (payKey c j)) 0 (payDuty j) ∗ if j.val < 3 then iprop(emp) else dutyTok ER (kcell (c, paySend j)) 0 (0 : Fin 3))

/-- The state after `n` payments and `t` waits. -/
def St (c : Dev nD) (n t : ℕ) : sProp 𝕄 :=
  iprop(∃ (K : Dev nD × Fin 81 → ℕ) (W : Waits sig Unit), records m K ∗ levAts L lv ∗ owes (c : Thread nD τ) (owedFrom c n) W
    ∗ bigSep (paysFrom n) (payTok c) ∗ cellsAt c t)

/-! ## Waiting -/

/-- What the round of a cell with one duty hands over. -/
theorem rest_one {c : Dev nD} {s : SemLoc sig} (hd : roleDuties c (roleOf s) = {0}) :
    bigSep ((Rd (F := F) m).duties ((c : Thread nD τ), s) 0 \ ∅) (fun d => (Rd (F := F) m).payload ((c : Thread nD τ), s) 0 d) = rolePay m c (roleOf s) 0 := by
  rw [Finset.sdiff_empty, duties_cell, hd, bigSep_singleton, payload_cell]

/-- A wait for the whole of a cell with one duty: the cell is closed, its payload is the device's. `R` is what else the
    credit waited with is made of. -/
theorem wp_wait_cell {c : Dev nD} (t : Fin 76) {i : Fin 81} (hi : waitIx c t = i) {n : ℕ}
    (hd : roleDuties c (roleOf (csem i)) = {0}) (hl : ∀ j : Fin 38, n ≤ j.val → roleLev (roleOf (csem i)) < payLev j)
    (R : sProp 𝕄) (hR : iprop(launchCr c i ∗ R) ⊢ cred (tallyAt (kcell (c, i)) () (roleAmt (roleOf (csem i)))))
    {α : Type} {w : TpuEff nD τ sig (Elt F) Λ₀ .tc PUnit} {k : PUnit → Prog (TpuEff nD τ sig (Elt F) Λ₀ .tc) α} {Q : α → sProp 𝕄}
    (hw : ∀ K : PUnit → sProp 𝕄, wpE (defs₀ (F := F)) 𝒱₀ (c : Thread nD τ) none Set.univ w K
      = waitSpec (c : Thread nD τ) Set.univ (csem i) (roleAmt (roleOf (csem i))) K) :
    iprop(St m c n t.val ∗ R)
      ⊢ iprop((St m c n (t.val + 1) ∗ rolePay m c (roleOf (csem i)) 0 -∗ wpc c (k ⟨⟩) Q) -∗ wpc c (.op w k) Q) := by
  subst hi
  iintro ⟨Hst, HR⟩ Hk
  unfold St
  icases Hst with ⟨%K, %W, #Hrec, #Hlev, HO, Htok, Hc⟩
  ihave Hc' := (cellsAt_take t) $$ Hc
  unfold todo
  icases Hc' with ⟨⟨Hat, Hcr⟩, Hback⟩
  ihave Hcr' := hR $$ [Hcr HR]
  · isplitl [Hcr] <;> iassumption
  iapply (Rounds.wp_wait_rest_token 𝒱₀ ER (Rd m) (c : Thread nD τ) none (κ := K (c, waitIx c t)) (sm := csem (waitIx c t)) hw (Set.mem_univ _) () (O := owedFrom c n) (W := W)
      (R := 0) (m := 0) (T := ∅) (by rw [Nat.zero_add, expect_one m hd])) $$ [Hcr' HO Hat]
  · isplitr; · iapply (inv_at m K (c, waitIx c t)); iexact Hrec
    isplitl [Hcr']; · iexact Hcr'
    isplitl [HO]; · iexact HO
    isplitr; · iapply (mayWait_of c (csem (waitIx c t)) n hl); iexact Hlev
    iexact Hat
  iintro ⟨HO, Hat, -, Hpay⟩
  imod (Rounds.cell_close ER (Rd m) (Set.mem_univ (K (c, waitIx c t))) (fun h => h) (R := 0 + 1) (duties_later m (kcell (c, waitIx c t)))) $$ [Hat] with Hz
  · isplitr; · iapply (inv_at m K (c, waitIx c t)); iexact Hrec
    iexact Hat
  iapply Hk
  isplitr [Hpay]
  · iexists K, _
    isplitr; · iexact Hrec
    isplitr; · iexact Hlev
    isplitl [HO]; · iexact HO
    isplitl [Htok]; · iexact Htok
    iapply Hback; iexact Hz
  ihave Hp := (Entails.of_eq (rest_one m hd)) $$ Hpay
  iexact Hp

/-! ## Sending -/

theorem payTok_send {c n : Dev nD} {j : Fin 38} (hj : 3 ≤ j.val) {i : Fin 81} (hn : payKey c j = (n, i)) :
    payTok (F := F) c j = iprop(dutyTok ER (kcell (n, i)) 0 (0 : Fin 3) ∗ dutyTok ER (kcell (c, paySend j)) 0 (0 : Fin 3)) := by
  unfold payTok
  rw [if_neg (by omega), show payDuty j = 0 from dif_neg (by omega), hn]

/-- A transfer of the ring phase, as the protocol sees it: what it lends is the payload of its send cell, what lands (with
    what it carries along) the payload of the receive cell on its target. -/
theorem wp_pay {c n : Dev nD} (j : Fin 38) (hj : 3 ≤ j.val) {i : Fin 81} (hn : payKey c j = (n, i)) {t : ℕ}
    {sp : Space} {s : Shape} {e : EltTy} {sp' : Space} {src : Memref sig .tc sp s e} {dst : Memref sig .tc sp' s e} {sS sR : SemLoc sig}
    (hS : sS = csem (paySend j)) (hR : sR = csem i)
    {hsc : (dst : Memref sig (Dev.tc n : Thread nD τ).2.kind sp' s e).view.ref.isScScratch = false}
    {hsrc : src.view.WordExact} {hdst : dst.view.WordExact}
    {hsem : DmaTarget.Typed sp sR (.remote (Dev.tc n : Thread nD τ) dst sS hsc)}
    (hN : dst.view.amount sR = payAmt j) (hN₁ : roleAmt (roleOf (csem (paySend j))) = payAmt j) (hN₂ : roleAmt (roleOf (csem i)) = payAmt j)
    (hd₁ : (0 : Fin 3) ∈ roleDuties c (roleOf (csem (paySend j)))) (hd₂ : (0 : Fin 3) ∈ roleDuties n (roleOf (csem i)))
    {q : PosShare TreeShare} {fs : Buf (Elt F) (src.view.loc (c : Thread nD τ))} {X : sProp 𝕄}
    {fd : Buf (Elt F) (dst.view.loc (Dev.tc n : Thread nD τ))}
    (hp₁ : (src.view.loc (c : Thread nD τ) ↦[src.view.set]{q} fs) ⊢ rolePay m c (roleOf (csem (paySend j))) 0)
    (hp₂ : iprop((dst.view.loc (Dev.tc n : Thread nD τ) ↦[dst.view.set]{fullShare} (dst.view.write (Elt F) fd (src.view.read (Elt F) fs) Finset.univ)) ∗ X)
      ⊢ rolePay m n (roleOf (csem i)) 0)
    {α : Type} {Q : α → sProp 𝕄} {k : PUnit → Prog (TpuEff nD τ sig (Elt F) Λ₀ .tc) α} :
    iprop(St m c j.val t ∗ (src.view.loc (c : Thread nD τ) ↦[src.view.set]{q} fs)
        ∗ (dst.view.loc (Dev.tc n : Thread nD τ) ↦[dst.view.set]{fullShare} fd) ∗ X)
      ⊢ iprop(((St m c (j.val + 1) t ∗ cred (tallyAt (kcell (c, paySend j)) () (payAmt j))) -∗ wpc c (k ⟨⟩) Q)
          -∗ wpc c (.op (.enqueueDma src (.remote (Dev.tc n : Thread nD τ) dst sS hsc) sR hsrc hdst hsem) k) Q) := by
  subst hS hR
  iintro ⟨Hst, Hsrc, Hdst, HX⟩ Hk
  unfold St
  icases Hst with ⟨%K, %W, #Hrec, #Hlev, HO, Htok, Hc⟩
  ihave Htok' := (Entails.of_eq (bigSep_from_succ j (payTok c))) $$ Htok
  icases Htok' with ⟨Ht, Htok⟩
  ihave Ht' := (Entails.of_eq (payTok_send hj hn)) $$ Ht
  icases Ht' with ⟨Ht2, Ht1⟩
  iapply (Rounds.wp_send_pointsTo_with 𝒱₀ ER (Rd m) (c : Thread nD τ) none (κ₁ := K (c, paySend j)) (κ₂ := K (n, i))
    (r₁ := 0) (r₂ := 0) (d₁ := (0 : Fin 3)) (d₂ := (0 : Fin 3)) (fd := fd) (F := X)
    (by rw [duties_cell]; exact hd₁) (by rw [duties_cell]; exact hd₂) () () (payAmt j) hN hN₁ hN₂ (owedFrom c (j.val + 1))
    (O₀ := owedFrom c j.val) (by have := owedFrom_succ c j; rw [hn] at this; exact this) (W := W) hp₁ hp₂) $$ [Hsrc Hdst HX HO Ht1 Ht2]
  · isplitr; · iapply (inv_at m K (c, paySend j)); iexact Hrec
    isplitr; · iapply (inv_at m K (n, i)); iexact Hrec
    isplitl [Hsrc]; · iexact Hsrc
    isplitl [Hdst HX]
    · isplitl [Hdst] <;> iassumption
    isplitl [HO]; · iexact HO
    isplitl [Ht1]; · iexact Ht1
    isplitr; · iapply (reached_at m K (c, paySend j)); iexact Hrec
    isplitl [Ht2]; · iexact Ht2
    iapply (reached_at m K (n, i)); iexact Hrec
  iintro ⟨Hcr, HO⟩
  iapply Hk
  isplitr [Hcr]
  · iexists K, W
    isplitr; · iexact Hrec
    isplitr; · iexact Hlev
    isplitl [HO]; · iexact HO
    isplitl [Htok]; · iexact Htok
    iexact Hc
  iexact Hcr

end Cert.RingProof

end
-- ==== Proof.Pool.lean ====
/-
# The pieces of the buffers a device holds

A device's `gather` buffer is cut into pieces (`Piece`: a chunk, a range of rows, one of three shares). Which pieces it holds
after `t` waits, its sites before `k` started, is a set `held t k` told by the tables `arr` and `dep`; a step of the ring takes
a subset out or puts one in. In the same way `owned t k` tells which rows of amax buffers it may write.
-/
module

public import proofs.«01_k».proof.Proof.State

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Lists of resources -/

theorem bs_union {I : Type} [DecidableEq I] {s t u : Finset I} (h : ∀ i, i ∈ u ↔ i ∈ s ∨ i ∈ t) (hd : ∀ i, i ∈ s → i ∈ t → False) (Φ : I → sProp 𝕄) :
    bigSep u Φ = iprop(bigSep s Φ ∗ bigSep t Φ) := by
  have hu : u = s ∪ t := by ext i; rw [Finset.mem_union]; exact h i
  subst hu
  exact BI.bigSep_union (Finset.disjoint_left.mpr fun i hs ht => hd i hs ht)
/-- By the value of a function. -/
theorem bs_fibers {I J : Type} [DecidableEq I] [DecidableEq J] [Fintype I] [Fintype J] {A : Type} [DecidableEq A] (f : I → A) (g : J → A)
    (hg : Function.Injective g) (h : ∀ i, ∃ j, g j = f i) (Φ : I → sProp 𝕄) :
    bigSep Finset.univ Φ = bigSep Finset.univ fun j => bigSep (Finset.univ.filter fun i => f i = g j) Φ := by
  rw [← BI.bigSep_biUnion_eq Finset.univ (fun j => Finset.univ.filter fun i => f i = g j) Φ
    (fun j _ j' _ hne => Finset.disjoint_filter.mpr fun i _ hi hi' => hne (hg (hi.symm.trans hi')))]
  congr 1
  ext i
  simp only [Finset.mem_univ, true_iff, Finset.mem_biUnion, Finset.mem_filter, true_and]
  obtain ⟨j, hj⟩ := h i
  exact ⟨j, hj.symm⟩
theorem bs_prod {I J : Type} [DecidableEq I] [DecidableEq J] (s : Finset I) (t : Finset J) (Φ : I × J → sProp 𝕄) :
    bigSep (s ×ˢ t) Φ = bigSep s fun i => bigSep t fun j => Φ (i, j) := by
  induction s using Finset.induction_on with
  | empty => rw [Finset.empty_product]; rfl
  | insert i s hi ih =>
    rw [bs_insert hi, ← ih, bs_union (s := t.map ⟨fun j => (i, j), fun j j' h => (Prod.ext_iff.mp h).2⟩) (t := s ×ˢ t) ?_ ?_ Φ, BI.bigSep_map]
    · rfl
    · rintro ⟨a, b⟩
      simp only [Finset.mem_product, Finset.mem_insert, Finset.mem_map, Function.Embedding.coeFn_mk, Prod.mk.injEq]
      constructor
      · rintro ⟨h | h, hb⟩
        · subst h; exact Or.inl ⟨b, hb, rfl⟩
        · exact Or.inr ⟨h, hb⟩
      · rintro (⟨b', hb, e⟩ | h)
        · obtain ⟨e1, e2⟩ := Prod.ext_iff.mp e; dsimp only at e1 e2; subst e1 e2; exact ⟨Or.inl rfl, hb⟩
        · exact ⟨Or.inr h.1, h.2⟩
    · rintro ⟨a, b⟩ h h'
      obtain ⟨b', -, e⟩ := Finset.mem_map.mp h
      have e1 : i = a := (Prod.ext_iff.mp e).1
      rw [e1] at hi
      exact hi (Finset.mem_product.mp h').1

/-! ## The `gather` buffer -/

theorem cut_le {i j : Fin 7} (h : i ≤ j) : cut i ≤ cut j := by revert i j; decide
/-- Every row lies in one range. -/
theorem row_range (r : ℕ) (h : r < 512) : ∃ i : Fin 6, cut i.castSucc ≤ r ∧ r < cut i.succ := by
  by_cases h1 : r < 128; · exact ⟨0, Nat.zero_le _, h1⟩
  by_cases h2 : r < 160; · exact ⟨1, Nat.le_of_not_lt h1, h2⟩
  by_cases h3 : r < 256; · exact ⟨2, Nat.le_of_not_lt h2, h3⟩
  by_cases h4 : r < 384; · exact ⟨3, Nat.le_of_not_lt h3, h4⟩
  by_cases h5 : r < 416; · exact ⟨4, Nat.le_of_not_lt h4, h5⟩
  exact ⟨5, Nat.le_of_not_lt h5, h⟩

/-- Rows between two cuts, range by range. -/
theorem gP_cuts (c o : Dev nD) (a b : Fin 7) (q : PosShare TreeShare) (f : (cc0_scratch0 : Ref sig .tc).ty.Contents (Elt F)) :
    gP c o (cut a) (cut b) q f
      = bigSep (Finset.univ.filter fun i : Fin 6 => a.val ≤ i.val ∧ i.val < b.val) fun i => gP c o (cut i.castSucc) (cut i.succ) q f := by
  unfold gP
  rw [← pointsTo_biUnion]
  · congr 1
    ext x
    unfold rows
    simp only [Finset.mem_filter, Finset.mem_univ, true_and, Finset.mem_biUnion]
    constructor
    · rintro ⟨h0, h1, h2⟩
      obtain ⟨i, hi, hi'⟩ := row_range (x 1).val (x 1).isLt
      refine ⟨i, ⟨?_, ?_⟩, h0, hi, hi'⟩
      · by_contra hc
        have := cut_le (i := i.succ) (j := a) (by rw [Fin.le_def, Fin.val_succ]; omega)
        omega
      · by_contra hc
        have := cut_le (i := b) (j := i.castSucc) (by rw [Fin.le_def, Fin.val_castSucc]; omega)
        omega
    · rintro ⟨i, ⟨ha, hb⟩, h0, h1, h2⟩
      have h3 := cut_le (i := a) (j := i.castSucc) (by rw [Fin.le_def, Fin.val_castSucc]; omega)
      have h4 := cut_le (i := i.succ) (j := b) (by rw [Fin.le_def, Fin.val_succ]; omega)
      exact ⟨h0, by omega, by omega⟩
  · intro i _ j _ hne
    rw [Finset.disjoint_left]
    intro x hx hy
    unfold rows at hx hy
    simp only [Finset.mem_filter, Finset.mem_univ, true_and] at hx hy
    rcases Nat.lt_or_gt_of_ne (fun h => hne (Fin.ext h)) with h | h
    · have := cut_le (i := i.succ) (j := j.castSucc) (by rw [Fin.le_def, Fin.val_succ, Fin.val_castSucc]; omega)
      omega
    · have := cut_le (i := j.succ) (j := i.castSucc) (by rw [Fin.le_def, Fin.val_succ, Fin.val_castSucc]; omega)
      omega

/-- The three shares. -/
abbrev sh (s : Fin 3) : PosShare TreeShare := (![shL, shM, shR] : Fin 3 → PosShare TreeShare) s

theorem bs_fin3 (Φ : Fin 3 → sProp 𝕄) : bigSep Finset.univ Φ = iprop(Φ 0 ∗ Φ 1 ∗ Φ 2) := by
  rw [show (Finset.univ : Finset (Fin 3)) = {0, 1, 2} from by decide, bs_insert (by decide), bs_insert (by decide), BI.bigSep_singleton]

theorem gP_shares (c o : Dev nD) (a b : ℕ) (f : (cc0_scratch0 : Ref sig .tc).ty.Contents (Elt F)) :
    gP c o a b fullShare f = bigSep Finset.univ fun s => gP c o a b (sh s) f := by
  rw [bs_fin3]
  unfold gP
  have hs : ∀ q : PosShare TreeShare, (((c : Thread nD τ).loc cc0_scratch0) ↦[rows o a b]{q} f : sProp 𝕄)
      = iprop((((c : Thread nD τ).loc cc0_scratch0) ↦[rows o a b]{q.left} f) ∗ ((c : Thread nD τ).loc cc0_scratch0) ↦[rows o a b]{q.right} f) :=
    fun q => BI.Entails.antisymm (pointsTo_share (PosShare.mem_left_op_right q)).1 (pointsTo_share (PosShare.mem_left_op_right q)).2
  have h1 := hs fullShare
  have h2 := hs (fullShare : PosShare TreeShare).right
  rw [h1, h2]
  rfl

/-- One piece. -/
def pc (c : Dev nD) (p : Piece) : sProp 𝕄 := gP c (rel p.1 c) (cut p.2.1.castSucc) (cut p.2.1.succ) (sh p.2.2) (GF m)

/-- Rows of one chunk at some of the three shares are the pieces there. -/
theorem pieces_eq (c : Dev nD) (d : Fin 8) (a b : Fin 7) (S : Finset (Fin 3)) (P : Piece → Prop) [DecidablePred P]
    (hP : ∀ p, P p ↔ p.1 = d ∧ (a.val ≤ p.2.1.val ∧ p.2.1.val < b.val) ∧ p.2.2 ∈ S) :
    bigSep (Finset.univ.filter P) (pc m c)
      = bigSep (Finset.univ.filter fun i : Fin 6 => a.val ≤ i.val ∧ i.val < b.val) fun i =>
        bigSep S fun s => gP c (rel d c) (cut i.castSucc) (cut i.succ) (sh s) (GF m) := by
  have h1 : Finset.univ.filter P = ((Finset.univ.filter fun i : Fin 6 => a.val ≤ i.val ∧ i.val < b.val) ×ˢ S).map ⟨fun x => (d, x), fun x y h => (Prod.ext_iff.mp h).2⟩ := by
    ext ⟨d', i, s⟩
    simp only [Finset.mem_filter, Finset.mem_univ, true_and, Finset.mem_map, Finset.mem_product, Function.Embedding.coeFn_mk, hP]
    constructor
    · rintro ⟨rfl, h⟩; exact ⟨(i, s), h, rfl⟩
    · rintro ⟨x, h, hx⟩
      obtain ⟨h1, h2⟩ := Prod.ext_iff.mp hx
      dsimp only at h1 h2
      subst h1 h2; exact ⟨rfl, h⟩
  rw [h1, BI.bigSep_map, bs_prod]
  rfl
theorem pieces_one (c : Dev nD) (d : Fin 8) (a b : Fin 7) (s : Fin 3) (P : Piece → Prop) [DecidablePred P]
    (hP : ∀ p, P p ↔ p.1 = d ∧ (a.val ≤ p.2.1.val ∧ p.2.1.val < b.val) ∧ p.2.2 ∈ ({s} : Finset (Fin 3))) :
    gP c (rel d c) (cut a) (cut b) (sh s) (GF m) = bigSep (Finset.univ.filter P) (pc m c) := by
  rw [pieces_eq m c d a b {s} P hP, gP_cuts]
  exact BI.bigSep_congr fun i _ => (BI.bigSep_singleton ..).symm

/-- What lands with site `k`, in pieces. -/
theorem land_eq (k : Fin 28) (c : Dev nD) :
    gP c (chunkOf k (orig k c)) (siteLo k) (siteHi k) fullShare (GF m) = bigSep (Finset.univ.filter fun p => arr p = recvNo k) (pc m c) := by
  rw [dstRel_eq, cut_lo, cut_hi, gP_cuts, pieces_eq m c (dstRel k) (loIx k) (hiIx k) Finset.univ _ fun p => ?_]
  · exact BI.bigSep_congr fun i _ => gP_shares ..
  have h : ∀ (k : Fin 28) (d : Fin 8) (i : Fin 6), arrAt d i = recvNo k ↔ d = dstRel k ∧ ((loIx k).val ≤ i.val ∧ i.val < (hiIx k).val) := by decide
  rw [h k p.1 p.2.1]
  simp only [Finset.mem_univ, and_true]

/-- The number of the share that site `k` is lent. -/
abbrev shIx (k : Fin 28) : Fin 3 := if dirOf k = 2 then 1 else 0
theorem sh_shIx (k : Fin 28) : sh (shIx k) = shareOf k := by unfold shIx shareOf; split <;> rfl

/-- What site `k` is lent, in pieces. -/
theorem lend_eq (k : Fin 28) (c : Dev nD) :
    gP c (chunkOf k c) (siteLo k) (siteHi k) (shareOf k) (GF m) = bigSep (Finset.univ.filter fun p => dep p = k.val) (pc m c) := by
  rw [srcRel_eq, cut_lo, cut_hi, ← sh_shIx]
  refine pieces_one m c (srcRel k) (loIx k) (hiIx k) (shIx k) _ fun p => ?_
  have h : ∀ (d : Fin 8) (i : Fin 6) (s : Fin 3) (k : Fin 28), dep (d, i, s) = k.val
      ↔ d = srcRel k ∧ ((loIx k).val ≤ i.val ∧ i.val < (hiIx k).val) ∧ s ∈ ({shIx k} : Finset (Fin 3)) := by decide
  exact h p.1 p.2.1 p.2.2 k

/-- A matmul's share of some rows, in pieces. -/
theorem read_eq (c : Dev nD) (d : Fin 8) (a b : Fin 7) :
    gP c (rel d c) (cut a) (cut b) shR (GF m)
      = bigSep (Finset.univ.filter fun p : Piece => p.1 = d ∧ (a.val ≤ p.2.1.val ∧ p.2.1.val < b.val) ∧ p.2.2 ∈ ({2} : Finset (Fin 3))) (pc m c) :=
  pieces_one m c d a b 2 _ fun p => Iff.rfl

/-- The pieces held after `t` waits, before site `k`. -/
abbrev held (t k : ℕ) : Finset Piece := Finset.univ.filter fun p => arr p < t ∧ (k ≤ dep p ∨ 34 + dep p < t)
def Pool (c : Dev nD) (t k : ℕ) : sProp 𝕄 := bigSep (held t k) (pc m c)

theorem pool_arrive {c : Dev nD} {t k : ℕ} (ht : t < 34) (h : ∀ p, arr p = t → k ≤ dep p) :
    iprop(Pool m c t k ∗ bigSep (Finset.univ.filter fun p => arr p = t) (pc m c)) = Pool m c (t + 1) k := by
  refine (bs_union (fun p => ?_) (fun p => ?_) _).symm
  · simp only [Finset.mem_filter, Finset.mem_univ, true_and]
    have := h p
    constructor
    · rintro ⟨h1, h2⟩
      by_cases h3 : arr p = t
      · exact Or.inr h3
      · exact Or.inl ⟨by omega, by omega⟩
    · rintro (⟨h1, h2⟩ | h1)
      · exact ⟨by omega, by omega⟩
      · exact ⟨by omega, Or.inl (this h1)⟩
  · simp only [Finset.mem_filter, Finset.mem_univ, true_and]
    rintro ⟨h1, h2⟩ h3; omega

theorem pool_lend {c : Dev nD} {t : ℕ} (k : Fin 28) (ht : t ≤ 34) (h : ∀ p, dep p = k.val → arr p < t) :
    Pool m c t k.val = iprop(bigSep (Finset.univ.filter fun p => dep p = k.val) (pc m c) ∗ Pool m c t (k.val + 1)) := by
  refine bs_union (fun p => ?_) (fun p => ?_) _
  · simp only [Finset.mem_filter, Finset.mem_univ, true_and]
    have := h p
    constructor
    · rintro ⟨h1, h2⟩
      by_cases h3 : dep p = k.val
      · exact Or.inl h3
      · exact Or.inr ⟨h1, by omega⟩
    · rintro (h1 | ⟨h1, h2⟩)
      · exact ⟨this h1, Or.inl (by omega)⟩
      · exact ⟨h1, by omega⟩
  · simp only [Finset.mem_filter, Finset.mem_univ, true_and]
    rintro h3 ⟨h1, h2⟩; omega

theorem arr_lt (p : Piece) : arr p < 34 := by
  have h : ∀ (d : Fin 8) (i : Fin 6), arrAt d i < 34 := by decide
  exact h p.1 p.2.1

theorem pool_return {c : Dev nD} (k : Fin 28) :
    iprop(Pool m c (34 + k.val) 28 ∗ bigSep (Finset.univ.filter fun p => dep p = k.val) (pc m c)) = Pool m c (34 + k.val + 1) 28 := by
  refine (bs_union (fun p => ?_) (fun p => ?_) _).symm
  · simp only [Finset.mem_filter, Finset.mem_univ, true_and]
    have := arr_lt p
    have := k.isLt
    constructor
    · rintro ⟨h1, h2⟩
      by_cases h3 : dep p = k.val
      · exact Or.inr h3
      · exact Or.inl ⟨by omega, by omega⟩
    · rintro (⟨h1, h2⟩ | h1)
      · exact ⟨by omega, by omega⟩
      · exact ⟨by omega, Or.inr (by omega)⟩
  · simp only [Finset.mem_filter, Finset.mem_univ, true_and]
    have := k.isLt
    rintro ⟨h1, h2⟩ h3; omega

theorem pool_read {c : Dev nD} {t k : ℕ} (d : Fin 8) (a b : Fin 7)
    (h : ∀ i : Fin 6, a.val ≤ i.val → i.val < b.val → arrAt d i < t) (hk : k ≤ 28) :
    Pool m c t k ⊢ iprop(gP c (rel d c) (cut a) (cut b) shR (GF m) ∗ (gP c (rel d c) (cut a) (cut b) shR (GF m) -∗ Pool m c t k)) := by
  have hdep : ∀ (d : Fin 8) (i : Fin 6), 28 ≤ dep (d, i, 2) := by decide
  unfold Pool
  rw [read_eq, bs_union (s := Finset.univ.filter fun p : Piece => p.1 = d ∧ (a.val ≤ p.2.1.val ∧ p.2.1.val < b.val) ∧ p.2.2 ∈ ({2} : Finset (Fin 3)))
    (t := (held t k).filter fun p : Piece => ¬ (p.1 = d ∧ (a.val ≤ p.2.1.val ∧ p.2.1.val < b.val) ∧ p.2.2 ∈ ({2} : Finset (Fin 3)))) ?_ ?_ (pc m c)]
  · iintro ⟨H1, H2⟩
    isplitl [H1]; · iexact H1
    iintro H
    isplitl [H] <;> iassumption
  · intro p
    simp only [Finset.mem_filter, Finset.mem_univ, true_and]
    constructor
    · intro hp
      by_cases hq : p.1 = d ∧ (a.val ≤ p.2.1.val ∧ p.2.1.val < b.val) ∧ p.2.2 ∈ ({2} : Finset (Fin 3))
      · exact Or.inl hq
      · exact Or.inr ⟨hp, hq⟩
    · rintro (hq | hq)
      · obtain ⟨d', i, s⟩ := p
        obtain ⟨rfl, ⟨h1, h2⟩, h3⟩ := hq
        rw [Finset.mem_singleton] at h3
        dsimp only at h3; subst h3
        exact ⟨h i h1 h2, Or.inl (hk.trans (hdep d' i))⟩
      · exact hq.1
  · intro p hp hq
    exact (Finset.mem_filter.mp hq).2 (Finset.mem_filter.mp hp).2

/-! ## The whole buffer -/

theorem gather_chunks (c : Dev nD) (q : PosShare TreeShare) (f : (cc0_scratch0 : Ref sig .tc).ty.Contents (Elt F)) :
    (((c : Thread nD τ).loc cc0_scratch0) ↦{q} f : sProp 𝕄) = bigSep Finset.univ fun d : Fin 8 => gP c (rel d c) (cut 0) (cut 6) q f := by
  unfold gP
  have hu : (Finset.univ : Finset S8x512x4096.Idx) = Finset.univ.biUnion fun d : Fin 8 => rows (rel d c) (cut 0) (cut 6) := by
    ext x
    simp only [Finset.mem_univ, true_iff, Finset.mem_biUnion, true_and]
    obtain ⟨d, hd⟩ := (Finite.injective_iff_surjective.mp (rel_inj c)) (x 0)
    refine ⟨d, ?_⟩
    unfold rows
    have h6 : (x 1).val < 512 := (x 1).isLt
    exact Finset.mem_filter.mpr ⟨Finset.mem_univ _, congrArg Fin.val hd.symm, Nat.zero_le _, h6⟩
  refine (congrArg (fun I : Finset S8x512x4096.Idx => (((c : Thread nD τ).loc cc0_scratch0) ↦[I]{q} f : sProp 𝕄)) hu).trans (pointsTo_biUnion _ _ ?_)
  intro d _ d' _ hne
  rw [Finset.disjoint_left]
  intro x hx hy
  unfold rows at hx hy
  exact hne (rel_inj c (Fin.ext ((Finset.mem_filter.mp hx).2.1.symm.trans (Finset.mem_filter.mp hy).2.1)))

/-- Before the first step: the device's own chunk, in the pieces it is cast in, and what the sites of the others copy into. -/
theorem gather_split (c : Dev nD) (f : (cc0_scratch0 : Ref sig .tc).ty.Contents (Elt F)) :
    (((c : Thread nD τ).loc cc0_scratch0) ↦{fullShare} f : sProp 𝕄)
      ⊢ iprop((gAny c c 0 128 ∗ gAny c c 256 384 ∗ gAny c c 128 256 ∗ gAny c c 384 512)
        ∗ bigSep Finset.univ fun k : Fin 28 => gAny c (chunkOf k (orig k c)) (siteLo k) (siteHi k)) := by
  rw [gather_chunks]
  have e1 : (bigSep Finset.univ fun d : Fin 8 => gP c (rel d c) (cut 0) (cut 6) fullShare f)
      = bigSep Finset.univ fun x : Fin 8 × Fin 6 => gP c (rel x.1 c) (cut x.2.castSucc) (cut x.2.succ) fullShare f := by
    rw [← Finset.univ_product_univ, bs_prod]
    refine BI.bigSep_congr fun d _ => ?_
    rw [gP_cuts]
    refine congrArg (fun s => bigSep s _) ?_
    ext i; have := i.isLt; simp
  have e2 : ∀ (d : Fin 8) (a b : Fin 7) (n : ℕ) (h : ∀ (x : Fin 8 × Fin 6), arrAt x.1 x.2 = n ↔ x.1 = d ∧ (a.val ≤ x.2.val ∧ x.2.val < b.val)) ,
      bigSep (Finset.univ.filter fun x : Fin 8 × Fin 6 => arrAt x.1 x.2 = n) (fun x => gP c (rel x.1 c) (cut x.2.castSucc) (cut x.2.succ) fullShare f)
        ⊢ gAny c (rel d c) (cut a) (cut b) := by
    intro d a b n h
    have h1 : (Finset.univ.filter fun x : Fin 8 × Fin 6 => arrAt x.1 x.2 = n)
        = (Finset.univ.filter fun i : Fin 6 => a.val ≤ i.val ∧ i.val < b.val).map ⟨fun x => (d, x), fun x y h => (Prod.ext_iff.mp h).2⟩ := by
      ext ⟨d', i⟩
      simp only [Finset.mem_filter, Finset.mem_univ, true_and, Finset.mem_map, Function.Embedding.coeFn_mk]
      rw [h (d', i)]
      constructor
      · rintro ⟨rfl, h'⟩; exact ⟨i, h', rfl⟩
      · rintro ⟨x, h, hx⟩
        obtain ⟨h1, h2⟩ := Prod.ext_iff.mp hx
        dsimp only at h1 h2
        subst h1 h2; exact ⟨rfl, h⟩
    rw [h1, BI.bigSep_map]
    unfold gAny
    iintro H
    iexists f
    iapply (Entails.of_eq (gP_cuts c (rel d c) a b fullShare f).symm)
    iexact H
  rw [e1, bs_fibers (fun x : Fin 8 × Fin 6 => arrAt x.1 x.2) (fun t : Fin 4 ⊕ Fin 28 => Sum.elim (fun s : Fin 4 => s.val + 1) (fun k => recvNo k) t)
    (by decide) (by decide)]
  have e3 : ∀ Φ : Fin 4 ⊕ Fin 28 → sProp 𝕄, bigSep Finset.univ Φ = iprop((Φ (.inl 0) ∗ Φ (.inl 1) ∗ Φ (.inl 2) ∗ Φ (.inl 3)) ∗ bigSep Finset.univ fun k => Φ (.inr k)) := by
    intro Φ
    rw [bs_union (s := Finset.univ.map ⟨Sum.inl, Sum.inl_injective⟩) (t := Finset.univ.map ⟨Sum.inr, Sum.inr_injective⟩)
      (fun i => by cases i <;> simp) (fun i => by cases i <;> simp) Φ, BI.bigSep_map, BI.bigSep_map]
    rw [show (Finset.univ : Finset (Fin 4)) = {0, 1, 2, 3} from by decide, bs_insert (by decide), bs_insert (by decide), bs_insert (by decide), BI.bigSep_singleton]
    rfl
  rw [e3]
  refine BI.sep_mono (BI.sep_mono ?_ (BI.sep_mono ?_ (BI.sep_mono ?_ ?_))) (BI.bigSep_mono fun k _ => ?_)
  · exact e2 0 0 1 _ (by decide)
  · exact e2 0 3 4 _ (by decide)
  · exact e2 0 1 3 _ (by decide)
  · exact e2 0 4 6 _ (by decide)
  · rw [dstRel_eq, cut_lo, cut_hi]
    have h : ∀ (k : Fin 28) (d : Fin 8) (i : Fin 6), arrAt d i = recvNo k ↔ d = dstRel k ∧ ((loIx k).val ≤ i.val ∧ i.val < (hiIx k).val) := by decide
    exact e2 (dstRel k) (loIx k) (hiIx k) _ fun x => h k x.1 x.2

/-- After the last wait for a site: the whole buffer again. -/
theorem gather_join (c : Dev nD) : Pool m c 62 28 = (((c : Thread nD τ).loc cc0_scratch0) ↦{fullShare} GF m) := by
  have h : held 62 28 = Finset.univ := by
    ext p
    have h1 := arr_lt p
    have h3 := Nat.lt_or_ge (dep p) 28
    simp only [Finset.mem_filter, Finset.mem_univ, true_and, iff_true]
    exact ⟨by omega, h3.symm.imp id fun h => by omega⟩
  unfold Pool
  rw [h, gather_chunks, ← Finset.univ_product_univ, bs_prod]
  refine BI.bigSep_congr fun d _ => ?_
  rw [gP_cuts, ← Finset.univ_product_univ, bs_prod]
  rw [show (Finset.univ.filter fun i : Fin 6 => (0 : Fin 7).val ≤ i.val ∧ i.val < (6 : Fin 7).val) = Finset.univ from by decide]
  refine BI.bigSep_congr fun i _ => ?_
  rw [gP_shares]
  rfl

/-! ## The rows of the amax buffers -/

/-- The amax rows that the device may write after `t` waits, before site `k`. -/
abbrev owned (t k : ℕ) : Finset (Fin 17) := Finset.univ.filter fun n => ownArr n < t ∧ k ≤ ownDep n
def Items (c : Dev nD) (t k : ℕ) : sProp 𝕄 := bigSep (owned t k) (aItem c)

/-- What site `k` carries along. -/
theorem extra_eq (k : Fin 28) (c : Dev nD) :
    bigSep (Finset.univ.filter fun n : Fin 17 => ownDep n = k.val) (aItem (F := F) c) = extra k (dest k c) := by
  unfold extra
  have h1 : ∀ k : Fin 28, (Finset.univ.filter fun n : Fin 17 => ownArr n = recvNo k) = (Finset.univ.filter fun n : Fin 17 => ownDep n = k.val).image ownNext := by decide
  have h2 : ∀ (k : Fin 28) (n n' : Fin 17), ownDep n = k.val → ownDep n' = k.val → ownNext n = ownNext n' → n = n' := by decide
  have h3 : ∀ (k : Fin 28) (n : Fin 17), ownDep n = k.val → ∀ c : Dev nD,
      rel (ownDev (ownNext n)) (dest k c) = rel (ownDev n) c ∧ rel (ownRow (ownNext n)) (dest k c) = rel (ownRow n) c := by decide
  rw [h1 k, BI.bigSep_image_of_injOn (fun n hn n' hn' h => h2 k n n' (Finset.mem_filter.mp hn).2 (Finset.mem_filter.mp hn').2 h)]
  refine BI.bigSep_congr fun n hn => ?_
  unfold aItem
  rw [(h3 k n (Finset.mem_filter.mp hn).2 c).1, (h3 k n (Finset.mem_filter.mp hn).2 c).2]

theorem items_arrive {c : Dev nD} {t k : ℕ} (h : ∀ n : Fin 17, ownArr n = t → k ≤ ownDep n) :
    iprop(Items (F := F) c t k ∗ bigSep (Finset.univ.filter fun n : Fin 17 => ownArr n = t) (aItem c)) = Items c (t + 1) k := by
  refine (bs_union (fun n => ?_) (fun n => ?_) _).symm
  · simp only [Finset.mem_filter, Finset.mem_univ, true_and]
    have := h n
    constructor
    · rintro ⟨h1, h2⟩
      by_cases h3 : ownArr n = t
      · exact Or.inr h3
      · exact Or.inl ⟨by omega, by omega⟩
    · rintro (⟨h1, h2⟩ | h1)
      · exact ⟨by omega, by omega⟩
      · exact ⟨by omega, this h1⟩
  · simp only [Finset.mem_filter, Finset.mem_univ, true_and]
    rintro ⟨h1, h2⟩ h3; omega

theorem items_go {c : Dev nD} {t : ℕ} (k : Fin 28) (h : ∀ n : Fin 17, ownDep n = k.val → ownArr n < t) :
    Items (F := F) c t k.val = iprop(bigSep (Finset.univ.filter fun n : Fin 17 => ownDep n = k.val) (aItem c) ∗ Items c t (k.val + 1)) := by
  refine bs_union (fun n => ?_) (fun n => ?_) _
  · simp only [Finset.mem_filter, Finset.mem_univ, true_and]
    have := h n
    constructor
    · rintro ⟨h1, h2⟩
      by_cases h3 : ownDep n = k.val
      · exact Or.inl h3
      · exact Or.inr ⟨h1, by omega⟩
    · rintro (h1 | ⟨h1, h2⟩)
      · exact ⟨this h1, by omega⟩
      · exact ⟨h1, by omega⟩
  · simp only [Finset.mem_filter, Finset.mem_univ, true_and]
    rintro h3 ⟨h1, h2⟩; omega

/-- In the amax phase: row `c` of every device's amax buffer, in the order of the transfers. -/
theorem items_end (c : Dev nD) {t : ℕ} (ht : 34 ≤ t) :
    Items (F := F) c t 28 = iprop(aAny c c ∗ bigSep Finset.univ fun k : Fin 7 => aAny (amaxDest k c) c) := by
  have h0 : owned t 28 = ({4, 5, 6, 8, 12, 14, 15, 16} : Finset (Fin 17)) := by
    have h1 : ∀ n : Fin 17, ownArr n < 34 := by decide
    have h2 : ∀ n : Fin 17, 28 ≤ ownDep n ↔ n ∈ ({4, 5, 6, 8, 12, 14, 15, 16} : Finset (Fin 17)) := by decide
    ext n
    have := h1 n
    rw [Finset.mem_filter, ← h2 n]
    exact ⟨fun h => h.2.2, fun h => ⟨Finset.mem_univ _, by omega, h⟩⟩
  have h3 : ∀ n ∈ ({4, 5, 6, 8, 12, 14, 15, 16} : Finset (Fin 17)), ownRow n = 0 := by decide
  have h4 : ∀ c : Dev nD, (({4, 5, 6, 8, 12, 14, 15, 16} : Finset (Fin 17)).image fun n => rel (ownDev n) c) = insert c (Finset.univ.image fun k => amaxDest k c) := by decide
  have h5 : ∀ c : Dev nD, ∀ n ∈ ({4, 5, 6, 8, 12, 14, 15, 16} : Finset (Fin 17)), ∀ n' ∈ ({4, 5, 6, 8, 12, 14, 15, 16} : Finset (Fin 17)),
      rel (ownDev n) c = rel (ownDev n') c → n = n' := by decide
  have h6 : ∀ (c : Dev nD) (k k' : Fin 7), amaxDest k c = amaxDest k' c → k = k' := by decide
  have h7 : ∀ c : Dev nD, c ∉ Finset.univ.image fun k => amaxDest k c := by decide
  have e1 : bigSep ({4, 5, 6, 8, 12, 14, 15, 16} : Finset (Fin 17)) (aItem (F := F) c)
      = bigSep (({4, 5, 6, 8, 12, 14, 15, 16} : Finset (Fin 17)).image fun n => rel (ownDev n) c) fun e => aAny e c := by
    rw [BI.bigSep_image_of_injOn (fun n hn n' hn' h => h5 c n hn n' hn' h)]
    refine BI.bigSep_congr fun n hn => ?_
    unfold aItem
    rw [h3 n hn]
    rfl
  unfold Items
  rw [h0, e1, h4, bs_insert (h7 c), BI.bigSep_image_of_injOn (fun k _ k' _ h => h6 c k k' h)]

theorem amax_rows (c : Dev nD) (f : (cc0_scratch5 : Ref sig .tc).ty.Contents (Elt F)) :
    (((c : Thread nD τ).loc cc0_scratch5) ↦{fullShare} f : sProp 𝕄)
      = bigSep Finset.univ fun s : Dev nD => ((c : Thread nD τ).loc cc0_scratch5) ↦[arow s]{fullShare} f := by
  have hu : (Finset.univ : Finset S8x128.Idx) = Finset.univ.biUnion fun s : Dev nD => arow s := by
    ext x
    simp only [Finset.mem_univ, true_iff, Finset.mem_biUnion, true_and]
    exact ⟨x 0, Finset.mem_filter.mpr ⟨Finset.mem_univ _, rfl⟩⟩
  refine (congrArg (fun I : Finset S8x128.Idx => (((c : Thread nD τ).loc cc0_scratch5) ↦[I]{fullShare} f : sProp 𝕄)) hu).trans (pointsTo_biUnion _ _ ?_)
  intro d _ d' _ hne
  rw [Finset.disjoint_left]
  intro x hx hy
  unfold arow at hx hy
  exact hne (Fin.ext ((Finset.mem_filter.mp hx).2.symm.trans (Finset.mem_filter.mp hy).2))

/-- Before the first step: the rows that the neighbours get, and the others. -/
theorem amax_split (c : Dev nD) (f : (cc0_scratch5 : Ref sig .tc).ty.Contents (Elt F)) :
    (((c : Thread nD τ).loc cc0_scratch5) ↦{fullShare} f : sProp 𝕄)
      ⊢ iprop((bigSep Finset.univ fun j : Fin 3 => aAny c (back j c)) ∗ bigSep ({0, 1, 2, 3, 16} : Finset (Fin 17)) (aItem c)) := by
  have h1 : ∀ c : Dev nD, ∀ s, (s ∈ (Finset.univ : Finset (Dev nD)) ↔ s ∈ Finset.univ.image (fun j : Fin 3 => back j c) ∨ s ∈ ({0, 1, 2, 3, 16} : Finset (Fin 17)).image fun n => rel (ownRow n) c) := by decide
  have h2 : ∀ c : Dev nD, ∀ s, s ∈ Finset.univ.image (fun j : Fin 3 => back j c) → s ∈ (({0, 1, 2, 3, 16} : Finset (Fin 17)).image fun n => rel (ownRow n) c) → False := by decide
  have h3 : ∀ (c : Dev nD) (j j' : Fin 3), back j c = back j' c → j = j' := by decide
  have h4 : ∀ c : Dev nD, ∀ n ∈ ({0, 1, 2, 3, 16} : Finset (Fin 17)), ∀ n' ∈ ({0, 1, 2, 3, 16} : Finset (Fin 17)), rel (ownRow n) c = rel (ownRow n') c → n = n' := by decide
  have h5 : ∀ n ∈ ({0, 1, 2, 3, 16} : Finset (Fin 17)), ownDev n = 0 := by decide
  have he : ∀ s : Dev nD, (((c : Thread nD τ).loc cc0_scratch5) ↦[arow s]{fullShare} f : sProp 𝕄) ⊢ aAny c s := by
    intro s; unfold aAny; iintro H; iexists f; iexact H
  rw [amax_rows, bs_union (h1 c) (h2 c), BI.bigSep_image_of_injOn (fun j _ j' _ h => h3 c j j' h), BI.bigSep_image_of_injOn (fun n hn n' hn' h => h4 c n hn n' hn' h)]
  refine BI.sep_mono (BI.bigSep_mono fun j _ => ?_) (BI.bigSep_mono fun n hn => ?_)
  · exact he _
  · unfold aItem
    rw [h5 n hn]
    exact he _

/-- After the barrier. -/
theorem items_start (c : Dev nD) :
    iprop(bigSep ({0, 1, 2, 3, 16} : Finset (Fin 17)) (aItem (F := F) c) ∗ bigSep Finset.univ fun j : Fin 3 => aAny (step j c) c) ⊢ Items c 1 0 := by
  unfold Items
  rw [bs_union (u := owned 1 0) (s := {0, 1, 2, 3, 16}) (t := {5, 4, 6}) (by decide) (by decide), bs_fin3,
    bs_insert (s := {4, 6}) (by decide), bs_insert (s := {6}) (by decide), BI.bigSep_singleton]
  iintro ⟨H1, H2, H3, H4⟩
  isplitl [H1]; · iexact H1
  unfold aItem
  isplitl [H3]; · iexact H3
  isplitl [H2]; · iexact H2
  iexact H4

/-- At the end: the whole amax buffer. -/
theorem amax_join (c : Dev nD) :
    iprop(aGot m c c ∗ bigSep Finset.univ fun k : Fin 7 => aGot m c (amaxDest k c)) = (((c : Thread nD τ).loc cc0_scratch5) ↦{fullShare} AF m) := by
  have h6 : ∀ (c : Dev nD) (k k' : Fin 7), amaxDest k c = amaxDest k' c → k = k' := by decide
  have h7 : ∀ c : Dev nD, c ∉ Finset.univ.image fun k => amaxDest k c := by decide
  have h8 : ∀ c : Dev nD, (Finset.univ : Finset (Dev nD)) = insert c (Finset.univ.image fun k => amaxDest k c) := by decide
  rw [amax_rows, h8 c, bs_insert (h7 c), BI.bigSep_image_of_injOn (fun k _ k' _ h => h6 c k k' h)]
  rfl

end Cert.RingProof

end
-- ==== Proof.Offsets.lean ====
/-
# Where the kernel's addresses point

The program computes its offsets and its targets with integer arithmetic on the device's number. Here they are told by the
names of `Sites`, one statement for each kind of access.
-/
module

public import proofs.«01_k».proof.Proof.Sites

@[expose] public section

noncomputable section

namespace Cert.RingProof

open Cert.KernelIdeal Cert.KernelIdeal.Gen
open Idealize.ShloMosaic

/-- The offsets of the sites, as the program computes them, -/
abbrev progOff (c : Dev nD) (k : Fin 28) : Fin 3 → ℕ :=
  (![
    k0_off2 c 0#32, k0_off3 c, k0_off5 c 0#32, k0_off6 c, k0_off8 c 0#32, k0_off9 c, k0_off11 c 0#32, k0_off12 c,
    k0_off2 c 1#32, k0_off2 c 1#32, k0_off8 c 1#32, k0_off8 c 1#32, k0_off5 c 1#32, k0_off5 c 1#32, k0_off11 c 1#32,
    k0_off11 c 1#32, k0_off20 c 0#32, k0_off22 c 0#32, k0_off24 c 0#32, k0_off26 c 0#32, k0_off2 c 2#32,
    k0_off8 c 2#32, k0_off29 c, k0_off5 c 2#32, k0_off11 c 2#32, k0_off30 c, k0_off31 c 1#32, k0_off32 c 1#32] : Fin 28 → Fin 3 → ℕ) k
theorem progOff_eq : ∀ (c : Dev nD) (k : Fin 28), progOff c k = ![(chunkOf k c).val, siteLo k, 0] := by decide +kernel
/-- and their targets. -/
abbrev progDev (c : Dev nD) (k : Fin 28) : ℕ :=
  (![
    k0_dev4 c, k0_dev5 c, k0_dev6 c, k0_dev7 c, k0_dev8 c, k0_dev9 c, k0_dev10 c, k0_dev11 c, k0_dev12 c, k0_dev13 c,
    k0_dev14 c, k0_dev15 c, k0_dev16 c, k0_dev17 c, k0_dev18 c, k0_dev19 c, k0_dev20 c, k0_dev21 c, k0_dev22 c,
    k0_dev23 c, k0_dev24 c, k0_dev25 c, k0_dev26 c, k0_dev27 c, k0_dev28 c, k0_dev29 c, k0_dev30 c, k0_dev31 c] : Fin 28 → ℕ) k
theorem progDev_eq : ∀ (c : Dev nD) (k : Fin 28), progDev c k = (dest k c).val := by decide +kernel

/-- Where the pieces of the device's own chunk are stored. -/
abbrev progSeg (c : Dev nD) (s : Fin 4) : Fin 3 → ℕ := (![k0_off1 c, k0_off7 c, k0_off4 c, k0_off10 c] : Fin 4 → Fin 3 → ℕ) s
theorem progSeg_eq : ∀ (c : Dev nD) (s : Fin 4), progSeg c s = ![c.val, 128 * s.val, 0] := by decide +kernel

/-- The neighbours that the barrier signals go to. -/
abbrev progBar (c : Dev nD) (j : Fin 3) : ℕ := (![k0_dev1 c, k0_dev2 c, k0_dev3 c] : Fin 3 → ℕ) j
theorem progBar_eq : ∀ (c : Dev nD) (j : Fin 3), progBar c j = (back j c).val := by decide +kernel

/-- The matmuls in program order: the chunk of the gathered `x`, -/
abbrev gemmRel (g : Fin 14) : Fin 8 := (![0, 1, 2, 3, 4, 4, 5, 6, 2, 1, 6, 5, 7, 7] : Fin 14 → Fin 8) g
/-- the row it starts at, -/
abbrev gemmLo (g : Fin 14) : ℕ := (![0, 0, 256, 0, 0, 256, 0, 256, 0, 256, 0, 256, 0, 256] : Fin 14 → ℕ) g
/-- and how many there are. -/
abbrev gemmLen (g : Fin 14) : ℕ := (![512, 256, 256, 512, 256, 256, 256, 256, 256, 256, 256, 256, 256, 256] : Fin 14 → ℕ) g
abbrev progIn (c : Dev nD) (g : Fin 14) : Fin 3 → ℕ :=
  (![
    k0_off13 c, k0_off15 c 1#32, k0_off17 c 1#32, k0_off27 c, k0_off15 c 2#32, k0_off17 c 2#32, k0_off33 c 1#32,
    k0_off35 c 1#32, k0_off15 c 3#32, k0_off17 c 3#32, k0_off33 c 3#32, k0_off35 c 3#32, k0_off33 c 2#32,
    k0_off35 c 2#32] : Fin 14 → Fin 3 → ℕ) g
theorem progIn_eq : ∀ (c : Dev nD) (g : Fin 14), progIn c g = ![(rel (gemmRel g) c).val, gemmLo g, 0] := by decide +kernel
abbrev progOut (c : Dev nD) (g : Fin 14) : Fin 2 → ℕ :=
  (![
    k0_off14 c, k0_off16 c 1#32, k0_off18 c 1#32, k0_off28 c, k0_off16 c 2#32, k0_off18 c 2#32, k0_off34 c 1#32,
    k0_off36 c 1#32, k0_off16 c 3#32, k0_off18 c 3#32, k0_off34 c 3#32, k0_off36 c 3#32, k0_off34 c 2#32,
    k0_off36 c 2#32] : Fin 14 → Fin 2 → ℕ) g
theorem progOut_eq : ∀ (c : Dev nD) (g : Fin 14), progOut c g = ![512 * (rel (gemmRel g) c).val + gemmLo g, 0] := by decide +kernel

/-- The amax phase. -/
theorem off39_eq : ∀ c : Dev nD, k0_off39 c = ![c.val, 0] := by decide +kernel
theorem off40_eq : ∀ c : Dev nD, k0_off40 c = ![c.val] := by decide +kernel
theorem off41_eq : ∀ c : Dev nD, k0_off41 c = ![c.val, 0] := by decide +kernel
theorem off42_eq : ∀ (c : Dev nD) (k : Fin 7), k0_off42 c (BitVec.ofNat 32 k.val) = ![(amaxDest k c).val] := by decide +kernel
abbrev progAmax (c : Dev nD) (k : Fin 7) : ℕ :=
  (![k0_dev32 c, k0_dev33 c, k0_dev34 c, k0_dev35 c, k0_dev36 c, k0_dev37 c, k0_dev38 c] : Fin 7 → ℕ) k
theorem progAmax_eq : ∀ (c : Dev nD) (k : Fin 7), progAmax c k = (amaxDest k c).val := by decide +kernel

end Cert.RingProof

end
-- ==== Proof.Views.lean ====
/-
# The rectangles the program goes through

Each access of the program is a rectangle of a buffer. Here: which elements it has, and, against the contents the protocol
promises, what a load through it reads and what a store through it leaves.
-/
module

public import proofs.«01_k».proof.Proof.Protocol
public import proofs.«01_k».proof.Proof.Offsets
public import Idealize.ShloMosaic.Lib.ValueLayout

@[expose] public section

noncomputable section

namespace Cert.RingProof

open Cert.KernelIdeal Cert.KernelIdeal.Gen
open Idealize.ShloMosaic
open Idealize.ShloMosaic.TcCoe

variable {F : FTy → Type} [FloatOps F]

/-! ## Stores and loads through a rectangle of a whole buffer -/

/-- A store whose payload agrees with `G` on its rectangle leaves `G` there and the rest as it was. -/
theorem write_rect (b : Ref sig .tc) (r : Rect b.ty.shape) (f G : b.ty.Contents (Elt F)) (p : r.shape.Idx → Elt F b.ty.elt)
    (h : ∀ x, p x = G (r.emb x)) :
    ((Memref.whole b).access r).write (Elt F) f p Finset.univ = r.set.piecewise G f := by
  have hp : p = ((Memref.whole b).access r).read (Elt F) G := by
    funext x; rw [h x, View.read_apply]; rfl
  rw [hp, View.write_read_eq_piecewise, View.setOn_univ]
  congr 1
  exact View.set_slice_whole b r
/-- A load reads the elements of its rectangle. -/
theorem read_rect (b : Ref sig .tc) (r : Rect b.ty.shape) (f : b.ty.Contents (Elt F)) (x : r.shape.Idx) :
    ((Memref.whole b).access r).read (Elt F) f x = f (r.emb x) := rfl

/-! ## The rectangles' elements -/

theorem rows_rect {off size : Fin 3 → ℕ} (inb : ∀ a, off a + size a ≤ S8x512x4096.size a) {o : Dev nD} {a n : ℕ}
    (ho : off = ![o.val, a, 0]) (hs : size = ![1, n, 4096]) :
    (Rect.unit (s := S8x512x4096) off size inb).set = rows o a (a + n) := by
  subst ho hs
  ext i
  rw [Rect.mem_set_unit]
  unfold rows
  rw [Finset.mem_filter]
  have h2 : (i 2).val < 4096 := (i 2).isLt
  constructor
  · intro h
    have h0 := h 0
    have h1 := h 1
    simp only [Matrix.cons_val_zero, Matrix.cons_val_one] at h0 h1
    exact ⟨Finset.mem_univ _, by omega, h1⟩
  · rintro ⟨-, h0, h1⟩ k
    fin_cases k
    · show o.val ≤ (i 0).val ∧ (i 0).val < o.val + 1
      omega
    · exact h1
    · show 0 ≤ (i 2).val ∧ (i 2).val < 0 + 4096
      omega

theorem xrows_rect {off size : Fin 2 → ℕ} (inb : ∀ a, off a + size a ≤ S512x4096.size a) {a n : ℕ}
    (ho : off = ![a, 0]) (hs : size = ![n, 4096]) :
    (Rect.unit (s := S512x4096) off size inb).set = xrows a (a + n) := by
  subst ho hs
  ext i
  rw [Rect.mem_set_unit]
  unfold xrows
  rw [Finset.mem_filter]
  have h2 : (i 1).val < 4096 := (i 1).isLt
  constructor
  · intro h
    exact ⟨Finset.mem_univ _, h 0⟩
  · rintro ⟨-, h0⟩ k
    fin_cases k
    · exact h0
    · show 0 ≤ (i 1).val ∧ (i 1).val < 0 + 4096
      omega

theorem arow_rect {off size : Fin 2 → ℕ} (inb : ∀ a, off a + size a ≤ S8x128.size a) {s : Dev nD}
    (ho : off = ![s.val, 0]) (hs : size = ![1, 128]) :
    (Rect.unit (s := S8x128) off size inb).set = arow s := by
  subst ho hs
  ext i
  rw [Rect.mem_set_unit]
  unfold arow
  rw [Finset.mem_filter]
  have h2 : (i 1).val < 128 := (i 1).isLt
  constructor
  · intro h
    have h0 := h 0
    simp only [Matrix.cons_val_zero] at h0
    exact ⟨Finset.mem_univ _, by omega⟩
  · rintro ⟨-, h0⟩ k
    fin_cases k
    · show s.val ≤ (i 0).val ∧ (i 0).val < s.val + 1
      omega
    · show 0 ≤ (i 1).val ∧ (i 1).val < 0 + 128
      omega

variable (m : (ℓ : Loc nD τ sig) → Buf (Elt F) ℓ)

/-! ## The device's own chunk -/

/-- A piece of the block of `x`, as loaded. -/
def segX (c : Dev nD) (a : ℕ) (h : a + 128 ≤ 512) : Vec F S128x4096 .f32 := fun x =>
  xArg m c (ix2 (n0 := 512) (n1 := 4096) ⟨a + (x 0).val, by have h1 : (x 0).val < 128 := (x 0).isLt; omega⟩ (x 1))

theorem read_seg (c : Dev nD) {a : ℕ} (h : a + 128 ≤ 512) {off : Fin 2 → ℕ} (ho : off = ![a, 0])
    (inb : ∀ i, off i + S128x4096.size i ≤ S512x4096.size i) :
    (xM.access (Rect.unit (s := S512x4096) off S128x4096.size inb)).read (Elt F) (xArg m c) = segX m c a h := by
  subst ho
  funext x
  refine (read_rect cc0_scratch1 _ _ x).trans ?_
  unfold segX
  congr 1
  funext i
  apply Fin.ext
  rw [Rect.emb_apply]
  fin_cases i
  · show a + 1 * (x 0).val = a + (x 0).val
    omega
  · show 0 + 1 * (x 1).val = (x 1).val
    omega

/-- The stored piece is the gathered `x` there. -/
theorem seg_pay (c : Dev nD) {a : ℕ} (h : a + 128 ≤ 512) {off : Fin 3 → ℕ} (ho : off = ![c.val, a, 0])
    (inb : ∀ i, off i + S1x128x4096.size i ≤ S8x512x4096.size i) (x : S1x128x4096.Idx) :
    k0_pay2 (segX m c a h) x = GF m ((Rect.unit (s := S8x512x4096) off S1x128x4096.size inb).emb x) := by
  subst ho
  have e0 : (Rect.unit (s := S8x512x4096) ![c.val, a, 0] S1x128x4096.size inb).emb x 0 = c := by
    apply Fin.ext; rw [Rect.emb_apply]
    show c.val + 1 * (x 0).val = c.val
    have : (x 0).val < 1 := (x 0).isLt
    omega
  have e1 : ((Rect.unit (s := S8x512x4096) ![c.val, a, 0] S1x128x4096.size inb).emb x 1).val = a + (x 1).val := by
    rw [Rect.emb_apply]; show a + 1 * (x 1).val = _; omega
  have e2 : ((Rect.unit (s := S8x512x4096) ![c.val, a, 0] S1x128x4096.size inb).emb x 2).val = (x 2).val := by
    rw [Rect.emb_apply]; show 0 + 1 * (x 2).val = _; omega
  unfold k0_pay2 GF
  rw [e0]
  have hs : ∀ v : FVec F S128x4096 .bf16, shapeCast S1x128x4096 v shapeCasts_S128x4096_S1x128x4096 x = v (ix2 (n0 := 128) (n1 := 4096) (x 1) (x 2)) := by
    intro v
    conv_lhs => rw [eq_ix3 x]
    exact ValueIdx.shapeCast_ab_1ab_apply ..
  rw [hs]
  have ht : ∀ (n : Shape) (v : FVec F n .f32) (j : n.Idx), truncf .bf16 v bitsLt_bf16_f32 j = truncf .bf16 (fun _ : n.Idx => v j) bitsLt_bf16_f32 j := fun _ _ _ => rfl
  have ht' : ∀ (n n' : Shape) (u : F .f32) (j : n.Idx) (j' : n'.Idx), truncf (F := F) .bf16 (fun _ : n.Idx => u) bitsLt_bf16_f32 j = truncf .bf16 (fun _ : n'.Idx => u) bitsLt_bf16_f32 j' := fun _ _ _ _ _ => rfl
  rw [ht S128x4096, ht S512x4096, ht' S128x4096 S512x4096]
  unfold segX
  congr 2
  funext _
  congr 1
  funext i
  apply Fin.ext
  fin_cases i
  · exact e1.symm
  · exact e2.symm

/-! ## The matmuls -/

theorem read_chunk (o : Dev nD) {off : Fin 3 → ℕ} (ho : off = ![o.val, 0, 0])
    (inb : ∀ i, off i + S1x512x4096.size i ≤ S8x512x4096.size i) :
    (gM.access (Rect.unit (s := S8x512x4096) off S1x512x4096.size inb)).read (Elt F) (GF m) = chunkX m o := by
  subst ho
  funext x
  refine (read_rect cc0_scratch0 _ _ x).trans ?_
  unfold chunkX
  congr 1
  funext i
  apply Fin.ext
  rw [Rect.emb_apply]
  have : (x 0).val < 1 := (x 0).isLt
  fin_cases i
  · show o.val + 1 * (x 0).val = o.val
    omega
  · show 0 + 1 * (x 1).val = (x 1).val
    omega
  · show 0 + 1 * (x 2).val = (x 2).val
    omega
theorem read_half (o : Dev nD) (h : Fin 2) {off : Fin 3 → ℕ} (ho : off = ![o.val, 256 * h.val, 0])
    (inb : ∀ i, off i + S1x256x4096.size i ≤ S8x512x4096.size i) :
    (gM.access (Rect.unit (s := S8x512x4096) off S1x256x4096.size inb)).read (Elt F) (GF m) = halfX m o h := by
  subst ho
  funext x
  refine (read_rect cc0_scratch0 _ _ x).trans ?_
  unfold halfX
  congr 1
  funext i
  apply Fin.ext
  rw [Rect.emb_apply]
  have : (x 0).val < 1 := (x 0).isLt
  fin_cases i
  · show o.val + 1 * (x 0).val = o.val
    omega
  · show 256 * h.val + 1 * (x 1).val = 256 * h.val + (x 1).val
    omega
  · show 0 + 1 * (x 2).val = (x 2).val
    omega

/-- The products of a whole chunk, stored, are the result's there: the device's own chunk and its partner's, -/
theorem out_chunk (c o : Dev nD) (h : o = c ∨ o = zed c) {off : Fin 2 → ℕ} (ho : off = ![512 * o.val + 0, 0])
    (inb : ∀ i, off i + S512x256.size i ≤ S4096x256.size i) (x : S512x256.Idx) :
    chunkY m c o x = YF m c ((Rect.unit (s := S4096x256) off S512x256.size inb).emb x) := by
  subst ho
  have hx : (x 0).val < 512 := (x 0).isLt
  have e0 : ((Rect.unit (s := S4096x256) ![512 * o.val + 0, 0] S512x256.size inb).emb x 0).val = 512 * o.val + (x 0).val := by
    rw [Rect.emb_apply]; show 512 * o.val + 0 + 1 * (x 0).val = _; omega
  have e1 : ((Rect.unit (s := S4096x256) ![512 * o.val + 0, 0] S512x256.size inb).emb x 1).val = (x 1).val := by
    rw [Rect.emb_apply]; show 0 + 1 * (x 1).val = _; omega
  unfold YF
  have ec : rowChunk ((Rect.unit (s := S4096x256) ![512 * o.val + 0, 0] S512x256.size inb).emb x 0) = o := by
    apply Fin.ext; unfold rowChunk; show _ / 512 = _; rw [e0]; omega
  rw [ec, if_pos h]
  congr 1
  funext i
  apply Fin.ext
  fin_cases i
  · show (x 0).val = _ % 512
    rw [e0]; omega
  · exact e1.symm
/-- those of a half, the others. -/
theorem out_half (c o : Dev nD) (hn : ¬ (o = c ∨ o = zed c)) (h : Fin 2) {off : Fin 2 → ℕ} (ho : off = ![512 * o.val + 256 * h.val, 0])
    (inb : ∀ i, off i + S256x256.size i ≤ S4096x256.size i) (x : S256x256.Idx) :
    halfY m c o h x = YF m c ((Rect.unit (s := S4096x256) off S256x256.size inb).emb x) := by
  subst ho
  have hx : (x 0).val < 256 := (x 0).isLt
  have hh := h.isLt
  have e0 : ((Rect.unit (s := S4096x256) ![512 * o.val + 256 * h.val, 0] S256x256.size inb).emb x 0).val = 512 * o.val + 256 * h.val + (x 0).val := by
    rw [Rect.emb_apply]; show 512 * o.val + 256 * h.val + 1 * (x 0).val = _; omega
  have e1 : ((Rect.unit (s := S4096x256) ![512 * o.val + 256 * h.val, 0] S256x256.size inb).emb x 1).val = (x 1).val := by
    rw [Rect.emb_apply]; show 0 + 1 * (x 1).val = _; omega
  unfold YF
  have ec : rowChunk ((Rect.unit (s := S4096x256) ![512 * o.val + 256 * h.val, 0] S256x256.size inb).emb x 0) = o := by
    apply Fin.ext; unfold rowChunk; show _ / 512 = _; rw [e0]; omega
  have eh : rowHalf ((Rect.unit (s := S4096x256) ![512 * o.val + 256 * h.val, 0] S256x256.size inb).emb x 0) = h := by
    apply Fin.ext; unfold rowHalf; show _ % 512 / 256 = _; rw [e0]; omega
  rw [ec, if_neg hn, eh]
  congr 1
  funext i
  apply Fin.ext
  fin_cases i
  · show (x 0).val = _ % 256
    rw [e0]; omega
  · exact e1.symm

/-- The rows of the result that matmul `g` makes. -/
def outRows (c : Dev nD) (g : Fin 14) : Finset S4096x256.Idx :=
  Finset.univ.filter fun i => 512 * (rel (gemmRel g) c).val + gemmLo g ≤ (i 0).val ∧ (i 0).val < 512 * (rel (gemmRel g) c).val + gemmLo g + gemmLen g
theorem out_rect {off size : Fin 2 → ℕ} (inb : ∀ a, off a + size a ≤ S4096x256.size a) {c : Dev nD} {g : Fin 14}
    (ho : off = ![512 * (rel (gemmRel g) c).val + gemmLo g, 0]) (hs : size = ![gemmLen g, 256]) :
    (Rect.unit (s := S4096x256) off size inb).set = outRows c g := by
  subst ho hs
  ext i
  rw [Rect.mem_set_unit]
  unfold outRows
  rw [Finset.mem_filter]
  have h2 : (i 1).val < 256 := (i 1).isLt
  constructor
  · intro h
    exact ⟨Finset.mem_univ _, h 0⟩
  · rintro ⟨-, h0⟩ k
    fin_cases k
    · exact h0
    · show 0 ≤ (i 1).val ∧ (i 1).val < 0 + 256
      omega
/-- They cover it. -/
theorem outRows_cover (c : Dev nD) (i : S4096x256.Idx) : ∃ g, i ∈ outRows c g := by
  have hc : ∀ (c o : Dev nD) (h : Fin 2), ∃ g : Fin 14, rel (gemmRel g) c = o ∧ gemmLo g ≤ 256 * h.val ∧ 256 * h.val + 256 ≤ gemmLo g + gemmLen g := by decide
  obtain ⟨g, h0, h1, h2⟩ := hc c (rowChunk (i 0)) (rowHalf (i 0))
  refine ⟨g, Finset.mem_filter.mpr ⟨Finset.mem_univ _, ?_⟩⟩
  rw [h0]
  have e1 : (rowChunk (i 0)).val = (i 0).val / 512 := rfl
  have e2 : (rowHalf (i 0)).val = (i 0).val % 512 / 256 := rfl
  rw [e2] at h1 h2
  rw [e1]
  omega

/-! ## The amax rows -/

theorem amax_pay (c : Dev nD) {off : Fin 2 → ℕ} (ho : off = ![c.val, 0])
    (inb : ∀ i, off i + S1x128.size i ≤ S8x128.size i) (x : S1x128.Idx) :
    amaxRow m c x = AF m ((Rect.unit (s := S8x128) off S1x128.size inb).emb x) := by
  subst ho
  have h0 : (x 0).val < 1 := (x 0).isLt
  have e0 : (Rect.unit (s := S8x128) ![c.val, 0] S1x128.size inb).emb x 0 = c := by
    apply Fin.ext; rw [Rect.emb_apply]; show c.val + 1 * (x 0).val = _; omega
  have e1 : ((Rect.unit (s := S8x128) ![c.val, 0] S1x128.size inb).emb x 1).val = (x 1).val := by
    rw [Rect.emb_apply]; show 0 + 1 * (x 1).val = _; omega
  unfold AF
  rw [e0]
  congr 1
  funext i
  apply Fin.ext
  fin_cases i
  · show (x 0).val = 0
    omega
  · exact e1.symm

end Cert.RingProof

end
-- ==== Proof.Steps.lean ====
/-
# One lemma per kind of step: the ring phase

`Rt c t k` is what device `c` holds in the ring phase after `t` waits, before site `k`: the protocol's state, the pieces of the
gathered `x` that have arrived and are not lent, the amax rows it may write, the regions that its coming sites copy into, and
the credit on the send cells of the sites already started.
-/
module

public import proofs.«01_k».proof.Proof.Pool
public import proofs.«01_k».proof.Proof.Views

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The credit on the send cell of site `k`. -/
def sendCr (c : Dev nD) (k : Fin 28) : sProp 𝕄 := cred (tallyAt (kcell (c, sendIx k)) () (siteAmt k))
def Credits (c : Dev nD) (t k : ℕ) : sProp 𝕄 := bigSep (Finset.univ.filter fun i : Fin 28 => i.val < k ∧ t ≤ 34 + i.val) (sendCr c)
def Targets (c : Dev nD) (k : ℕ) : sProp 𝕄 := bigSep (Finset.univ.filter fun i : Fin 28 => k ≤ i.val) (target c)

def Rt (c : Dev nD) (t k : ℕ) : sProp 𝕄 :=
  iprop(St m c (3 + k) t ∗ Pool m c t k ∗ Items c t k ∗ Targets c k ∗ Credits c t k)

theorem credits_wait {c : Dev nD} {t k : ℕ} (ht : t < 34) : Credits (F := F) c t k = Credits c (t + 1) k := by
  unfold Credits
  congr 1
  ext i; simp only [Finset.mem_filter, Finset.mem_univ, true_and]; omega
theorem credits_start {c : Dev nD} {t : ℕ} (ht : t ≤ 34) (k : Fin 28) :
    Credits (F := F) c t (k.val + 1) = iprop(sendCr c k ∗ Credits c t k.val) := by
  unfold Credits
  rw [← bs_insert (by simp)]
  congr 1
  ext i; simp only [Finset.mem_filter, Finset.mem_univ, true_and, Finset.mem_insert, Fin.ext_iff]; omega
theorem credits_end {c : Dev nD} (k : Fin 28) :
    Credits (F := F) c (34 + k.val) 28 = iprop(sendCr c k ∗ Credits c (34 + k.val + 1) 28) := by
  unfold Credits
  rw [← bs_insert (by simp)]
  congr 1
  ext i; simp only [Finset.mem_filter, Finset.mem_univ, true_and, Finset.mem_insert, Fin.ext_iff]
  have := i.isLt
  omega

/-! ## A landing -/

theorem wp_recv {c : Dev nD} (k : Fin 28) {t n : ℕ} (ht : recvNo k = t) (hn : k.val < n) (hn' : n ≤ 28)
    (hp : ∀ p : Piece, arr p = recvNo k → n ≤ dep p) (hi : ∀ i : Fin 17, ownArr i = recvNo k → n ≤ ownDep i)
    {α : Type} {w : TpuEff nD τ sig (Elt F) Λ₀ .tc PUnit} {kk : PUnit → Prog (TpuEff nD τ sig (Elt F) Λ₀ .tc) α} {Q : α → sProp 𝕄}
    (hw : ∀ K : PUnit → sProp 𝕄, wpE (defs₀ (F := F)) 𝒱₀ (c : Thread nD τ) none Set.univ w K
      = waitSpec (c : Thread nD τ) Set.univ (csem (recvIx k)) (siteAmt k) K) :
    Rt m c t n ⊢ iprop((Rt m c (t + 1) n -∗ wpc c (kk ⟨⟩) Q) -∗ wpc c (.op w kk) Q) := by
  subst ht
  unfold Rt
  iintro ⟨Hst, Hp, Hi, Htg, Hcr⟩ Hk
  iapply (wp_wait_cell m (t := ⟨recvNo k, (recvNo_lt k).trans (by decide)⟩) (wait_recv k c) (n := 3 + n) (by rw [role_recv]; rfl)
    (by rw [role_recv]; intro j hj; simp only [roleLev]; have := j.isLt; unfold payLev; split_ifs <;> omega)
    (iprop(emp)) (by rw [launchCr_recv, sep_emp_eq, role_recv]; exact Entails.of_eq rfl) (by rw [role_recv]; exact hw)) $$ [Hst]
  · rw [sep_emp_eq]; iexact Hst
  rw [role_recv]
  unfold rolePay extra
  iintro ⟨Hst, Hg, Hx⟩
  iapply Hk
  isplitl [Hst]; · iexact Hst
  isplitl [Hp Hg]
  · iapply (Entails.of_eq (pool_arrive m (c := c) (recvNo_lt k) hp))
    isplitl [Hp]; · iexact Hp
    iapply (Entails.of_eq (land_eq m k c)); iexact Hg
  isplitl [Hi Hx]
  · iapply (Entails.of_eq (items_arrive (F := F) (c := c) hi))
    isplitl [Hi]; · iexact Hi
    iexact Hx
  isplitl [Htg]; · iexact Htg
  iapply (Entails.of_eq (credits_wait (F := F) (recvNo_lt k))); iexact Hcr

/-! ## The end of a site -/

theorem wait_send (k : Fin 28) (c : Dev nD) : waitIx c ⟨34 + k.val, by omega⟩ = sendIx k := by revert k c; decide

theorem wp_sendwait {c : Dev nD} (k : Fin 28) {t : ℕ} (ht : 34 + k.val = t)
    {α : Type} {w : TpuEff nD τ sig (Elt F) Λ₀ .tc PUnit} {kk : PUnit → Prog (TpuEff nD τ sig (Elt F) Λ₀ .tc) α} {Q : α → sProp 𝕄}
    (hw : ∀ K : PUnit → sProp 𝕄, wpE (defs₀ (F := F)) 𝒱₀ (c : Thread nD τ) none Set.univ w K
      = waitSpec (c : Thread nD τ) Set.univ (csem (sendIx k)) (siteAmt k) K) :
    Rt m c t 28 ⊢ iprop((Rt m c (t + 1) 28 -∗ wpc c (kk ⟨⟩) Q) -∗ wpc c (.op w kk) Q) := by
  subst ht
  have hk := k.isLt
  unfold Rt
  iintro ⟨Hst, Hp, Hi, Htg, Hcr⟩ Hk
  ihave Hcr' := (Entails.of_eq (credits_end (F := F) k)) $$ Hcr
  icases Hcr' with ⟨Hc, Hcr⟩
  iapply (wp_wait_cell m (t := ⟨34 + k.val, by omega⟩) (wait_send k c) (n := 3 + 28) (by rw [role_send]; rfl)
    (by rw [role_send]; intro j hj; simp only [roleLev]; have := j.isLt; unfold payLev; split_ifs <;> omega)
    (sendCr c k) (by rw [launchCr_send, role_send]; unfold sendCr; iintro ⟨-, H⟩; iexact H) (by rw [role_send]; exact hw)) $$ [Hst Hc]
  · isplitl [Hst] <;> iassumption
  rw [role_send]
  unfold rolePay
  iintro ⟨Hst, Hg⟩
  iapply Hk
  isplitl [Hst]; · iexact Hst
  isplitl [Hp Hg]
  · iapply (Entails.of_eq (pool_return m (c := c) k))
    isplitl [Hp]; · iexact Hp
    iapply (Entails.of_eq (lend_eq m k c)); iexact Hg
  isplitl [Hi]
  · have e : Items (F := F) c (34 + k.val) 28 = Items c (34 + k.val + 1) 28 := by
      rw [items_end c (by omega), items_end c (by omega)]
    iapply (Entails.of_eq e); iexact Hi
  isplitl [Htg]; · iexact Htg
  iexact Hcr

/-! ## A site -/

theorem site_pay (c : Dev nD) (k : Fin 28) :
    payKey c ⟨3 + k.val, by omega⟩ = (dest k c, recvIx k) ∧ payAmt ⟨3 + k.val, by omega⟩ = siteAmt k ∧ paySend ⟨3 + k.val, by omega⟩ = sendIx k := by
  have hk := k.isLt
  have e : ∀ h : 3 + k.val - 3 < 28, (⟨3 + k.val - 3, h⟩ : Fin 28) = k := fun h => Fin.ext (by simp)
  refine ⟨?_, ?_, ?_⟩
  · unfold payKey; rw [dif_neg (by simp), dif_pos (show 3 + k.val < 31 by omega), e]
  · unfold payAmt; rw [dif_neg (by simp), dif_pos (show 3 + k.val < 31 by omega), e]
  · unfold paySend; rw [dif_pos (show 3 + k.val < 31 by omega), e]

/-- The view that a site copies from and to. -/
abbrev siteView (off size : Fin 3 → ℕ) (inb : ∀ a, off a + size a ≤ S8x512x4096.size a) (s' : Shape) (hs : (⟨3, size⟩ : Shape).Squeezes s') :
    Memref sig .tc .vmem s' .bf16 := (gM.slice (Rect.unit (s := S8x512x4096) off size inb) (fun _ => rfl)).squeeze s' hs

theorem siteLo_le (k : Fin 28) : siteLo k ≤ siteHi k := by revert k; decide
theorem recvIx_ne (k : Fin 28) : recvIx k ≠ 0 := by revert k; decide

theorem siteView_set (c : Dev nD) (k : Fin 28) {off size : Fin 3 → ℕ} (inb : ∀ a, off a + size a ≤ S8x512x4096.size a) {s' : Shape}
    (hs : (⟨3, size⟩ : Shape).Squeezes s') (h1 : off = ![(chunkOf k c).val, siteLo k, 0]) (h2 : size = ![1, siteHi k - siteLo k, 4096]) :
    ((siteView off size inb s' hs).view.set : Finset S8x512x4096.Idx) = rows (chunkOf k c) (siteLo k) (siteHi k) := by
  refine (View.set_reshape _ _).trans ((View.set_slice_whole cc0_scratch0 _).trans ((rows_rect inb h1 h2).trans ?_))
  rw [Nat.add_sub_cancel' (siteLo_le k)]
theorem gP_siteView {o : Dev nD} {a b : ℕ} {q : PosShare TreeShare} {f : (cc0_scratch0 : Ref sig .tc).ty.Contents (Elt F)} (e : Dev nD)
    {off size : Fin 3 → ℕ} {inb : ∀ a, off a + size a ≤ S8x512x4096.size a} {s' : Shape} {hs : (⟨3, size⟩ : Shape).Squeezes s'}
    (h : ((siteView off size inb s' hs).view.set : Finset S8x512x4096.Idx) = rows o a b) :
    gP (F := F) e o a b q f
      = (((siteView off size inb s' hs).view.loc (e : Thread nD τ)) ↦[(siteView off size inb s' hs).view.set]{q} f) :=
  (congrArg (fun I : Finset S8x512x4096.Idx => (((e : Thread nD τ).loc cc0_scratch0) ↦[I]{q} f : sProp 𝕄)) h).symm

theorem wp_site {c : Dev nD} (k : Fin 28) {t n n' : ℕ} (hn : k.val = n) (hn' : n + 1 = n') (ht : t ≤ 34) (hp : ∀ p : Piece, dep p = k.val → arr p < t)
    (hi : ∀ i : Fin 17, ownDep i = k.val → ownArr i < t)
    {off size : Fin 3 → ℕ} {inb : ∀ a, off a + size a ≤ S8x512x4096.size a} {s' : Shape} {hs : (⟨3, size⟩ : Shape).Squeezes s'}
    (hoff : off = ![(chunkOf k c).val, siteLo k, 0]) (hsize : size = ![1, siteHi k - siteLo k, 4096]) (hs' : s' = ⟨2, ![siteHi k - siteLo k, 4096]⟩)
    {d : Dev nD} (hd : d = dest k c) {sS sR : SemLoc sig} (hS : sS = csem (sendIx k)) (hR : sR = csem (recvIx k))
    {hsc : (siteView off size inb s' hs : Memref sig (Dev.tc d : Thread nD τ).2.kind .vmem s' .bf16).view.ref.isScScratch = false}
    {hsrc : (siteView off size inb s' hs).view.WordExact} {hdst : (siteView off size inb s' hs).view.WordExact}
    {hsem : DmaTarget.Typed .vmem sR (.remote (Dev.tc d : Thread nD τ) (siteView off size inb s' hs) sS hsc)}
    {α : Type} {kk : PUnit → Prog (TpuEff nD τ sig (Elt F) Λ₀ .tc) α} {Q : α → sProp 𝕄} :
    Rt m c t n ⊢ iprop((Rt m c t n' -∗ wpc c (kk ⟨⟩) Q)
      -∗ wpc c (.op (.enqueueDma (siteView off size inb s' hs) (.remote (Dev.tc d : Thread nD τ) (siteView off size inb s' hs) sS hsc) sR hsrc hdst hsem) kk) Q) := by
  subst hn' hn
  have hset := siteView_set c k inb hs hoff hsize
  have hamt : (siteView off size inb s' hs).view.amount sR = siteAmt k := by
    subst hs' hsize; unfold View.amount; rw [hR, csem_dma (recvIx_ne k)]; rfl
  subst hd hS hR
  obtain ⟨hk1, hk2, hk3⟩ := site_pay c k
  have hmem : (0 : Fin 3) ∈ ({0} : Finset (Fin 3)) := Finset.mem_singleton_self _
  unfold Rt
  iintro ⟨Hst, Hp, Hi, Htg, Hcr⟩ Hk
  ihave Hp' := (Entails.of_eq (pool_lend m k ht hp)) $$ Hp
  icases Hp' with ⟨Hsrc, Hp⟩
  ihave Hi' := (Entails.of_eq (items_go (F := F) k hi)) $$ Hi
  icases Hi' with ⟨Hx, Hi⟩
  unfold Targets
  ihave Htg' := (Entails.of_eq (bigSep_from_succ k (target (F := F) c))) $$ Htg
  icases Htg' with ⟨Htk, Htg⟩
  unfold target gAny
  icases Htk with ⟨%fd, Hdst⟩
  ihave Hsrc' := (Entails.of_eq (lend_eq m k c).symm) $$ Hsrc
  ihave Hx' := (Entails.of_eq (extra_eq (F := F) k c)) $$ Hx
  ihave Hsrc2 := (Entails.of_eq (gP_siteView (q := shareOf k) (f := GF m) c hset)) $$ Hsrc'
  ihave Hdst2 := (Entails.of_eq (gP_siteView (q := fullShare) (f := fd) (dest k c) hset)) $$ Hdst
  iapply (wp_pay m ⟨3 + k.val, by omega⟩ (by simp) hk1 (t := t) (q := shareOf k) (fs := GF m) (fd := fd) (X := extra k (dest k c))
    (sS := csem (sendIx k)) (by rw [hk3]) rfl (by rw [hk2]; exact hamt)
    (by rw [hk3, hk2, role_send]; rfl) (by rw [hk2, role_recv]; rfl) (by rw [hk3, role_send]; exact hmem) (by rw [role_recv]; exact hmem)
    (by rw [hk3, role_send]; exact Entails.of_eq (gP_siteView (q := shareOf k) (f := GF m) c hset).symm)
    (by
      rw [role_recv]
      have e : (siteView off size inb s' hs).view.write (Elt F) fd ((siteView off size inb s' hs).view.read (Elt F) (GF m)) Finset.univ
          = (rows (chunkOf k c) (siteLo k) (siteHi k)).piecewise (GF m) fd := by
        rw [View.write_read_eq_piecewise, View.setOn_univ, hset]
      have e2 := (gP_siteView (q := fullShare) (f := (rows (chunkOf k c) (siteLo k) (siteHi k)).piecewise (GF m) fd) (dest k c) hset).symm
      have e3 : gP (dest k c) (chunkOf k c) (siteLo k) (siteHi k) fullShare ((rows (chunkOf k c) (siteLo k) (siteHi k)).piecewise (GF m) fd)
          = gP (dest k c) (chunkOf k c) (siteLo k) (siteHi k) fullShare (GF m) :=
        pointsTo_congr fun i hi => Finset.piecewise_eq_of_mem _ _ _ hi
      rw [e]
      have e4 : rolePay m (dest k c) (.recv k) 0
          = iprop(gP (dest k c) (chunkOf k (orig k (dest k c))) (siteLo k) (siteHi k) fullShare (GF m) ∗ extra k (dest k c)) := rfl
      rw [e4, orig_dest]
      iintro ⟨H, Hx⟩
      isplitl [H]
      · ihave H2 := (Entails.of_eq e2) $$ H
        iapply (Entails.of_eq e3); iexact H2
      iexact Hx)) $$ [Hst Hsrc2 Hdst2 Hx']
  · isplitl [Hst]; · iexact Hst
    isplitl [Hsrc2]; · iexact Hsrc2
    isplitl [Hdst2]; · iexact Hdst2
    iexact Hx'
  iintro ⟨Hst, Hc⟩
  iapply Hk
  isplitl [Hst]; · iexact Hst
  isplitl [Hp]; · iexact Hp
  isplitl [Hi]; · iexact Hi
  isplitl [Htg]; · iexact Htg
  iapply (Entails.of_eq (credits_start (F := F) (c := c) ht k).symm)
  isplitl [Hc]
  · have e : sendCr (F := F) c k = cred (tallyAt (kcell (c, paySend ⟨3 + k.val, by omega⟩)) () (payAmt ⟨3 + k.val, by omega⟩)) := by
      rw [hk2, hk3]; rfl
    iapply (Entails.of_eq e.symm); iexact Hc
  iexact Hcr

end Cert.RingProof

end
-- ==== Proof.Gemm.lean ====
/-
# One lemma per kind of step: the matmuls

A matmul loads a chunk or half a chunk of the gathered `x` and the cast `w`, and stores the products in the result's buffer.
-/
module

public import proofs.«01_k».proof.Proof.Steps
public import proofs.«01_k».proof.Proof.Offsets

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The buffers of the products -/

/-- The result's buffer once matmuls `0, …, g - 1` have stored their products. -/
def Out (c : Dev nD) (g : ℕ) : sProp 𝕄 :=
  iprop(∃ f : (cc0_stg0_0 : Ref sig .tc).ty.Contents (Elt F), ⌜∀ g' : Fin 14, g'.val < g → ∀ i ∈ outRows c g', f i = YF m c i⌝
    ∗ ((c : Thread nD τ).loc cc0_stg0_0) ↦{fullShare} f)
/-- The cast block of `w`, and that buffer. -/
def Gm (c : Dev nD) (g : ℕ) : sProp 𝕄 := iprop((((c : Thread nD τ).loc cc0_scratch3) ↦{fullShare} WF m c) ∗ Out m c g)

theorem out_end {c : Dev nD} : Out m c 14 ⊢ (((c : Thread nD τ).loc cc0_stg0_0) ↦{fullShare} YF m c) := by
  unfold Out
  iintro ⟨%f, %h, H⟩
  have e : f = YF m c := by
    funext i; obtain ⟨g, hg⟩ := outRows_cover c i; exact h g g.isLt i hg
  subst e
  iexact H

theorem out_start {c : Dev nD} (f : (cc0_stg0_0 : Ref sig .tc).ty.Contents (Elt F)) :
    (((c : Thread nD τ).loc cc0_stg0_0) ↦{fullShare} f) ⊢ Out m c 0 := by
  unfold Out
  iintro H
  iexists f
  isplitr
  · ipureintro; intro g' h; omega
  iexact H

/-! ## Loads -/

/-- A load of a whole chunk that has arrived, -/
theorem wp_chunk {c : Dev nD} (d : Fin 8) {t n : ℕ} (ht : ∀ i : Fin 6, arrAt d i < t) (hn : n ≤ 28)
    {off : Fin 3 → ℕ} {inb : ∀ a, off a + S1x512x4096.size a ≤ S8x512x4096.size a} (ho : off = ![(rel d c).val, 0, 0])
    {hl : gM.view.LoadsAt (Rect.unit (s := S8x512x4096) off S1x512x4096.size inb).toLoadRect}
    {α : Type} {kk : Vec F S1x512x4096 .bf16 → Prog (TpuEff nD τ sig (Elt F) Λ₀ .tc) α} {Q : α → sProp 𝕄} :
    Rt m c t n ⊢ iprop((Rt m c t n -∗ wpc c (kk (chunkX m (rel d c))) Q)
      -∗ wpc c (.op (.load gM (Rect.unit (s := S8x512x4096) off S1x512x4096.size inb).toLoadRect hl) kk) Q) := by
  unfold Rt
  iintro ⟨Hst, Hp, Hrest⟩ Hk
  ihave Hp' := (pool_read m (t := t) (k := n) d 0 6 (fun i _ _ => ht i) hn) $$ Hp
  icases Hp' with ⟨Hg, Hback⟩
  unfold gP
  have hS : ((gM.access (Rect.unit (s := S8x512x4096) off S1x512x4096.size inb)).set : Finset S8x512x4096.Idx) ⊆ rows (rel d c) (cut 0) (cut 6) := by
    rw [View.set_slice_whole cc0_scratch0, rows_rect inb ho rfl]; exact Finset.Subset.refl _
  iapply (wp_load_rect 𝒱₀ (c : Thread nD τ) none Set.univ (m := gM) (r := Rect.unit (s := S8x512x4096) off S1x512x4096.size inb) hS) $$ Hg
  iintro Hg
  rw [read_chunk m (rel d c) ho inb]
  iapply Hk
  isplitl [Hst]; · iexact Hst
  isplitr [Hrest]
  · iapply Hback; iexact Hg
  iexact Hrest

theorem cut_half (h : Fin 2) : cut ⟨3 * h.val, by omega⟩ = 256 * h.val ∧ cut ⟨3 * h.val + 3, by omega⟩ = 256 * h.val + 256 := by revert h; decide
/-- and of a half. -/
theorem wp_half {c : Dev nD} (d : Fin 8) (h : Fin 2) {t n : ℕ} (ht : ∀ i : Fin 6, 3 * h.val ≤ i.val → i.val < 3 * h.val + 3 → arrAt d i < t) (hn : n ≤ 28)
    {off : Fin 3 → ℕ} {inb : ∀ a, off a + S1x256x4096.size a ≤ S8x512x4096.size a} (ho : off = ![(rel d c).val, 256 * h.val, 0])
    {hl : gM.view.LoadsAt (Rect.unit (s := S8x512x4096) off S1x256x4096.size inb).toLoadRect}
    {α : Type} {kk : Vec F S1x256x4096 .bf16 → Prog (TpuEff nD τ sig (Elt F) Λ₀ .tc) α} {Q : α → sProp 𝕄} :
    Rt m c t n ⊢ iprop((Rt m c t n -∗ wpc c (kk (halfX m (rel d c) h)) Q)
      -∗ wpc c (.op (.load gM (Rect.unit (s := S8x512x4096) off S1x256x4096.size inb).toLoadRect hl) kk) Q) := by
  unfold Rt
  iintro ⟨Hst, Hp, Hrest⟩ Hk
  have hh := h.isLt
  ihave Hp' := (pool_read m (t := t) (k := n) d ⟨3 * h.val, by omega⟩ ⟨3 * h.val + 3, by omega⟩ ht hn) $$ Hp
  icases Hp' with ⟨Hg, Hback⟩
  unfold gP
  have hS : ((gM.access (Rect.unit (s := S8x512x4096) off S1x256x4096.size inb)).set : Finset S8x512x4096.Idx)
      ⊆ rows (rel d c) (cut ⟨3 * h.val, by omega⟩) (cut ⟨3 * h.val + 3, by omega⟩) := by
    rw [View.set_slice_whole cc0_scratch0, rows_rect inb ho rfl, (cut_half h).1, (cut_half h).2]
  iapply (wp_load_rect 𝒱₀ (c : Thread nD τ) none Set.univ (m := gM) (r := Rect.unit (s := S8x512x4096) off S1x256x4096.size inb) hS) $$ Hg
  iintro Hg
  rw [read_half m (rel d c) h ho inb]
  iapply Hk
  isplitl [Hst]; · iexact Hst
  isplitr [Hrest]
  · iapply Hback; iexact Hg
  iexact Hrest

theorem zero2 : (![0, 0] : Fin 2 → ℕ) = fun _ => 0 := by decide

/-- A load of the cast `w`. -/
theorem wp_wload {c : Dev nD} {g : ℕ} {inb : ∀ a, (![0, 0] : Fin 2 → ℕ) a + S4096x256.size a ≤ S4096x256.size a}
    {hl : wbM.view.LoadsAt (Rect.unit (s := S4096x256) ![0, 0] S4096x256.size inb).toLoadRect}
    {α : Type} {kk : Vec F S4096x256 .bf16 → Prog (TpuEff nD τ sig (Elt F) Λ₀ .tc) α} {Q : α → sProp 𝕄} :
    Gm m c g ⊢ iprop((Gm m c g -∗ wpc c (kk (WF m c)) Q)
      -∗ wpc c (.op (.load wbM (Rect.unit (s := S4096x256) ![0, 0] S4096x256.size inb).toLoadRect hl) kk) Q) := by
  unfold Gm
  iintro ⟨Hw, Ho⟩ Hk
  iapply (wp_load_rect 𝒱₀ (c : Thread nD τ) none Set.univ (m := wbM) (r := Rect.unit (s := S4096x256) ![0, 0] S4096x256.size inb) (Finset.subset_univ _)) $$ Hw
  iintro Hw
  have e : (wbM.access (Rect.unit (s := S4096x256) ![0, 0] S4096x256.size inb)).read (Elt F) (WF m c) = WF m c :=
    Memref.read_access_unit_zero (Elt F) cc0_scratch3 zero2 inb (WF m c)
  rw [e]
  iapply Hk
  isplitl [Hw] <;> iassumption

/-- A load from the result's buffer whose value is not used. -/
theorem wp_oload {c : Dev nD} {g : ℕ} {r : Rect S4096x256} {hl : oM.view.LoadsAt r.toLoadRect}
    {α : Type} {kk : (r.shape.Idx → Elt F .f32) → Prog (TpuEff nD τ sig (Elt F) Λ₀ .tc) α} {Q : α → sProp 𝕄} :
    Gm m c g ⊢ iprop((∀ v, Gm m c g -∗ wpc c (kk v) Q) -∗ wpc c (.op (.load oM r.toLoadRect hl) kk) Q) := by
  unfold Gm Out
  iintro ⟨Hw, %f, %h, Ho⟩ Hk
  iapply (wp_load_rect 𝒱₀ (c : Thread nD τ) none Set.univ (m := oM) (r := r) (Finset.subset_univ _)) $$ Ho
  iintro Ho
  iapply Hk
  isplitl [Hw]; · iexact Hw
  iexists f
  isplitr
  · ipureintro; exact h
  iexact Ho

/-! ## Stores -/

/-- Matmul `g`'s products are stored. -/
theorem wp_ystore {c : Dev nD} (g : Fin 14) {n n' : ℕ} (hn : g.val = n) (hn' : n + 1 = n') {off size : Fin 2 → ℕ} {inb : ∀ a, off a + size a ≤ S4096x256.size a}
    (ho : off = ![512 * (rel (gemmRel g) c).val + gemmLo g, 0]) (hs : size = ![gemmLen g, 256])
    {p : (Rect.unit (s := S4096x256) off size inb).shape.Idx → Elt F .f32}
    (hp : ∀ x, p x = YF m c ((Rect.unit (s := S4096x256) off size inb).emb x))
    {hx : (oM.access (Rect.unit (s := S4096x256) off size inb)).Stores Finset.univ} {hm}
    {α : Type} {kk : PUnit → Prog (TpuEff nD τ sig (Elt F) Λ₀ .tc) α} {Q : α → sProp 𝕄} :
    Gm m c n ⊢ iprop((Gm m c n' -∗ wpc c (kk ⟨⟩) Q)
      -∗ wpc c (.op (.store oM (Rect.unit (s := S4096x256) off size inb) p Finset.univ hx hm) kk) Q) := by
  subst hn' hn
  unfold Gm Out
  iintro ⟨Hw, %f, %h, Ho⟩ Hk
  iapply (wp_store 𝒱₀ (c : Thread nD τ) none Set.univ (m := oM) (r := Rect.unit (s := S4096x256) off size inb) (S := Finset.univ) (Finset.subset_univ _)) $$ Ho
  iintro Ho
  have e := write_rect cc0_stg0_0 (Rect.unit (s := S4096x256) off size inb) f (YF m c) p hp
  have hset : (Rect.unit (s := S4096x256) off size inb).set = outRows c g := out_rect inb ho hs
  iapply Hk
  isplitl [Hw]; · iexact Hw
  iexists _
  isplitr
  · ipureintro
    rotate_left
    · exact (oM.access (Rect.unit (s := S4096x256) off size inb)).write (Elt F) f p Finset.univ
    intro g' hg' i hi
    refine (congrFun e i).trans ?_
    rw [hset]
    by_cases hin : i ∈ outRows c g
    · exact Finset.piecewise_eq_of_mem _ _ _ hin
    · rw [Finset.piecewise_eq_of_notMem _ _ _ hin]
      refine h g' ?_ i hi
      rcases Nat.lt_or_ge g'.val g.val with h1 | h1
      · exact h1
      · exfalso; exact hin (by rw [show g = g' from Fin.ext (by omega)]; exact hi)
  iexact Ho

/-- The products of a chunk, -/
theorem wp_ychunk {c : Dev nD} (g : Fin 14) {n n' : ℕ} (hn : g.val = n) (hn' : n + 1 = n') (hg : gemmRel g = 0 ∨ gemmRel g = 3) (hlo : gemmLo g = 0) (hlen : gemmLen g = 512)
    {off : Fin 2 → ℕ} {inb : ∀ a, off a + S512x256.size a ≤ S4096x256.size a}
    (ho : off = ![512 * (rel (gemmRel g) c).val + gemmLo g, 0])
    {p : (Rect.unit (s := S4096x256) off S512x256.size inb).shape.Idx → Elt F .f32} (hp : p = k0_pay7 (chunkX m (rel (gemmRel g) c)) (WF m c))
    {hx : (oM.access (Rect.unit (s := S4096x256) off S512x256.size inb)).Stores Finset.univ} {hm}
    {α : Type} {kk : PUnit → Prog (TpuEff nD τ sig (Elt F) Λ₀ .tc) α} {Q : α → sProp 𝕄} :
    Gm m c n ⊢ iprop((Gm m c n' -∗ wpc c (kk ⟨⟩) Q)
      -∗ wpc c (.op (.store oM (Rect.unit (s := S4096x256) off S512x256.size inb) p Finset.univ hx hm) kk) Q) := by
  subst hp
  exact wp_ystore m g hn hn' ho (by rw [hlen]; funext a; fin_cases a <;> rfl)
    (fun x => out_chunk m c (rel (gemmRel g) c) (by rcases hg with h | h <;> rw [h]; exacts [.inl rfl, .inr rfl]) (by rw [ho, hlo]) inb x)

/-- and of a half. -/
theorem wp_yhalf {c : Dev nD} (g : Fin 14) (h : Fin 2) {n n' : ℕ} (hn : g.val = n) (hn' : n + 1 = n') (hg : gemmRel g ≠ 0 ∧ gemmRel g ≠ 3) (hlo : gemmLo g = 256 * h.val) (hlen : gemmLen g = 256)
    {off : Fin 2 → ℕ} {inb : ∀ a, off a + S256x256.size a ≤ S4096x256.size a}
    (ho : off = ![512 * (rel (gemmRel g) c).val + gemmLo g, 0])
    {p : (Rect.unit (s := S4096x256) off S256x256.size inb).shape.Idx → Elt F .f32} (hp : p = k0_pay9 (halfX m (rel (gemmRel g) c) h) (WF m c))
    {hx : (oM.access (Rect.unit (s := S4096x256) off S256x256.size inb)).Stores Finset.univ} {hm}
    {α : Type} {kk : PUnit → Prog (TpuEff nD τ sig (Elt F) Λ₀ .tc) α} {Q : α → sProp 𝕄} :
    Gm m c n ⊢ iprop((Gm m c n' -∗ wpc c (kk ⟨⟩) Q)
      -∗ wpc c (.op (.store oM (Rect.unit (s := S4096x256) off S256x256.size inb) p Finset.univ hx hm) kk) Q) := by
  subst hp
  exact wp_ystore m g hn hn' ho (by rw [hlen]; funext a; fin_cases a <;> rfl)
    (fun x => out_half m c (rel (gemmRel g) c) (by
      rintro (e | e)
      · exact hg.1 (rel_inj c (e : rel (gemmRel g) c = rel 0 c))
      · exact hg.2 (rel_inj c (e : rel (gemmRel g) c = rel 3 c))) h (by rw [ho, hlo]) inb x)

end Cert.RingProof

end
-- ==== Proof.Ring.lean ====
/-
# The ring phase's steps at their places in the program
-/
module

public import proofs.«01_k».proof.Proof.Gemm

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A part of the body on the buffers and semaphores that the kernel is launched with. -/
abbrev onArgs {α : Type 1}
    (f : (arg0 : Memref sig .tc .hbm S512x4096 .f32) → (harg0 : arg0.IsWhole) → (arg1 : Memref sig .tc .hbm S4096x256 .f32) → (harg1 : arg1.IsWhole) → (arg2 : Memref sig .tc .vmem S4096x256 .f32) → (harg2 : arg2.IsWhole) → (arg3 : Memref sig .tc .vmem S8x512x4096 .bf16) → (harg3 : arg3.IsWhole) → (arg4 : Memref sig .tc .vmem S512x4096 .f32) → (harg4 : arg4.IsWhole) → (arg5 : Memref sig .tc .vmem S4096x256 .f32) → (harg5 : arg5.IsWhole) → (arg6 : Memref sig .tc .vmem S4096x256 .bf16) → (harg6 : arg6.IsWhole) → (arg7 : Memref sig .tc .vmem S1x128 .f32) → (harg7 : arg7.IsWhole) → (arg8 : Memref sig .tc .vmem S8x128 .f32) → (harg8 : arg8.IsWhole) → (arg9 : DmaSems sig S5x2) → (arg10 : DmaSems sig S5x2) → (arg11 : DmaSems sig S5x2) → (arg12 : DmaSems sig S5x2) → (arg13 : DmaSems sig S10) → (arg14 : DmaSems sig S10) → (arg15 : DmaSems sig S7) → (arg16 : DmaSems sig S8) → (arg17 : DmaSems sig S4) → (arg18 : DmaSems sig S_) → α) : α :=
  f (Memref.whole main_arg0) (Memref.isWhole_whole _) (Memref.whole main_arg1) (Memref.isWhole_whole _) oM (Memref.isWhole_whole _)
    gM (Memref.isWhole_whole _) xM (Memref.isWhole_whole _) wM (Memref.isWhole_whole _) wbM (Memref.isWhole_whole _) sM (Memref.isWhole_whole _)
    aM (Memref.isWhole_whole _) cc0_scratch6 cc0_scratch7 cc0_scratch8 cc0_scratch9 cc0_scratch10 cc0_scratch11 cc0_scratch12 cc0_scratch13
    cc0_scratch14 cc0_scratch15

/-! ## Where the sites and the landings stand in the order of the waits -/

/-- The number of waits before site `k`, -/
abbrev siteAt (k : Fin 28) : ℕ := (![2, 2, 3, 3, 4, 4, 5, 5, 7, 7, 8, 8, 9, 9, 10, 10, 11, 12, 13, 14, 15, 16, 16, 17, 18, 18, 20, 22] : Fin 28 → ℕ) k
/-- and of sites before the landing of site `k`. -/
abbrev recvAt (k : Fin 28) : ℕ := (![8, 16, 12, 18, 10, 17, 14, 19, 20, 28, 21, 28, 23, 28, 24, 28, 26, 26, 27, 27, 28, 28, 28, 28, 28, 28, 28, 28] : Fin 28 → ℕ) k

theorem siteAt_le (k : Fin 28) : siteAt k ≤ 34 := by revert k; decide
theorem siteAt_has (k : Fin 28) (p : Piece) : dep p = k.val → arr p < siteAt k := by revert k p; decide +kernel
theorem siteAt_own (k : Fin 28) (i : Fin 17) : ownDep i = k.val → ownArr i < siteAt k := by revert k i; decide +kernel
theorem recvAt_bounds (k : Fin 28) : k.val < recvAt k ∧ recvAt k ≤ 28 := by revert k; decide
theorem recvAt_keeps (k : Fin 28) (p : Piece) : arr p = recvNo k → recvAt k ≤ dep p := by revert k p; decide +kernel
theorem recvAt_own (k : Fin 28) (i : Fin 17) : ownArr i = recvNo k → recvAt k ≤ ownDep i := by revert k i; decide +kernel

/-! ## The steps at their places -/

theorem site {c : Dev nD} (k : Fin 28) {t n n' : ℕ} (hn : k.val = n ∧ n + 1 = n' ∧ siteAt k = t)
    {off size : Fin 3 → ℕ} {inb : ∀ a, off a + size a ≤ S8x512x4096.size a} {s' : Shape} {hs : (⟨3, size⟩ : Shape).Squeezes s'}
    (hoff : off = progOff c k) (hsize : size = ![1, siteHi k - siteLo k, 4096]) (hs' : s' = ⟨2, ![siteHi k - siteLo k, 4096]⟩)
    {d : Dev nD} (hd : d.val = progDev c k) {sS sR : SemLoc sig} (hS : sS = csem (sendIx k) ∧ sR = csem (recvIx k))
    {hsc : (siteView off size inb s' hs : Memref sig (Dev.tc d : Thread nD τ).2.kind .vmem s' .bf16).view.ref.isScScratch = false}
    {hsrc : (siteView off size inb s' hs).view.WordExact} {hdst : (siteView off size inb s' hs).view.WordExact}
    {hsem : DmaTarget.Typed .vmem sR (.remote (Dev.tc d : Thread nD τ) (siteView off size inb s' hs) sS hsc)}
    {α : Type} {kk : PUnit → Prog (TpuEff nD τ sig (Elt F) Λ₀ .tc) α} {Q : α → sProp 𝕄} :
    Rt m c t n ⊢ iprop((Rt m c t n' -∗ wpc c (kk ⟨⟩) Q)
      -∗ wpc c (.op (.enqueueDma (siteView off size inb s' hs) (.remote (Dev.tc d : Thread nD τ) (siteView off size inb s' hs) sS hsc) sR hsrc hdst hsem) kk) Q) :=
  wp_site m k hn.1 hn.2.1 (hn.2.2 ▸ siteAt_le k) (fun p h => hn.2.2 ▸ siteAt_has k p h) (fun i h => hn.2.2 ▸ siteAt_own k i h)
    (hoff.trans (progOff_eq c k)) hsize hs' (Fin.ext (hd.trans (progDev_eq c k))) hS.1 hS.2

theorem recv {c : Dev nD} (k : Fin 28) {t t' n : ℕ} (hn : recvNo k = t ∧ t + 1 = t' ∧ recvAt k = n)
    {α : Type} {w : TpuEff nD τ sig (Elt F) Λ₀ .tc PUnit} {kk : PUnit → Prog (TpuEff nD τ sig (Elt F) Λ₀ .tc) α} {Q : α → sProp 𝕄}
    (hw : ∀ K : PUnit → sProp 𝕄, wpE (defs₀ (F := F)) 𝒱₀ (c : Thread nD τ) none Set.univ w K
      = waitSpec (c : Thread nD τ) Set.univ (csem (recvIx k)) (siteAmt k) K) :
    Rt m c t n ⊢ iprop((Rt m c t' n -∗ wpc c (kk ⟨⟩) Q) -∗ wpc c (.op w kk) Q) := by
  obtain ⟨h1, h2, h3⟩ := hn
  subst h2 h3
  exact wp_recv m k h1 (recvAt_bounds k).1 (recvAt_bounds k).2 (recvAt_keeps k) (recvAt_own k) hw

theorem sent {c : Dev nD} (k : Fin 28) {t t' : ℕ} (hn : 34 + k.val = t ∧ t + 1 = t')
    {α : Type} {w : TpuEff nD τ sig (Elt F) Λ₀ .tc PUnit} {kk : PUnit → Prog (TpuEff nD τ sig (Elt F) Λ₀ .tc) α} {Q : α → sProp 𝕄}
    (hw : ∀ K : PUnit → sProp 𝕄, wpE (defs₀ (F := F)) 𝒱₀ (c : Thread nD τ) none Set.univ w K
      = waitSpec (c : Thread nD τ) Set.univ (csem (sendIx k)) (siteAmt k) K) :
    Rt m c t 28 ⊢ iprop((Rt m c t' 28 -∗ wpc c (kk ⟨⟩) Q) -∗ wpc c (.op w kk) Q) := by
  obtain ⟨h1, h2⟩ := hn
  subst h2
  exact wp_sendwait m k h1 hw

/-- The end of a part. -/
theorem wpc_ret {c : Dev nD} {α : Type} {v : α} {Q : α → sProp 𝕄} : Q v ⊢ wpc c (.ret v) Q := by
  iintro H
  unfold wpc
  rw [wp_ret]
  imodintro
  iexact H

end Cert.RingProof

end
-- ==== Proof.Copies.lean ====
/-
# One lemma per kind of step: the copies into vmem and the barrier
-/
module

public import proofs.«01_k».proof.Proof.State
public import proofs.«01_k».proof.Proof.Views

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Copies into vmem -/

/-- Rows `128 s ≤ r < 128 (s + 1)` of the vmem copy of `x`, at any contents, and of `x` itself. -/
def xAny (c : Dev nD) (s : Fin 4) : sProp 𝕄 := iprop(∃ f : (cc0_scratch1 : Ref sig .tc).ty.Contents (Elt F),
  ((c : Thread nD τ).loc cc0_scratch1) ↦[xrows (128 * s.val) (128 * s.val + 128)]{fullShare} f)
def xHas (c : Dev nD) (s : Fin 4) : sProp 𝕄 := ((c : Thread nD τ).loc main_arg0) ↦[xrows (128 * s.val) (128 * s.val + 128)]{fullShare} xArg m c
/-- The tokens of the local copies. -/
def copyTok (c : Dev nD) (i : Fin 81) : sProp 𝕄 := dutyTok ER (kcell (c, i)) 0 (0 : Fin 3)
/-- The credit of a local copy under way. -/
def xCr (c : Dev nD) (s : Fin 4) : sProp 𝕄 := cred (tallyAt (kcell (c, xinIx s)) () xAmt)
def wCr (c : Dev nD) : sProp 𝕄 := cred (tallyAt (kcell (c, 80)) () wAmt)

theorem xin_ne (s : Fin 4) : xinIx s ≠ 0 := by revert s; decide

/-- A local copy paying the one duty of cell `i`. -/
theorem wp_local {c : Dev nD} (i : Fin 81) (hd : (0 : Fin 3) ∈ roleDuties c (roleOf (csem i))) {n t : ℕ}
    {sp : Space} {s : Shape} {e : EltTy} {sp' : Space} {src : Memref sig .tc sp s e} {dst : Memref sig .tc sp' s e} {sR : SemLoc sig} (hR : sR = csem i)
    {hsrc : src.view.WordExact} {hdst : dst.view.WordExact}
    {hsem : DmaTarget.Typed (nD := nD) (τ := τ) (p := (c : Thread nD τ).2) sp sR (.here dst)} (N : ℕ)
    (hN : dst.view.amount sR = N) (hN₁ : roleAmt (roleOf (csem i)) = N) {fs : Buf (Elt F) (src.view.loc (c : Thread nD τ))} {fd : Buf (Elt F) (dst.view.loc (c : Thread nD τ))}
    (hp : iprop((dst.view.loc (c : Thread nD τ) ↦[dst.view.set]{fullShare} (dst.view.write (Elt F) fd (src.view.read (Elt F) fs) Finset.univ))
      ∗ (src.view.loc (c : Thread nD τ) ↦[src.view.set]{fullShare} fs)) ⊢ rolePay m c (roleOf (csem i)) 0)
    {α : Type} {kk : PUnit → Prog (TpuEff nD τ sig (Elt F) Λ₀ .tc) α} {Q : α → sProp 𝕄} :
    iprop(St m c n t ∗ (dst.view.loc (c : Thread nD τ) ↦[dst.view.set]{fullShare} fd) ∗ (src.view.loc (c : Thread nD τ) ↦[src.view.set]{fullShare} fs) ∗ copyTok c i)
      ⊢ iprop((St m c n t ∗ cred (tallyAt (kcell (c, i)) () N) -∗ wpc c (kk ⟨⟩) Q) -∗ wpc c (.op (.enqueueDma src (.here dst) sR hsrc hdst hsem) kk) Q) := by
  subst hR
  iintro ⟨Hst, Hx, Ha, Htok⟩ Hk
  unfold St copyTok
  icases Hst with ⟨%K, %W, #Hrec, #Hlev, Hst⟩
  iapply (Rounds.wp_copy_pointsTo 𝒱₀ ER (Rd m) (c : Thread nD τ) none (κ := K (c, i)) (sem := csem i) (r := 0) (d := (0 : Fin 3)) (fs := fs) (fd := fd)
    (by rw [duties_cell]; exact hd) () N hN hN₁ hp) $$ [Hx Ha Htok]
  · isplitr; · iapply (inv_at m K (c, i)); iexact Hrec
    isplitl [Ha]; · iexact Ha
    isplitl [Hx]; · iexact Hx
    isplitl [Htok]; · iexact Htok
    iapply (reached_at m K (c, i)); iexact Hrec
  iintro Hcr
  iapply Hk
  isplitr [Hcr]
  · iexists K, W
    isplitr; · iexact Hrec
    isplitr; · iexact Hlev
    iexact Hst
  iexact Hcr

/-- A piece of `x`, and of its copy, as rows. -/
abbrev xSrc (off : Fin 2 → ℕ) (inb : ∀ a, off a + S128x4096.size a ≤ S512x4096.size a) : Memref sig .tc .hbm S128x4096 .f32 :=
  (Memref.whole main_arg0 : Memref sig .tc .hbm S512x4096 .f32).slice (Rect.unit (s := S512x4096) off S128x4096.size inb) (fun _ => rfl)
abbrev xDst (off : Fin 2 → ℕ) (inb : ∀ a, off a + S128x4096.size a ≤ S512x4096.size a) : Memref sig .tc .vmem S128x4096 .f32 :=
  xM.slice (Rect.unit (s := S512x4096) off S128x4096.size inb) (fun _ => rfl)

theorem xDst_eq (c : Dev nD) (s : Fin 4) {off : Fin 2 → ℕ} {inb : ∀ a, off a + S128x4096.size a ≤ S512x4096.size a} (ho : off = ![128 * s.val, 0])
    (f : (cc0_scratch1 : Ref sig .tc).ty.Contents (Elt F)) :
    (((c : Thread nD τ).loc cc0_scratch1) ↦[xrows (128 * s.val) (128 * s.val + 128)]{fullShare} f : sProp 𝕄)
      = ((xDst off inb).view.loc (c : Thread nD τ) ↦[(xDst off inb).view.set]{fullShare} f) :=
  (congrArg (fun I : Finset S512x4096.Idx => (((c : Thread nD τ).loc cc0_scratch1) ↦[I]{fullShare} f : sProp 𝕄))
    ((View.set_slice_whole cc0_scratch1 (Rect.unit (s := S512x4096) off S128x4096.size inb)).trans (xrows_rect inb ho rfl))).symm

theorem xSrc_eq (c : Dev nD) (s : Fin 4) {off : Fin 2 → ℕ} {inb : ∀ a, off a + S128x4096.size a ≤ S512x4096.size a} (ho : off = ![128 * s.val, 0])
    (f : (main_arg0 : Ref sig .tc).ty.Contents (Elt F)) :
    (((c : Thread nD τ).loc main_arg0) ↦[xrows (128 * s.val) (128 * s.val + 128)]{fullShare} f : sProp 𝕄)
      = ((xSrc off inb).view.loc (c : Thread nD τ) ↦[(xSrc off inb).view.set]{fullShare} f) :=
  (congrArg (fun I : Finset S512x4096.Idx => (((c : Thread nD τ).loc main_arg0) ↦[I]{fullShare} f : sProp 𝕄))
    ((View.set_slice_whole main_arg0 (Rect.unit (s := S512x4096) off S128x4096.size inb)).trans (xrows_rect inb ho rfl))).symm

theorem xcopy_pay (c : Dev nD) (s : Fin 4) {off : Fin 2 → ℕ} {inb : ∀ a, off a + S128x4096.size a ≤ S512x4096.size a} (ho : off = ![128 * s.val, 0])
    (fd : (cc0_scratch1 : Ref sig .tc).ty.Contents (Elt F)) :
    iprop(((xDst off inb).view.loc (c : Thread nD τ) ↦[(xDst off inb).view.set]{fullShare} ((xDst off inb).view.write (Elt F) fd ((xSrc off inb).view.read (Elt F) (xArg m c)) Finset.univ))
      ∗ ((xSrc off inb).view.loc (c : Thread nD τ) ↦[(xSrc off inb).view.set]{fullShare} xArg m c)) ⊢ rolePay m c (.xin s) 0 := by
  have ew : (xDst off inb).view.write (Elt F) fd ((xSrc off inb).view.read (Elt F) (xArg m c)) Finset.univ
      = (Rect.unit (s := S512x4096) off S128x4096.size inb).set.piecewise (xArg m c) fd :=
    write_rect cc0_scratch1 (Rect.unit (s := S512x4096) off S128x4096.size inb) fd (xArg m c) _ fun x => rfl
  have e4 : rolePay m c (.xin s) 0 = iprop((((c : Thread nD τ).loc cc0_scratch1) ↦[xrows (128 * s.val) (128 * s.val + 128)]{fullShare} xArg m c) ∗ xHas m c s) := rfl
  have e5 : (((c : Thread nD τ).loc cc0_scratch1) ↦[xrows (128 * s.val) (128 * s.val + 128)]{fullShare} ((Rect.unit (s := S512x4096) off S128x4096.size inb).set.piecewise (xArg m c) fd) : sProp 𝕄)
      = (((c : Thread nD τ).loc cc0_scratch1) ↦[xrows (128 * s.val) (128 * s.val + 128)]{fullShare} xArg m c) :=
    pointsTo_congr fun i hi => Finset.piecewise_eq_of_mem _ _ _ (by rw [xrows_rect inb ho rfl]; exact hi)
  unfold xHas at e4
  rw [ew, e4, ← xDst_eq c s ho, ← xSrc_eq c s ho]
  iintro ⟨H1, H2⟩
  isplitl [H1]
  · iapply (Entails.of_eq e5); iexact H1
  · iexact H2

theorem wp_xcopy {c : Dev nD} (s : Fin 4) {n t : ℕ}
    {off : Fin 2 → ℕ} {inb : ∀ a, off a + S128x4096.size a ≤ S512x4096.size a} (ho : off = ![128 * s.val, 0])
    {sR : SemLoc sig} (hR : sR = csem (xinIx s))
    {hsrc : (xSrc off inb).view.WordExact} {hdst : (xDst off inb).view.WordExact}
    {hsem : DmaTarget.Typed (nD := nD) (τ := τ) (p := (c : Thread nD τ).2) .hbm sR (.here (xDst off inb))}
    {α : Type} {kk : PUnit → Prog (TpuEff nD τ sig (Elt F) Λ₀ .tc) α} {Q : α → sProp 𝕄} :
    iprop(St m c n t ∗ xAny c s ∗ xHas m c s ∗ copyTok c (xinIx s))
      ⊢ iprop((St m c n t ∗ xCr c s -∗ wpc c (kk ⟨⟩) Q)
        -∗ wpc c (.op (.enqueueDma (xSrc off inb) (.here (xDst off inb)) sR hsrc hdst hsem) kk) Q) := by
  iintro ⟨Hst, Hx, Ha, Htok⟩ Hk
  unfold xAny xHas
  icases Hx with ⟨%fd, Hx⟩
  ihave Hx2 := (Entails.of_eq (xDst_eq (inb := inb) c s ho fd)) $$ Hx
  ihave Ha2 := (Entails.of_eq (xSrc_eq (inb := inb) c s ho (xArg m c))) $$ Ha
  have hr : roleOf (csem (xinIx s)) = .xin s := role_xin s
  have hmem : (0 : Fin 3) ∈ ({0} : Finset (Fin 3)) := Finset.mem_singleton_self _
  iapply (wp_local m (xinIx s) (by rw [hr]; exact hmem) hR xAmt (by rw [hR]; unfold View.amount; rw [csem_dma (xin_ne s)]; rfl) (by rw [hr]; rfl)
    (by rw [hr]; exact xcopy_pay m c s ho fd)) $$ [Hst Hx2 Ha2 Htok]
  · isplitl [Hst]; · iexact Hst
    isplitl [Hx2]; · iexact Hx2
    isplitl [Ha2]; · iexact Ha2
    iexact Htok
  iexact Hk

theorem wcopy_pay (c : Dev nD) (fd : (cc0_scratch2 : Ref sig .tc).ty.Contents (Elt F)) :
    iprop((wM.view.loc (c : Thread nD τ) ↦[wM.view.set]{fullShare} (wM.view.write (Elt F) fd ((Memref.whole main_arg1 : Memref sig .tc .hbm S4096x256 .f32).view.read (Elt F) (wArg m c)) Finset.univ))
      ∗ ((Memref.whole main_arg1 : Memref sig .tc .hbm S4096x256 .f32).view.loc (c : Thread nD τ) ↦[(Memref.whole main_arg1 : Memref sig .tc .hbm S4096x256 .f32).view.set]{fullShare} wArg m c)) ⊢ rolePay m c .win 0 := by
  have ew : wM.view.write (Elt F) fd ((Memref.whole main_arg1 : Memref sig .tc .hbm S4096x256 .f32).view.read (Elt F) (wArg m c)) Finset.univ = wArg m c :=
    View.write_whole_univ cc0_scratch2 fd _
  have e4 : rolePay m c .win 0 = iprop((((c : Thread nD τ).loc cc0_scratch2) ↦{fullShare} wArg m c) ∗ ((c : Thread nD τ).loc main_arg1) ↦{fullShare} wArg m c) := rfl
  rw [ew, e4, show wM.view.set = Finset.univ from View.set_whole cc0_scratch2,
    show (Memref.whole main_arg1 : Memref sig .tc .hbm S4096x256 .f32).view.set = Finset.univ from View.set_whole main_arg1]

theorem wp_wcopy {c : Dev nD} {n t : ℕ} {sR : SemLoc sig} (hR : sR = csem 80)
    {hsrc : (Memref.whole main_arg1 : Memref sig .tc .hbm S4096x256 .f32).view.WordExact} {hdst : wM.view.WordExact}
    {hsem : DmaTarget.Typed (nD := nD) (τ := τ) (p := (c : Thread nD τ).2) .hbm sR (.here wM)} {fd : (cc0_scratch2 : Ref sig .tc).ty.Contents (Elt F)}
    {α : Type} {kk : PUnit → Prog (TpuEff nD τ sig (Elt F) Λ₀ .tc) α} {Q : α → sProp 𝕄} :
    iprop(St m c n t ∗ (((c : Thread nD τ).loc cc0_scratch2) ↦{fullShare} fd) ∗ (((c : Thread nD τ).loc main_arg1) ↦{fullShare} wArg m c) ∗ copyTok c 80)
      ⊢ iprop((St m c n t ∗ wCr c -∗ wpc c (kk ⟨⟩) Q)
        -∗ wpc c (.op (.enqueueDma (Memref.whole main_arg1 : Memref sig .tc .hbm S4096x256 .f32) (.here wM) sR hsrc hdst hsem) kk) Q) := by
  have hr : roleOf (csem 80) = .win := role_win
  have hmem : (0 : Fin 3) ∈ ({0} : Finset (Fin 3)) := Finset.mem_singleton_self _
  have es : wM.view.set = Finset.univ := View.set_whole cc0_scratch2
  have ea : (Memref.whole main_arg1 : Memref sig .tc .hbm S4096x256 .f32).view.set = Finset.univ := View.set_whole main_arg1
  iintro ⟨Hst, Hx, Ha, Htok⟩ Hk
  iapply (wp_local m 80 (by rw [hr]; exact hmem) hR wAmt (by rw [hR]; unfold View.amount; rw [csem_dma (by decide)]; rfl) (by rw [hr]; rfl)
    (by rw [hr]; exact wcopy_pay m c fd)) $$ [Hst Hx Ha Htok]
  · isplitl [Hst]; · iexact Hst
    isplitl [Hx]; · rw [es]; iexact Hx
    isplitl [Ha]; · rw [ea]; iexact Ha
    iexact Htok
  iexact Hk

/-! ## The barrier -/

theorem wp_barsig {c : Dev nD} (j : Fin 3) {n n' t : ℕ} (hn : j.val = n ∧ n + 1 = n') {d : Dev nD} (hd : d = back j c) {k' : ℤ} (hk : k' = ((1 : ℕ) : ℤ))
    {α : Type} {kk : PUnit → Prog (TpuEff nD τ sig (Elt F) Λ₀ .tc) α} {Q : α → sProp 𝕄} :
    iprop(St m c n t ∗ barPay (back j c) j)
      ⊢ iprop((St m c n' t -∗ wpc c (kk ⟨⟩) Q) -∗ wpc c (.op (.semSignal (Dev.tc d : Thread nD τ) barS k') kk) Q) := by
  obtain ⟨h1, h2⟩ := hn
  subst h2 h1 hd hk
  have hj := j.isLt
  have hkey : payKey c ⟨j.val, by omega⟩ = (back j c, 0) := by unfold payKey; rw [dif_pos (show j.val < 3 from hj)]
  have hamt : payAmt ⟨j.val, by omega⟩ = 1 := by unfold payAmt; rw [dif_pos (show j.val < 3 from hj)]
  iintro ⟨Hst, HP⟩ Hk
  unfold St
  icases Hst with ⟨%K, %W, #Hrec, #Hlev, HO, Htok, Hc⟩
  ihave Htok' := (Entails.of_eq (bigSep_from_succ (⟨j.val, by omega⟩ : Fin 38) (payTok c))) $$ Htok
  icases Htok' with ⟨Ht, Htok⟩
  have et : payTok (F := F) c ⟨j.val, by omega⟩ = iprop(dutyTok ER (kcell (back j c, 0)) 0 j ∗ emp) := by
    unfold payTok
    rw [if_pos hj, hkey, show payDuty ⟨j.val, by omega⟩ = j from dif_pos hj]
  ihave Ht' := (Entails.of_eq et) $$ Ht
  icases Ht' with ⟨Ht, -⟩
  iapply (Rounds.wp_signal 𝒱₀ ER (Rd m) (c : Thread nD τ) none (κ := K (back j c, 0)) (dst := (Dev.tc (back j c) : Thread nD τ)) (sem := barS) (r := 0) (d := j) (k' := 1)
    (by rw [show (SemLoc.reg barS : SemLoc sig) = csem 0 from rfl, duties_cell, role_bar]; exact Finset.mem_univ _) rfl () (O₀ := owedFrom c j.val) (owedFrom c (j.val + 1))
    (by have := owedFrom_succ c (⟨j.val, by omega⟩ : Fin 38); rw [hkey, hamt] at this; exact this) (W := W)) $$ [HO Ht HP]
  · isplitr; · iapply (inv_at m K (back j c, 0)); iexact Hrec
    isplitl [HO]; · iexact HO
    isplitl [Ht]; · iexact Ht
    isplitl [HP]
    · rw [show (SemLoc.reg barS : SemLoc sig) = csem 0 from rfl, payload_cell, role_bar, show rolePay m (back j c) .bar j = barPay (F := F) (back j c) j from rfl]; iexact HP
    iapply (reached_at m K (back j c, 0)); iexact Hrec
  iintro HO
  iapply Hk
  iexists K, W
  isplitr; · iexact Hrec
  isplitr; · iexact Hlev
  isplitl [HO]; · iexact HO
  isplitl [Htok]; · iexact Htok
  iexact Hc

theorem cellsAt_take0 {c : Dev nD} :
    cellsAt (F := F) c 0 ⊢ iprop(todo c 0 ∗ (semVal (kcell (c, 0)) 0 -∗ cellsAt c 1)) := cellsAt_take (0 : Fin 76)

theorem wp_barwait {c : Dev nD} {k' : ℤ} (hk : k' = ((3 : ℕ) : ℤ))
    {α : Type} {kk : PUnit → Prog (TpuEff nD τ sig (Elt F) Λ₀ .tc) α} {Q : α → sProp 𝕄} :
    St m c 3 0 ⊢ iprop((St m c 3 1 ∗ bigSep Finset.univ (fun j : Fin 3 => barPay c j) -∗ wpc c (kk ⟨⟩) Q) -∗ wpc c (.op (.semWait barS k') kk) Q) := by
  subst hk
  iintro Hst Hk
  unfold St
  icases Hst with ⟨%K, %W, #Hrec, #Hlev, HO, Htok, Hc⟩
  ihave Hc' := (cellsAt_take0 (F := F) (c := c)) $$ Hc
  unfold todo
  icases Hc' with ⟨⟨Hat, Hcr⟩, Hback⟩
  have hr : (bigSep ((Rd (F := F) m).duties ((c : Thread nD τ), SemLoc.reg barS) 0 \ ∅) (fun d => (Rd (F := F) m).payload ((c : Thread nD τ), SemLoc.reg barS) 0 d) : sProp 𝕄)
      = bigSep Finset.univ (fun j : Fin 3 => barPay c j) := by
    rw [Finset.sdiff_empty, show (SemLoc.reg barS : SemLoc sig) = csem 0 from rfl, duties_cell]
    rfl
  ihave Hcr2 := (Entails.of_eq (launchCr_bar (F := F) c)) $$ Hcr
  iapply (Rounds.wp_wait_rest_token 𝒱₀ ER (Rd m) (c : Thread nD τ) none (κ := K (c, 0)) (sm := .reg barS) (fun K => wpE_semWait_eq 𝒱₀ (c : Thread nD τ) none Set.univ K) (Set.mem_univ _) () (O := owedFrom c 3) (W := W)
      (R := 0) (m := 0) (T := ∅) (by rw [Nat.zero_add]; exact (expect_bar m c).symm)) $$ [Hcr2 HO Hat]
  · isplitr; · iapply (inv_at m K (c, 0)); iexact Hrec
    isplitl [Hcr2]; · iexact Hcr2
    isplitl [HO]; · iexact HO
    isplitr
    · iapply (mayWait_of c (SemLoc.reg barS) 3 (by intro j hj; show 1 < payLev j; unfold payLev; split_ifs <;> omega)); iexact Hlev
    iexact Hat
  iintro ⟨HO, Hat, -, Hpay⟩
  imod (Rounds.cell_close ER (Rd m) (Set.mem_univ (K (c, 0))) (fun h => h) (R := 0 + 1) (duties_later m (kcell (c, 0)))) $$ [Hat] with Hz
  · isplitr; · iapply (inv_at m K (c, 0)); iexact Hrec
    iexact Hat
  iapply Hk
  isplitr [Hpay]
  · iexists K, _
    isplitr; · iexact Hrec
    isplitr; · iexact Hlev
    isplitl [HO]; · iexact HO
    isplitl [Htok]; · iexact Htok
    iapply Hback; iexact Hz
  iapply (Entails.of_eq hr); iexact Hpay

end Cert.RingProof

end
-- ==== Proof.Cast.lean ====
/-
# One lemma per kind of step: the pieces of `x`, the cast of `w`, and the start of the ring phase
-/
module

public import proofs.«01_k».proof.Proof.Copies
public import proofs.«01_k».proof.Proof.Gemm

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The rows of `x` that a local copy delivers -/

/-- The wait at which piece `s` of `x` is there. -/
abbrev xAt (s : Fin 4) : ℕ := (![1, 3, 2, 4] : Fin 4 → ℕ) s
theorem xAt_lt (s : Fin 4) : xAt s < 34 := by revert s; decide
theorem wait_xin (s : Fin 4) (c : Dev nD) : waitIx c ⟨xAt s, (xAt_lt s).trans (by decide)⟩ = xinIx s := by revert s c; decide
theorem wait_win (c : Dev nD) : waitIx c (5 : Fin 76) = 80 := by revert c; decide

abbrev xLo (s : Fin 4) : Fin 7 := (![0, 1, 3, 4] : Fin 4 → Fin 7) s
abbrev xHi (s : Fin 4) : Fin 7 := (![1, 3, 4, 6] : Fin 4 → Fin 7) s
theorem cut_x (s : Fin 4) : cut (xLo s) = 128 * s.val ∧ cut (xHi s) = 128 * s.val + 128 := by revert s; decide

/-- The device's own rows, in pieces. -/
theorem own_land (c : Dev nD) (s : Fin 4) :
    gP c c (128 * s.val) (128 * s.val + 128) fullShare (GF m) = bigSep (Finset.univ.filter fun p => arr p = xAt s) (pc m c) := by
  have h0 : rel 0 c = c := by revert c; decide
  have e := pieces_eq m c 0 (xLo s) (xHi s) Finset.univ (fun p => arr p = xAt s) (fun p => by
    have h : ∀ (s : Fin 4) (d : Fin 8) (i : Fin 6), arrAt d i = xAt s ↔ d = 0 ∧ ((xLo s).val ≤ i.val ∧ i.val < (xHi s).val) := by decide
    rw [h s p.1 p.2.1]
    simp only [Finset.mem_univ, and_true])
  rw [e, ← (cut_x s).2, ← (cut_x s).1, gP_cuts, h0]
  exact BI.bigSep_congr fun i _ => gP_shares ..

/-- A wait at which no amax row comes. -/
theorem items_skip {c : Dev nD} {t k : ℕ} (h : ∀ n : Fin 17, ownArr n ≠ t) : Items (F := F) c t k = Items c (t + 1) k := by
  unfold Items
  congr 1
  ext n
  have := h n
  simp only [Finset.mem_filter, Finset.mem_univ, true_and]; omega
/-- A wait at which no rows of `x` come. -/
theorem pool_skip {c : Dev nD} {t k : ℕ} (ht : t < 34) (h : ∀ p : Piece, arr p ≠ t) : Pool m c t k = Pool m c (t + 1) k := by
  unfold Pool
  congr 1
  ext p
  have := h p
  simp only [Finset.mem_filter, Finset.mem_univ, true_and]; omega

/-- A piece of the vmem copy of `x`, as its copy delivered it. -/
def xGot (c : Dev nD) (s : Fin 4) : sProp 𝕄 := ((c : Thread nD τ).loc cc0_scratch1) ↦[xrows (128 * s.val) (128 * s.val + 128)]{fullShare} xArg m c

/-- A piece of `x` is awaited, cast, and stored as the device's own rows. -/
theorem wp_xseg {c : Dev nD} (s : Fin 4) {t k : ℕ} (ht : xAt s = t) (hk : k ≤ 28)
    (hp : ∀ p : Piece, arr p = xAt s → k ≤ dep p) (hi : ∀ i : Fin 17, ownArr i ≠ xAt s)
    {off₁ : Fin 2 → ℕ} {inb₁ : ∀ a, off₁ a + S128x4096.size a ≤ S512x4096.size a} (ho₁ : off₁ = ![128 * s.val, 0])
    {off₂ : Fin 3 → ℕ} {inb₂ : ∀ a, off₂ a + S1x128x4096.size a ≤ S8x512x4096.size a} (ho₂ : off₂ = ![c.val, 128 * s.val, 0])
    {w : TpuEff nD τ sig (Elt F) Λ₀ .tc PUnit}
    (hw : ∀ K : PUnit → sProp 𝕄, wpE (defs₀ (F := F)) 𝒱₀ (c : Thread nD τ) none Set.univ w K
      = waitSpec (c : Thread nD τ) Set.univ (csem (xinIx s)) xAmt K)
    {pay : Vec F S128x4096 .f32 → Vec F S1x128x4096 .bf16} (hpay : ∀ v, pay v = k0_pay2 v)
    {hl₁ : xM.view.LoadsAt (Rect.unit (s := S512x4096) off₁ S128x4096.size inb₁).toLoadRect}
    {hl₂ : gM.view.LoadsAt (Rect.unit (s := S8x512x4096) off₂ S1x128x4096.size inb₂).toLoadRect}
    {hx : (gM.access (Rect.unit (s := S8x512x4096) off₂ S1x128x4096.size inb₂)).Stores Finset.univ} {hm}
    {α : Type} {kk : PUnit → Prog (TpuEff nD τ sig (Elt F) Λ₀ .tc) α} {Q : α → sProp 𝕄} :
    iprop(Rt m c t k ∗ xCr c s ∗ gAny c c (128 * s.val) (128 * s.val + 128))
      ⊢ iprop((Rt m c (t + 1) k ∗ xGot m c s ∗ xHas m c s -∗ wpc c (kk ⟨⟩) Q)
        -∗ wpc c (.op w fun _ => .op (.load xM (Rect.unit (s := S512x4096) off₁ S128x4096.size inb₁).toLoadRect hl₁) fun v =>
          .op (.load gM (Rect.unit (s := S8x512x4096) off₂ S1x128x4096.size inb₂).toLoadRect hl₂) fun _ =>
          .op (.store gM (Rect.unit (s := S8x512x4096) off₂ S1x128x4096.size inb₂) (pay v) Finset.univ hx hm) kk) Q) := by
  subst ht
  have hlt := xAt_lt s
  have hs := s.isLt
  have hr : roleOf (csem (xinIx s)) = .xin s := role_xin s
  have e0 : rolePay m c (.xin s) 0 = iprop(xGot m c s ∗ xHas m c s) := rfl
  have hS₁ : ((xM.access (Rect.unit (s := S512x4096) off₁ S128x4096.size inb₁)).set : Finset S512x4096.Idx) ⊆ xrows (128 * s.val) (128 * s.val + 128) := by
    rw [View.set_slice_whole cc0_scratch1, xrows_rect inb₁ ho₁ rfl]
  have hset : (Rect.unit (s := S8x512x4096) off₂ S1x128x4096.size inb₂).set = rows c (128 * s.val) (128 * s.val + 128) := rows_rect inb₂ ho₂ rfl
  have hS₂ : ((gM.access (Rect.unit (s := S8x512x4096) off₂ S1x128x4096.size inb₂)).set : Finset S8x512x4096.Idx) ⊆ rows c (128 * s.val) (128 * s.val + 128) := by
    rw [View.set_slice_whole cc0_scratch0, hset]
  unfold Rt gAny
  iintro ⟨⟨Hst, Hp, Hi, Htg, Hcr⟩, Hc, %f, Hg⟩ Hk
  iapply (wp_wait_cell m (t := ⟨xAt s, hlt.trans (by decide)⟩) (wait_xin s c) (n := 3 + k) (by rw [hr]; rfl)
    (by rw [hr]; intro j hj; simp only [roleLev]; have := j.isLt; unfold payLev; split_ifs <;> omega)
    (xCr c s) (by
      rw [launchCr_xin, hr]; unfold xCr
      iintro ⟨-, H⟩
      iexact H) (by rw [hr]; exact hw)) $$ [Hst Hc]
  · isplitl [Hst]; · iexact Hst
    iexact Hc
  rw [hr, e0]
  iintro ⟨Hst, Hx, Ha⟩
  unfold xGot
  iapply (wp_load_rect 𝒱₀ (c : Thread nD τ) none Set.univ (m := xM) (r := Rect.unit (s := S512x4096) off₁ S128x4096.size inb₁) hS₁) $$ Hx
  iintro Hx
  rw [read_seg m c (a := 128 * s.val) (by omega) ho₁ inb₁]
  unfold gP
  iapply (wp_load_rect 𝒱₀ (c : Thread nD τ) none Set.univ (m := gM) (r := Rect.unit (s := S8x512x4096) off₂ S1x128x4096.size inb₂) hS₂) $$ Hg
  iintro Hg
  iapply (wp_store 𝒱₀ (c : Thread nD τ) none Set.univ (m := gM) (r := Rect.unit (s := S8x512x4096) off₂ S1x128x4096.size inb₂) (S := rows c (128 * s.val) (128 * s.val + 128)) hS₂) $$ Hg
  iintro Hg
  have ew := write_rect cc0_scratch0 (Rect.unit (s := S8x512x4096) off₂ S1x128x4096.size inb₂) f (GF m) (pay (segX m c (128 * s.val) (by omega)))
    (fun x => by rw [hpay]; exact seg_pay m c (by omega) ho₂ inb₂ x)
  have e5 : (((c : Thread nD τ).loc cc0_scratch0) ↦[rows c (128 * s.val) (128 * s.val + 128)]{fullShare}
        ((gM.access (Rect.unit (s := S8x512x4096) off₂ S1x128x4096.size inb₂)).write (Elt F) f (pay (segX m c (128 * s.val) (by omega))) Finset.univ) : sProp 𝕄)
      = gP c c (128 * s.val) (128 * s.val + 128) fullShare (GF m) := by
    rw [ew]
    exact pointsTo_congr fun i hi => Finset.piecewise_eq_of_mem _ _ _ (by rw [hset]; exact hi)
  iapply Hk
  isplitr [Hx Ha]
  · isplitl [Hst]; · iexact Hst
    isplitl [Hp Hg]
    · iapply (Entails.of_eq (pool_arrive m (c := c) hlt hp))
      isplitl [Hp]; · iexact Hp
      iapply (Entails.of_eq (own_land m c s))
      iapply (Entails.of_eq e5); iexact Hg
    isplitl [Hi]
    · iapply (Entails.of_eq (items_skip (F := F) (c := c) hi)); iexact Hi
    isplitl [Htg]; · iexact Htg
    iapply (Entails.of_eq (credits_wait (F := F) hlt)); iexact Hcr
  isplitl [Hx] <;> iassumption

/-- The whole of `w` is awaited. -/
theorem wp_win {c : Dev nD} {k : ℕ}
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (csem 80) wAmt K)
    {α : Type} {kk : PUnit → Prog (TpuEff nD τ sig (Elt F) Λ₀ .tc) α} {Q : α → sProp 𝕄} :
    iprop(Rt m c 5 k ∗ wCr c)
      ⊢ iprop((Rt m c 6 k ∗ (((c : Thread nD τ).loc cc0_scratch2) ↦{fullShare} wArg m c) ∗ (((c : Thread nD τ).loc main_arg1) ↦{fullShare} wArg m c) -∗ wpc c (kk ⟨⟩) Q)
        -∗ wpc c (.op w kk) Q) := by
  have hr : roleOf (csem 80) = .win := role_win
  have e0 : rolePay m c .win 0 = iprop((((c : Thread nD τ).loc cc0_scratch2) ↦{fullShare} wArg m c) ∗ (((c : Thread nD τ).loc main_arg1) ↦{fullShare} wArg m c)) := rfl
  have ha : ∀ p : Piece, arr p ≠ 5 := by decide +kernel
  have hi : ∀ n : Fin 17, ownArr n ≠ 5 := by decide
  unfold Rt
  iintro ⟨⟨Hst, Hp, Hi, Htg, Hcr⟩, Hc⟩ Hk
  iapply (wp_wait_cell m (t := (5 : Fin 76)) (wait_win c) (n := 3 + k) (by rw [hr]; rfl)
    (by rw [hr]; intro j hj; simp only [roleLev]; have := j.isLt; unfold payLev; split_ifs <;> omega)
    (wCr c) (by
      rw [launchCr_win, hr]; unfold wCr
      iintro ⟨-, H⟩
      iexact H) (by rw [hr]; exact hw)) $$ [Hst Hc]
  · isplitl [Hst]; · iexact Hst
    iexact Hc
  rw [hr, e0]
  iintro ⟨Hst, Hx, Ha⟩
  iapply Hk
  isplitr [Hx Ha]
  · isplitl [Hst]; · iexact Hst
    isplitl [Hp]
    · iapply (Entails.of_eq (pool_skip m (c := c) (t := 5) (by decide) ha)); iexact Hp
    isplitl [Hi]
    · iapply (Entails.of_eq (items_skip (F := F) (c := c) (t := 5) hi)); iexact Hi
    isplitl [Htg]; · iexact Htg
    iapply (Entails.of_eq (credits_wait (F := F) (t := 5) (by decide))); iexact Hcr
  isplitl [Hx] <;> iassumption

/-- `w` is cast. -/
theorem wp_wcast {c : Dev nD} {inb₁ inb₂ : ∀ a, (![0, 0] : Fin 2 → ℕ) a + S4096x256.size a ≤ S4096x256.size a}
    {hl₁ : wM.view.LoadsAt (Rect.unit (s := S4096x256) ![0, 0] S4096x256.size inb₁).toLoadRect}
    {hl₂ : wbM.view.LoadsAt (Rect.unit (s := S4096x256) ![0, 0] S4096x256.size inb₂).toLoadRect}
    {hx : (wbM.access (Rect.unit (s := S4096x256) ![0, 0] S4096x256.size inb₂)).Stores Finset.univ} {hm} {f : (cc0_scratch3 : Ref sig .tc).ty.Contents (Elt F)}
    {α : Type} {kk : PUnit → Prog (TpuEff nD τ sig (Elt F) Λ₀ .tc) α} {Q : α → sProp 𝕄} :
    iprop((((c : Thread nD τ).loc cc0_scratch2) ↦{fullShare} wArg m c) ∗ (((c : Thread nD τ).loc cc0_scratch3) ↦{fullShare} f))
      ⊢ iprop(((((c : Thread nD τ).loc cc0_scratch2) ↦{fullShare} wArg m c) ∗ (((c : Thread nD τ).loc cc0_scratch3) ↦{fullShare} WF m c) -∗ wpc c (kk ⟨⟩) Q)
        -∗ wpc c (.op (.load wM (Rect.unit (s := S4096x256) ![0, 0] S4096x256.size inb₁).toLoadRect hl₁) fun v =>
          .op (.load wbM (Rect.unit (s := S4096x256) ![0, 0] S4096x256.size inb₂).toLoadRect hl₂) fun _ =>
          .op (.store wbM (Rect.unit (s := S4096x256) ![0, 0] S4096x256.size inb₂) (k0_pay6 v) Finset.univ hx hm) kk) Q) := by
  iintro ⟨Hw, Hb⟩ Hk
  iapply (wp_load_rect 𝒱₀ (c : Thread nD τ) none Set.univ (m := wM) (r := Rect.unit (s := S4096x256) ![0, 0] S4096x256.size inb₁) (Finset.subset_univ _)) $$ Hw
  iintro Hw
  have e1 : (wM.access (Rect.unit (s := S4096x256) ![0, 0] S4096x256.size inb₁)).read (Elt F) (wArg m c) = wArg m c :=
    Memref.read_access_unit_zero (Elt F) cc0_scratch2 zero2 inb₁ (wArg m c)
  rw [e1]
  iapply (wp_load_rect 𝒱₀ (c : Thread nD τ) none Set.univ (m := wbM) (r := Rect.unit (s := S4096x256) ![0, 0] S4096x256.size inb₂) (Finset.subset_univ _)) $$ Hb
  iintro Hb
  iapply (wp_store 𝒱₀ (c : Thread nD τ) none Set.univ (m := wbM) (r := Rect.unit (s := S4096x256) ![0, 0] S4096x256.size inb₂) (S := Finset.univ) (Finset.subset_univ _)) $$ Hb
  iintro Hb
  have e2 : (wbM.access (Rect.unit (s := S4096x256) ![0, 0] S4096x256.size inb₂)).write (Elt F) f (k0_pay6 (wArg m c)) Finset.univ = WF m c :=
    (Memref.write_access_unit_zero_univ (Elt F) cc0_scratch3 zero2 inb₂ f (k0_pay6 (wArg m c)))
  rw [e2]
  iapply Hk
  isplitl [Hw] <;> iassumption

/-! ## The barrier's payloads -/

/-- What the three neighbours get. -/
theorem bar_split (c : Dev nD) :
    iprop((bigSep Finset.univ fun k : Fin 28 => gAny (F := F) c (chunkOf k (orig k c)) (siteLo k) (siteHi k)) ∗ bigSep Finset.univ fun j : Fin 3 => aAny c (back j c))
      ⊢ iprop(barPay (back 0 c) 0 ∗ barPay (back 1 c) 1 ∗ barPay (back 2 c) 2) := by
  have h1 : ∀ (c : Dev nD) (k : Fin 28) (j : Fin 3), dirOf k = j → orig k c = back j c ∧ dest k (back j c) = c := by decide
  have h2 : ∀ (c : Dev nD) (j : Fin 3), step j (back j c) = c := by decide
  have e : ∀ j : Fin 3, barPay (F := F) (back j c) j
      = iprop(bigSep (Finset.univ.filter fun k : Fin 28 => dirOf k = j) (fun k => gAny c (chunkOf k (orig k c)) (siteLo k) (siteHi k)) ∗ aAny c (back j c)) := by
    intro j
    unfold barPay
    rw [h2 c j]
    refine congrArg (fun X => iprop(X ∗ aAny (F := F) c (back j c))) (BI.bigSep_congr fun k hk => ?_)
    have := h1 c k j (Finset.mem_filter.mp hk).2
    unfold target
    rw [this.1, this.2]
  rw [e, e, e, bs_fibers dirOf (fun j : Fin 3 => j) (fun _ _ h => h) (fun k => ⟨dirOf k, rfl⟩), bs_fin3, bs_fin3]
  iintro ⟨⟨H1, H2, H3⟩, H4, H5, H6⟩
  isplitl [H1 H4]
  · isplitl [H1] <;> iassumption
  isplitl [H2 H5]
  · isplitl [H2] <;> iassumption
  isplitl [H3] <;> iassumption

theorem six_sep (A B C D E G : sProp 𝕄) : iprop((A ∗ D) ∗ (B ∗ E) ∗ C ∗ G) = iprop((A ∗ B ∗ C) ∗ D ∗ E ∗ G) := by
  have h1 : iprop((A ∗ D) ∗ (B ∗ E) ∗ C ∗ G) ⊢ iprop((A ∗ B ∗ C) ∗ D ∗ E ∗ G) := by
    iintro ⟨⟨H1, H4⟩, ⟨H2, H5⟩, H3, H6⟩
    isplitl [H1 H2 H3]
    · isplitl [H1]; · iexact H1
      isplitl [H2] <;> iassumption
    isplitl [H4]; · iexact H4
    isplitl [H5] <;> iassumption
  have h2 : iprop((A ∗ B ∗ C) ∗ D ∗ E ∗ G) ⊢ iprop((A ∗ D) ∗ (B ∗ E) ∗ C ∗ G) := by
    iintro ⟨⟨H1, H2, H3⟩, H4, H5, H6⟩
    isplitl [H1 H4]
    · isplitl [H1] <;> iassumption
    isplitl [H2 H5]
    · isplitl [H2] <;> iassumption
    isplitl [H3] <;> iassumption
  exact BI.Entails.antisymm h1 h2

/-- The ring phase's state, when the neighbours are there. -/
theorem rt_start (c : Dev nD) :
    iprop(St m c 3 1 ∗ (bigSep Finset.univ fun j : Fin 3 => barPay c j) ∗ bigSep ({0, 1, 2, 3, 16} : Finset (Fin 17)) (aItem (F := F) c)) ⊢ Rt m c 1 0 := by
  have h1 : held 1 0 = ∅ := by
    have h : ∀ (d : Fin 8) (i : Fin 6), 1 ≤ arrAt d i := by decide
    refine Finset.filter_eq_empty_iff.mpr fun p _ hp => ?_
    have := h p.1 p.2.1
    have h2 := hp.1
    unfold arr at h2
    omega
  have h2 : Pool m c 1 0 = iprop(emp) := by unfold Pool; rw [h1]; exact BI.bigSep_empty
  have h3 : Credits (F := F) c 1 0 = iprop(emp) := by
    unfold Credits
    rw [Finset.filter_eq_empty_iff.mpr fun i _ h => Nat.not_lt_zero _ h.1]; exact BI.bigSep_empty
  have h4 : (bigSep Finset.univ fun j : Fin 3 => barPay (F := F) c j)
      = iprop(Targets c 0 ∗ bigSep Finset.univ fun j : Fin 3 => aAny (step j c) c) := by
    unfold Targets
    rw [Finset.filter_true_of_mem (fun _ _ => Nat.zero_le _), bs_fibers dirOf (fun j : Fin 3 => j) (fun _ _ h => h) (fun k => ⟨dirOf k, rfl⟩) (target (F := F) c), bs_fin3, bs_fin3, bs_fin3]
    unfold barPay
    exact six_sep ..
  unfold Rt
  rw [h2, h3, h4]
  iintro ⟨H1, ⟨H2, H3⟩, H4⟩
  isplitl [H1]; · iexact H1
  isplitr; · iempintro
  isplitl [H3 H4]
  · iapply (items_start (F := F) c)
    isplitl [H4] <;> iassumption
  isplitl [H2]; · iexact H2
  iempintro

end Cert.RingProof

end
-- ==== Proof.PartsS.lean ====
/-
# The first parts of the body: the copies into vmem, the barrier, the casts, and the first matmul
-/
module

public import proofs.«01_k».proof.Proof.Ring
public import proofs.«01_k».proof.Proof.Cast

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- What the copy of piece `s` of `x` takes, -/
def xIn (c : Dev nD) (s : Fin 4) : sProp 𝕄 := iprop(xAny c s ∗ xHas m c s ∗ copyTok c (xinIx s))
/-- what is held while it is under way: its credit, and the rows that the cast piece goes to; -/
def xMid (c : Dev nD) (s : Fin 4) : sProp 𝕄 := iprop(xCr c s ∗ gAny c c (128 * s.val) (128 * s.val + 128))
/-- and what comes back. -/
def xEnd (c : Dev nD) (s : Fin 4) : sProp 𝕄 := iprop(xGot m c s ∗ xHas m c s)
/-- The same for `w`. -/
def wIn (c : Dev nD) : sProp 𝕄 := iprop((∃ f : (cc0_scratch2 : Ref sig .tc).ty.Contents (Elt F), ((c : Thread nD τ).loc cc0_scratch2) ↦{fullShare} f)
  ∗ (((c : Thread nD τ).loc main_arg1) ↦{fullShare} wArg m c) ∗ copyTok c 80)
def wEnd (c : Dev nD) : sProp 𝕄 := iprop((((c : Thread nD τ).loc cc0_scratch2) ↦{fullShare} wArg m c) ∗ (((c : Thread nD τ).loc main_arg1) ↦{fullShare} wArg m c))

theorem copyIn {c : Dev nD} (s : Fin 4) {n t : ℕ}
    {off : Fin 2 → ℕ} {inb : ∀ a, off a + S128x4096.size a ≤ S512x4096.size a} (ho : off = ![128 * s.val, 0])
    {sR : SemLoc sig} (hR : sR = csem (xinIx s))
    {hsrc : (xSrc off inb).view.WordExact} {hdst : (xDst off inb).view.WordExact}
    {hsem : DmaTarget.Typed (nD := nD) (τ := τ) (p := (c : Thread nD τ).2) .hbm sR (.here (xDst off inb))}
    {α : Type} {kk : PUnit → Prog (TpuEff nD τ sig (Elt F) Λ₀ .tc) α} {Q : α → sProp 𝕄} :
    iprop(St m c n t ∗ xIn m c s)
      ⊢ iprop((St m c n t ∗ xCr c s -∗ wpc c (kk ⟨⟩) Q)
        -∗ wpc c (.op (.enqueueDma (xSrc off inb) (.here (xDst off inb)) sR hsrc hdst hsem) kk) Q) := by
  unfold xIn
  exact wp_xcopy m s ho hR

theorem seg {c : Dev nD} (s : Fin 4) {t t' k : ℕ} (ht : xAt s = t ∧ t + 1 = t') (hk : k ≤ 28)
    (hp : ∀ p : Piece, arr p = xAt s → k ≤ dep p) (hi : ∀ i : Fin 17, ownArr i ≠ xAt s)
    {off₁ : Fin 2 → ℕ} {inb₁ : ∀ a, off₁ a + S128x4096.size a ≤ S512x4096.size a} (ho₁ : off₁ = ![128 * s.val, 0])
    {off₂ : Fin 3 → ℕ} {inb₂ : ∀ a, off₂ a + S1x128x4096.size a ≤ S8x512x4096.size a} (ho₂ : off₂ = progSeg c s)
    {w : TpuEff nD τ sig (Elt F) Λ₀ .tc PUnit}
    (hw : ∀ K : PUnit → sProp 𝕄, wpE (defs₀ (F := F)) 𝒱₀ (c : Thread nD τ) none Set.univ w K
      = waitSpec (c : Thread nD τ) Set.univ (csem (xinIx s)) xAmt K)
    {pay : Vec F S128x4096 .f32 → Vec F S1x128x4096 .bf16} (hpay : ∀ v, pay v = k0_pay2 v)
    {hl₁ : xM.view.LoadsAt (Rect.unit (s := S512x4096) off₁ S128x4096.size inb₁).toLoadRect}
    {hl₂ : gM.view.LoadsAt (Rect.unit (s := S8x512x4096) off₂ S1x128x4096.size inb₂).toLoadRect}
    {hx : (gM.access (Rect.unit (s := S8x512x4096) off₂ S1x128x4096.size inb₂)).Stores Finset.univ} {hm}
    {α : Type} {kk : PUnit → Prog (TpuEff nD τ sig (Elt F) Λ₀ .tc) α} {Q : α → sProp 𝕄} :
    iprop(Rt m c t k ∗ xMid c s)
      ⊢ iprop((Rt m c t' k ∗ xEnd m c s -∗ wpc c (kk ⟨⟩) Q)
        -∗ wpc c (.op w fun _ => .op (.load xM (Rect.unit (s := S512x4096) off₁ S128x4096.size inb₁).toLoadRect hl₁) fun v =>
          .op (.load gM (Rect.unit (s := S8x512x4096) off₂ S1x128x4096.size inb₂).toLoadRect hl₂) fun _ =>
          .op (.store gM (Rect.unit (s := S8x512x4096) off₂ S1x128x4096.size inb₂) (pay v) Finset.univ hx hm) kk) Q) := by
  obtain ⟨h1, h2⟩ := ht
  subst h2
  unfold xMid xEnd
  exact wp_xseg m s h1 hk hp hi ho₁ (ho₂.trans (progSeg_eq c s)) hw hpay

theorem part1 (c : Dev nD) (Q : (Σ' (d0 : Dev nD) (v2 : BitVec 32) (v5 : BitVec 32) (v7 : BitVec 32) (v8 : BitVec 32) (v23 : BitVec 32), BitVec 32) → sProp 𝕄) :
    iprop(∀ w, Q ⟨c, w⟩) ⊢ wpc c (onArgs (k0_part1 (F := F))) Q := by
  rw [k0_part1_eq_skeleton]
  unfold k0_part1_skel wpc
  simp only [Prog.lift, Prog.bind_op, Prog.bind_ret, Prog.pure_eq_ret, wp_deviceId]
  iintro Hk
  iapply wpc_ret
  iapply Hk

theorem part2 (c : Dev nD) (v5 v35 : BitVec 32) (Q : (Σ' (v38 : BitVec 32) (v42 : BitVec 32), Sems sig S_) → sProp 𝕄) :
    iprop(St m c 0 0 ∗ (xIn m c 0 ∗ xIn m c 1 ∗ xIn m c 2 ∗ xIn m c 3) ∗ wIn m c ∗ barPay (back 0 c) 0
        ∗ (∀ w0 w1, (St m c 1 0 ∗ (xCr c 0 ∗ xCr c 1 ∗ xCr c 2 ∗ xCr c 3) ∗ wCr c) -∗ Q ⟨w0, w1, SemArray.scalar (sig.barrier 0 rfl)⟩))
      ⊢ wpc c (onArgs (k0_part2 (F := F)) c v5 v35) Q := by
  rw [k0_part2_eq_skeleton]
  unfold k0_part2_skel
  simp only [semSignalWord, Prog.lift, Prog.bind_op, Prog.bind_ret, Prog.pure_eq_ret]
  iintro ⟨H, ⟨H0, H1, H2, H3⟩, Hw, Hb, Hk⟩
  iapply (copyIn m 0 (n := 0) (t := 0) (by rfl) (by rfl)) $$ [H H0]
  · isplitl [H] <;> iassumption
  iintro ⟨H, H0⟩
  iapply (copyIn m 1 (n := 0) (t := 0) (by rfl) (by rfl)) $$ [H H1]
  · isplitl [H] <;> iassumption
  iintro ⟨H, H1⟩
  iapply (copyIn m 2 (n := 0) (t := 0) (by rfl) (by rfl)) $$ [H H2]
  · isplitl [H] <;> iassumption
  iintro ⟨H, H2⟩
  iapply (copyIn m 3 (n := 0) (t := 0) (by rfl) (by rfl)) $$ [H H3]
  · isplitl [H] <;> iassumption
  iintro ⟨H, H3⟩
  unfold wIn
  icases Hw with ⟨⟨%f, Hw⟩, Ha, Ht⟩
  iapply (wp_wcopy m (n := 0) (t := 0) (fd := f) (by rfl)) $$ [H Hw Ha Ht]
  · isplitl [H]; · iexact H
    isplitl [Hw]; · iexact Hw
    isplitl [Ha] <;> iassumption
  iintro ⟨H, Hw⟩
  iapply (wp_barsig m 0 (n := 0) (n' := 1) (t := 0) ⟨rfl, rfl⟩ (by exact Fin.ext (progBar_eq c 0)) (by rfl)) $$ [H Hb]
  · isplitl [H] <;> iassumption
  iintro H
  iapply wpc_ret
  iapply Hk
  isplitl [H]; · iexact H
  isplitr [Hw]
  · isplitl [H0]; · iexact H0
    isplitl [H1]; · iexact H1
    isplitl [H2] <;> iassumption
  iexact Hw

theorem part3 (c : Dev nD) (v7 v8 v23 v42 : BitVec 32) (Q : (Σ' (v92 : BitVec 32), BitVec 1) → sProp 𝕄) :
    iprop(St m c 1 0 ∗ barPay (back 1 c) 1 ∗ barPay (back 2 c) 2 ∗ bigSep ({0, 1, 2, 3, 16} : Finset (Fin 17)) (aItem (F := F) c)
        ∗ (∀ w, Rt m c 1 0 -∗ Q w))
      ⊢ wpc c (onArgs (k0_part3 (F := F)) c v7 v8 v23 v42 (SemArray.scalar (sig.barrier 0 rfl))) Q := by
  rw [k0_part3_eq_skeleton]
  unfold k0_part3_skel
  simp only [semSignalWord, semWaitWord, Prog.lift, Prog.bind_op, Prog.bind_ret, Prog.pure_eq_ret]
  iintro ⟨H, H1, H2, Hi, Hk⟩
  iapply (wp_barsig m 1 (n := 1) (n' := 2) (t := 0) ⟨rfl, rfl⟩ (by exact Fin.ext (progBar_eq c 1)) (by rfl)) $$ [H H1]
  · isplitl [H] <;> iassumption
  iintro H
  iapply (wp_barsig m 2 (n := 2) (n' := 3) (t := 0) ⟨rfl, rfl⟩ (by exact Fin.ext (progBar_eq c 2)) (by rfl)) $$ [H H2]
  · isplitl [H] <;> iassumption
  iintro H
  iapply (wp_barwait m (by rfl)) $$ H
  iintro ⟨H, Hb⟩
  iapply wpc_ret
  iapply Hk
  iapply (rt_start m c)
  isplitl [H]; · iexact H
  isplitl [Hb] <;> iassumption

theorem part4 (c : Dev nD) (v7 v8 v92 : BitVec 32) (v93 : BitVec 1) (Q : (Σ' (v95 : BitVec 32) (v110 : BitVec 32) (v125 : BitVec 32) (v128 : BitVec 32) (v129 : BitVec 32), BitVec 32) → sProp 𝕄) :
    iprop(∀ w, Q w) ⊢ wpc c (onArgs (k0_part4 (F := F)) v7 v8 v92 v93) Q := by
  rw [k0_part4_eq_skeleton]
  unfold k0_part4_skel
  simp only [Prog.pure_eq_ret]
  iintro Hk
  iapply wpc_ret
  iapply Hk

theorem part5 (c : Dev nD) (v7 v8 v128 v129 c0_i32_87 : BitVec 32) (Q : (Σ' (v157 : BitVec 32) (v161 : BitVec 32) (v166 : BitVec 1), BitVec 32) → sProp 𝕄) :
    iprop(∀ w, Q w) ⊢ wpc c (onArgs (k0_part5 (F := F)) v7 v8 v128 v129 c0_i32_87) Q := by
  rw [k0_part5_eq_skeleton]
  unfold k0_part5_skel
  simp only [Prog.pure_eq_ret]
  iintro Hk
  iapply wpc_ret
  iapply Hk

theorem part6 (c : Dev nD) (v7 v8 v161 : BitVec 32) (v166 : BitVec 1) (v167 : BitVec 32) (Q : (Σ' (v173 : BitVec 32) (v189 : BitVec 32), BitVec 32) → sProp 𝕄) :
    iprop(∀ w, Q w) ⊢ wpc c (onArgs (k0_part6 (F := F)) v7 v8 v161 v166 v167) Q := by
  rw [k0_part6_eq_skeleton]
  unfold k0_part6_skel
  simp only [Prog.pure_eq_ret]
  iintro Hk
  iapply wpc_ret
  iapply Hk

theorem part7 (c : Dev nD) (v7 v8 c1_i32_132 : BitVec 32) (Q : (Σ' (v219 : BitVec 32) (v234 : BitVec 32) (v237 : BitVec 32) (v238 : BitVec 32) (v239 : BitVec 1) (v240 : BitVec 1), BitVec 32) → sProp 𝕄) :
    iprop(∀ w, Q w) ⊢ wpc c (onArgs (k0_part7 (F := F)) v7 v8 c1_i32_132) Q := by
  rw [k0_part7_eq_skeleton]
  unfold k0_part7_skel
  simp only [Prog.pure_eq_ret]
  iintro Hk
  iapply wpc_ret
  iapply Hk

theorem part8 (c : Dev nD) (v7 v8 v237 v238 : BitVec 32) (v239 v240 : BitVec 1) (c0_i32_156 : BitVec 32) (Q : (Σ' (v249 : BitVec 32) (v278 : BitVec 32), BitVec 1) → sProp 𝕄) :
    iprop(∀ w, Q w) ⊢ wpc c (onArgs (k0_part8 (F := F)) v7 v8 v237 v238 v239 v240 c0_i32_156) Q := by
  rw [k0_part8_eq_skeleton]
  unfold k0_part8_skel
  simp only [Prog.pure_eq_ret]
  iintro Hk
  iapply wpc_ret
  iapply Hk

theorem part9 (c : Dev nD) (v7 v8 v278 : BitVec 32) (v279 : BitVec 1) (Q : (Σ' (v281 : BitVec 32) (v297 : BitVec 32), BitVec 32) → sProp 𝕄) :
    iprop(∀ w, Q w) ⊢ wpc c (onArgs (k0_part9 (F := F)) v7 v8 v278 v279) Q := by
  rw [k0_part9_eq_skeleton]
  unfold k0_part9_skel
  simp only [Prog.pure_eq_ret]
  iintro Hk
  iapply wpc_ret
  iapply Hk

theorem part10 (c : Dev nD) (v2 v23 v42 : BitVec 32) (Q : PUnit → sProp 𝕄) :
    iprop(Rt m c 1 0 ∗ xMid c 0 ∗ (Rt m c 2 2 ∗ xEnd m c 0 -∗ Q ⟨⟩)) ⊢ wpc c (onArgs (k0_part10 (F := F)) c v2 v23 v42) Q := by
  have hp : ∀ p : Piece, arr p = xAt 0 → 0 ≤ dep p := by decide +kernel
  have hi : ∀ i : Fin 17, ownArr i ≠ xAt 0 := by decide
  rw [k0_part10_eq_skeleton]
  unfold k0_part10_skel
  simp only [Prog.lift, Prog.bind_op, Prog.bind_ret, Prog.pure_eq_ret]
  iintro ⟨H, Hx, Hk⟩
  iapply (seg m 0 (t := 1) (t' := 2) (k := 0) ⟨rfl, rfl⟩ (by decide) hp hi (by rfl) (by rfl) (by exact fun _ => rfl) (by exact fun _ => rfl)) $$ [H Hx]
  · isplitl [H] <;> iassumption
  iintro ⟨H, Hx⟩
  iapply (site m 0 (t := 2) (n := 0) (n' := 1) ⟨rfl, rfl, rfl⟩ (by rfl) (by rfl) (by rfl) (by rfl) (by exact ⟨rfl, rfl⟩)) $$ H
  iintro H
  iapply (site m 1 (t := 2) (n := 1) (n' := 2) ⟨rfl, rfl, rfl⟩ (by rfl) (by rfl) (by rfl) (by rfl) (by exact ⟨rfl, rfl⟩)) $$ H
  iintro H
  iapply wpc_ret
  iapply Hk
  isplitl [H]; · iexact H
  iexact Hx

theorem part11 (c : Dev nD) (v2 v38 v42 : BitVec 32) (Q : PUnit → sProp 𝕄) :
    iprop(Rt m c 2 2 ∗ xMid c 2 ∗ (Rt m c 3 4 ∗ xEnd m c 2 -∗ Q ⟨⟩)) ⊢ wpc c (onArgs (k0_part11 (F := F)) c v2 v38 v42) Q := by
  have hp : ∀ p : Piece, arr p = xAt 2 → 2 ≤ dep p := by decide +kernel
  have hi : ∀ i : Fin 17, ownArr i ≠ xAt 2 := by decide
  rw [k0_part11_eq_skeleton]
  unfold k0_part11_skel
  simp only [Prog.lift, Prog.bind_op, Prog.bind_ret, Prog.pure_eq_ret]
  iintro ⟨H, Hx, Hk⟩
  iapply (seg m 2 (t := 2) (t' := 3) (k := 2) ⟨rfl, rfl⟩ (by decide) hp hi (by rfl) (by rfl) (by exact fun _ => rfl) (by exact fun _ => rfl)) $$ [H Hx]
  · isplitl [H] <;> iassumption
  iintro ⟨H, Hx⟩
  iapply (site m 2 (t := 3) (n := 2) (n' := 3) ⟨rfl, rfl, rfl⟩ (by rfl) (by rfl) (by rfl) (by rfl) (by exact ⟨rfl, rfl⟩)) $$ H
  iintro H
  iapply (site m 3 (t := 3) (n := 3) (n' := 4) ⟨rfl, rfl, rfl⟩ (by rfl) (by rfl) (by rfl) (by rfl) (by exact ⟨rfl, rfl⟩)) $$ H
  iintro H
  iapply wpc_ret
  iapply Hk
  isplitl [H]; · iexact H
  iexact Hx

theorem part12 (c : Dev nD) (v2 v23 v42 : BitVec 32) (Q : PUnit → sProp 𝕄) :
    iprop(Rt m c 3 4 ∗ xMid c 1 ∗ (Rt m c 4 6 ∗ xEnd m c 1 -∗ Q ⟨⟩)) ⊢ wpc c (onArgs (k0_part12 (F := F)) c v2 v23 v42) Q := by
  have hp : ∀ p : Piece, arr p = xAt 1 → 4 ≤ dep p := by decide +kernel
  have hi : ∀ i : Fin 17, ownArr i ≠ xAt 1 := by decide
  rw [k0_part12_eq_skeleton]
  unfold k0_part12_skel
  simp only [Prog.lift, Prog.bind_op, Prog.bind_ret, Prog.pure_eq_ret]
  iintro ⟨H, Hx, Hk⟩
  iapply (seg m 1 (t := 3) (t' := 4) (k := 4) ⟨rfl, rfl⟩ (by decide) hp hi (by rfl) (by rfl) (by exact fun _ => rfl) (by exact fun _ => rfl)) $$ [H Hx]
  · isplitl [H] <;> iassumption
  iintro ⟨H, Hx⟩
  iapply (site m 4 (t := 4) (n := 4) (n' := 5) ⟨rfl, rfl, rfl⟩ (by rfl) (by rfl) (by rfl) (by rfl) (by exact ⟨rfl, rfl⟩)) $$ H
  iintro H
  iapply (site m 5 (t := 4) (n := 5) (n' := 6) ⟨rfl, rfl, rfl⟩ (by rfl) (by rfl) (by rfl) (by rfl) (by exact ⟨rfl, rfl⟩)) $$ H
  iintro H
  iapply wpc_ret
  iapply Hk
  isplitl [H]; · iexact H
  iexact Hx

theorem part13 (c : Dev nD) (v2 v38 v42 : BitVec 32) (Q : PUnit → sProp 𝕄) :
    iprop(Rt m c 4 6 ∗ xMid c 3 ∗ wCr c ∗ (Rt m c 6 8 ∗ xEnd m c 3 ∗ wEnd m c -∗ Q ⟨⟩)) ⊢ wpc c (onArgs (k0_part13 (F := F)) c v2 v38 v42) Q := by
  have hp : ∀ p : Piece, arr p = xAt 3 → 6 ≤ dep p := by decide +kernel
  have hi : ∀ i : Fin 17, ownArr i ≠ xAt 3 := by decide
  rw [k0_part13_eq_skeleton]
  unfold k0_part13_skel
  simp only [Prog.lift, Prog.bind_op, Prog.bind_ret, Prog.pure_eq_ret]
  iintro ⟨H, Hx, Hw, Hk⟩
  iapply (seg m 3 (t := 4) (t' := 5) (k := 6) ⟨rfl, rfl⟩ (by decide) hp hi (by rfl) (by rfl) (by exact fun _ => rfl) (by exact fun _ => rfl)) $$ [H Hx]
  · isplitl [H] <;> iassumption
  iintro ⟨H, Hx⟩
  iapply (site m 6 (t := 5) (n := 6) (n' := 7) ⟨rfl, rfl, rfl⟩ (by rfl) (by rfl) (by rfl) (by rfl) (by exact ⟨rfl, rfl⟩)) $$ H
  iintro H
  iapply (site m 7 (t := 5) (n := 7) (n' := 8) ⟨rfl, rfl, rfl⟩ (by rfl) (by rfl) (by rfl) (by rfl) (by exact ⟨rfl, rfl⟩)) $$ H
  iintro H
  iapply (wp_win m (k := 8) (by exact fun _ => rfl)) $$ [H Hw]
  · isplitl [H] <;> iassumption
  unfold wEnd
  iintro ⟨H, Hw⟩
  iapply wpc_ret
  iapply Hk
  isplitl [H]; · iexact H
  isplitl [Hx] <;> iassumption

theorem part14 (c : Dev nD) (v2 v23 : BitVec 32) (Q : (Σ' (v449 : F .f32), BitVec 32) → sProp 𝕄) :
    iprop(Rt m c 6 8 ∗ wEnd m c ∗ (∃ f : (cc0_scratch3 : Ref sig .tc).ty.Contents (Elt F), ((c : Thread nD τ).loc cc0_scratch3) ↦{fullShare} f) ∗ Out m c 0
        ∗ (∀ w, (Rt m c 7 8 ∗ Gm m c 1 ∗ wEnd m c) -∗ Q ⟨k0_pay8 (chunkX m c) (WF m c), w⟩))
      ⊢ wpc c (onArgs (k0_part14 (F := F)) c v2 v23) Q := by
  have h0 : rel 0 c = c := by revert c; decide
  rw [k0_part14_eq_skeleton]
  unfold k0_part14_skel wEnd
  simp only [Prog.lift, Prog.bind_op, Prog.bind_ret, Prog.pure_eq_ret]
  iintro ⟨H, ⟨Hw, Ha⟩, ⟨%f, Hb⟩, Ho, Hk⟩
  iapply (wp_wcast m (f := f)) $$ [Hw Hb]
  · isplitl [Hw] <;> iassumption
  iintro ⟨Hw, Hb⟩
  ihave Hg := (show iprop((((c : Thread nD τ).loc cc0_scratch3) ↦{fullShare} WF m c) ∗ Out m c 0) ⊢ Gm m c 0 from Entails.of_eq rfl) $$ [Hb Ho]
  · isplitl [Hb] <;> iassumption
  iapply (wp_chunk m 0 (t := 6) (n := 8) (by decide) (by decide) (by exact progIn_eq c 0)) $$ H
  iintro H
  iapply (wp_wload m) $$ Hg
  iintro Hg
  iapply (wp_oload m) $$ Hg
  iintro %v Hg
  iapply (wp_ychunk m 0 (n := 0) (n' := 1) rfl rfl (by decide) (by rfl) (by rfl) (by exact progOut_eq c 0) (by rfl)) $$ Hg
  iintro Hg
  iapply (recv m 0 (t := 6) (t' := 7) (n := 8) ⟨rfl, rfl, rfl⟩ (by exact fun _ => rfl)) $$ H
  iintro H
  iapply wpc_ret
  rw [h0]
  iapply Hk
  isplitl [H]; · iexact H
  isplitl [Hg]; · iexact Hg
  isplitl [Hw] <;> iassumption

end Cert.RingProof

end
-- ==== Proof.PartsA.lean ====
/-
# The ring phase, first third: the parts of the body up to the load of the partner's chunk
-/
module

public import proofs.«01_k».proof.Proof.Ring

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem part15 (c : Dev nD) (v23 v42 c1_i32_329 : BitVec 32) (Q : (BitVec 32) → sProp 𝕄) :
    iprop(Rt m c 7 8 ∗ (∀ w0, (Rt m c 8 10) -∗ Q w0)) ⊢ wpc c (onArgs (k0_part15 (F := F)) c v23 v42 c1_i32_329) Q := by
  rw [k0_part15_eq_skeleton]
  unfold k0_part15_skel
  simp only [Prog.lift, Prog.bind_op, Prog.bind_ret, Prog.pure_eq_ret]
  iintro ⟨H, Hk⟩
  iapply (site m 8 (t := 7) (n := 8) (n' := 9) ⟨rfl, rfl, rfl⟩ (by rfl) (by rfl) (by rfl) (by rfl) (by exact ⟨rfl, rfl⟩)) $$ H
  iintro H
  iapply (site m 9 (t := 7) (n := 9) (n' := 10) ⟨rfl, rfl, rfl⟩ (by rfl) (by rfl) (by rfl) (by rfl) (by exact ⟨rfl, rfl⟩)) $$ H
  iintro H
  iapply (recv m 4 (t := 7) (t' := 8) (n := 10) ⟨rfl, rfl, rfl⟩ (by exact fun _ => rfl)) $$ H
  iintro H
  iapply wpc_ret
  iapply Hk
  iexact H

theorem part16 (c : Dev nD) (v38 v42 v490 : BitVec 32) (Q : (Σ' (v518 : BitVec 32), BitVec 32) → sProp 𝕄) :
    iprop(Rt m c 8 10 ∗ (∀ w0 w1, (Rt m c 9 12) -∗ Q ⟨w0, w1⟩)) ⊢ wpc c (onArgs (k0_part16 (F := F)) c v38 v42 v490) Q := by
  rw [k0_part16_eq_skeleton]
  unfold k0_part16_skel
  simp only [Prog.lift, Prog.bind_op, Prog.bind_ret, Prog.pure_eq_ret]
  iintro ⟨H, Hk⟩
  iapply (site m 10 (t := 8) (n := 10) (n' := 11) ⟨rfl, rfl, rfl⟩ (by rfl) (by rfl) (by rfl) (by rfl) (by exact ⟨rfl, rfl⟩)) $$ H
  iintro H
  iapply (site m 11 (t := 8) (n := 11) (n' := 12) ⟨rfl, rfl, rfl⟩ (by rfl) (by rfl) (by rfl) (by rfl) (by exact ⟨rfl, rfl⟩)) $$ H
  iintro H
  iapply (recv m 2 (t := 8) (t' := 9) (n := 12) ⟨rfl, rfl, rfl⟩ (by exact fun _ => rfl)) $$ H
  iintro H
  iapply wpc_ret
  iapply Hk
  iexact H

theorem part17 (c : Dev nD) (v38 v42 v518 c0_i32_385 : BitVec 32) (Q : (PUnit) → sProp 𝕄) :
    iprop(Rt m c 9 12 ∗ ((Rt m c 10 14) -∗ Q ⟨⟩)) ⊢ wpc c (onArgs (k0_part17 (F := F)) c v38 v42 v518 c0_i32_385) Q := by
  rw [k0_part17_eq_skeleton]
  unfold k0_part17_skel
  simp only [Prog.lift, Prog.bind_op, Prog.bind_ret, Prog.pure_eq_ret]
  iintro ⟨H, Hk⟩
  iapply (site m 12 (t := 9) (n := 12) (n' := 13) ⟨rfl, rfl, rfl⟩ (by rfl) (by rfl) (by rfl) (by rfl) (by exact ⟨rfl, rfl⟩)) $$ H
  iintro H
  iapply (site m 13 (t := 9) (n := 13) (n' := 14) ⟨rfl, rfl, rfl⟩ (by rfl) (by rfl) (by rfl) (by rfl) (by exact ⟨rfl, rfl⟩)) $$ H
  iintro H
  iapply (recv m 6 (t := 9) (t' := 10) (n := 14) ⟨rfl, rfl, rfl⟩ (by exact fun _ => rfl)) $$ H
  iintro H
  iapply wpc_ret
  iapply Hk
  iexact H

theorem part18 (c : Dev nD) (v42 v95 v219 : BitVec 32) (Q : (F .f32) → sProp 𝕄) :
    iprop(Rt m c 10 14 ∗ Gm m c 1 ∗ ((Rt m c 10 16 ∗ Gm m c 2) -∗ Q (k0_pay10 (halfX m (rel 1 c) 0) (WF m c)))) ⊢ wpc c (onArgs (k0_part18 (F := F)) c v42 v95 v219) Q := by
  rw [k0_part18_eq_skeleton]
  unfold k0_part18_skel
  simp only [Prog.lift, Prog.bind_op, Prog.bind_ret, Prog.pure_eq_ret]
  iintro ⟨H, HG, Hk⟩
  iapply (site m 14 (t := 10) (n := 14) (n' := 15) ⟨rfl, rfl, rfl⟩ (by rfl) (by rfl) (by rfl) (by rfl) (by exact ⟨rfl, rfl⟩)) $$ H
  iintro H
  iapply (site m 15 (t := 10) (n := 15) (n' := 16) ⟨rfl, rfl, rfl⟩ (by rfl) (by rfl) (by rfl) (by rfl) (by exact ⟨rfl, rfl⟩)) $$ H
  iintro H
  iapply (wp_half m 1 0 (t := 10) (n := 16) (by decide) (by decide) (by exact progIn_eq c 1)) $$ H
  iintro H
  iapply (wp_wload m) $$ HG
  iintro HG
  iapply (wp_oload m) $$ HG
  iintro %_ HG
  iapply (wp_yhalf m 1 0 (n := 1) (n' := 2) rfl rfl (by decide) rfl rfl (by exact progOut_eq c 1) (by rfl)) $$ HG
  iintro HG
  iapply wpc_ret
  iapply Hk
  isplitl [H] <;> iassumption

theorem part19 (c : Dev nD) (v23 v42 v219 : BitVec 32) (Q : (F .f32) → sProp 𝕄) :
    iprop(Rt m c 10 16 ∗ Gm m c 2 ∗ ((Rt m c 11 16 ∗ Gm m c 3) -∗ Q (k0_pay12 (halfX m (rel 2 c) 1) (WF m c)))) ⊢ wpc c (onArgs (k0_part19 (F := F)) c v23 v42 v219) Q := by
  rw [k0_part19_eq_skeleton]
  unfold k0_part19_skel
  simp only [Prog.lift, Prog.bind_op, Prog.bind_ret, Prog.pure_eq_ret]
  iintro ⟨H, HG, Hk⟩
  iapply (wp_half m 2 1 (t := 10) (n := 16) (by decide) (by decide) (by exact progIn_eq c 2)) $$ H
  iintro H
  iapply (wp_wload m) $$ HG
  iintro HG
  iapply (wp_oload m) $$ HG
  iintro %_ HG
  iapply (wp_yhalf m 2 1 (n := 2) (n' := 3) rfl rfl (by decide) rfl rfl (by exact progOut_eq c 2) (by rfl)) $$ HG
  iintro HG
  iapply (recv m 1 (t := 10) (t' := 11) (n := 16) ⟨rfl, rfl, rfl⟩ (by exact fun _ => rfl)) $$ H
  iintro H
  iapply wpc_ret
  iapply Hk
  isplitl [H] <;> iassumption

theorem part20 (c : Dev nD) (v23 v42 : BitVec 32) (Q : (PUnit) → sProp 𝕄) :
    iprop(Rt m c 11 16 ∗ ((Rt m c 13 18) -∗ Q ⟨⟩)) ⊢ wpc c (onArgs (k0_part20 (F := F)) c v23 v42) Q := by
  rw [k0_part20_eq_skeleton]
  unfold k0_part20_skel
  simp only [Prog.lift, Prog.bind_op, Prog.bind_ret, Prog.pure_eq_ret]
  iintro ⟨H, Hk⟩
  iapply (site m 16 (t := 11) (n := 16) (n' := 17) ⟨rfl, rfl, rfl⟩ (by rfl) (by rfl) (by rfl) (by rfl) (by exact ⟨rfl, rfl⟩)) $$ H
  iintro H
  iapply (recv m 5 (t := 11) (t' := 12) (n := 17) ⟨rfl, rfl, rfl⟩ (by exact fun _ => rfl)) $$ H
  iintro H
  iapply (site m 17 (t := 12) (n := 17) (n' := 18) ⟨rfl, rfl, rfl⟩ (by rfl) (by rfl) (by rfl) (by rfl) (by exact ⟨rfl, rfl⟩)) $$ H
  iintro H
  iapply (recv m 3 (t := 12) (t' := 13) (n := 18) ⟨rfl, rfl, rfl⟩ (by exact fun _ => rfl)) $$ H
  iintro H
  iapply wpc_ret
  iapply Hk
  iexact H

theorem part21 (c : Dev nD) (v38 v42 : BitVec 32) (Q : (Vec F S1x512x4096 .bf16) → sProp 𝕄) :
    iprop(Rt m c 13 18 ∗ ((Rt m c 14 20) -∗ Q (chunkX m (rel 3 c)))) ⊢ wpc c (onArgs (k0_part21 (F := F)) c v38 v42) Q := by
  rw [k0_part21_eq_skeleton]
  unfold k0_part21_skel
  simp only [Prog.lift, Prog.bind_op, Prog.bind_ret, Prog.pure_eq_ret]
  iintro ⟨H, Hk⟩
  iapply (site m 18 (t := 13) (n := 18) (n' := 19) ⟨rfl, rfl, rfl⟩ (by rfl) (by rfl) (by rfl) (by rfl) (by exact ⟨rfl, rfl⟩)) $$ H
  iintro H
  iapply (recv m 7 (t := 13) (t' := 14) (n := 19) ⟨rfl, rfl, rfl⟩ (by exact fun _ => rfl)) $$ H
  iintro H
  iapply (site m 19 (t := 14) (n := 19) (n' := 20) ⟨rfl, rfl, rfl⟩ (by rfl) (by rfl) (by rfl) (by rfl) (by exact ⟨rfl, rfl⟩)) $$ H
  iintro H
  iapply (wp_chunk m 3 (t := 14) (n := 20) (by decide) (by decide) (by exact progIn_eq c 3)) $$ H
  iintro H
  iapply wpc_ret
  iapply Hk
  iexact H

end Cert.RingProof

end
-- ==== Proof.PartsB.lean ====
/-
# The ring phase, second third
-/
module

public import proofs.«01_k».proof.Proof.Ring

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem part22 (c : Dev nD) (v23 v42 : BitVec 32) (Q : (F .f32) → sProp 𝕄) :
    iprop(Rt m c 14 20 ∗ Gm m c 3 ∗ ((Rt m c 15 20 ∗ Gm m c 4) -∗ Q (k0_pay14 (chunkX m (rel 3 c)) (WF m c)))) ⊢ wpc c (onArgs (k0_part22 (F := F)) c v23 v42 (chunkX m (rel 3 c))) Q := by
  rw [k0_part22_eq_skeleton]
  unfold k0_part22_skel
  simp only [Prog.lift, Prog.bind_op, Prog.bind_ret, Prog.pure_eq_ret]
  iintro ⟨H, HG, Hk⟩
  iapply (wp_wload m) $$ HG
  iintro HG
  iapply (wp_oload m) $$ HG
  iintro %_ HG
  iapply (wp_ychunk m 3 (n := 3) (n' := 4) rfl rfl (by decide) rfl rfl (by exact progOut_eq c 3) (by rfl)) $$ HG
  iintro HG
  iapply (recv m 8 (t := 14) (t' := 15) (n := 20) ⟨rfl, rfl, rfl⟩ (by exact fun _ => rfl)) $$ H
  iintro H
  iapply wpc_ret
  iapply Hk
  isplitl [H] <;> iassumption

theorem part23 (c : Dev nD) (v23 v42 : BitVec 32) (Q : (PUnit) → sProp 𝕄) :
    iprop(Rt m c 15 20 ∗ ((Rt m c 16 22) -∗ Q ⟨⟩)) ⊢ wpc c (onArgs (k0_part23 (F := F)) c v23 v42) Q := by
  rw [k0_part23_eq_skeleton]
  unfold k0_part23_skel
  simp only [Prog.lift, Prog.bind_op, Prog.bind_ret, Prog.pure_eq_ret]
  iintro ⟨H, Hk⟩
  iapply (site m 20 (t := 15) (n := 20) (n' := 21) ⟨rfl, rfl, rfl⟩ (by rfl) (by rfl) (by rfl) (by rfl) (by exact ⟨rfl, rfl⟩)) $$ H
  iintro H
  iapply (recv m 10 (t := 15) (t' := 16) (n := 21) ⟨rfl, rfl, rfl⟩ (by exact fun _ => rfl)) $$ H
  iintro H
  iapply (site m 21 (t := 16) (n := 21) (n' := 22) ⟨rfl, rfl, rfl⟩ (by rfl) (by rfl) (by rfl) (by rfl) (by exact ⟨rfl, rfl⟩)) $$ H
  iintro H
  iapply wpc_ret
  iapply Hk
  iexact H

theorem part24 (c : Dev nD) (v38 : BitVec 32) (Q : (PUnit) → sProp 𝕄) :
    iprop(Rt m c 16 22 ∗ ((Rt m c 18 24) -∗ Q ⟨⟩)) ⊢ wpc c (onArgs (k0_part24 (F := F)) c v38) Q := by
  rw [k0_part24_eq_skeleton]
  unfold k0_part24_skel
  simp only [Prog.lift, Prog.bind_op, Prog.bind_ret, Prog.pure_eq_ret]
  iintro ⟨H, Hk⟩
  iapply (site m 22 (t := 16) (n := 22) (n' := 23) ⟨rfl, rfl, rfl⟩ (by rfl) (by rfl) (by rfl) (by rfl) (by exact ⟨rfl, rfl⟩)) $$ H
  iintro H
  iapply (recv m 12 (t := 16) (t' := 17) (n := 23) ⟨rfl, rfl, rfl⟩ (by exact fun _ => rfl)) $$ H
  iintro H
  iapply (site m 23 (t := 17) (n := 23) (n' := 24) ⟨rfl, rfl, rfl⟩ (by rfl) (by rfl) (by rfl) (by rfl) (by exact ⟨rfl, rfl⟩)) $$ H
  iintro H
  iapply (recv m 14 (t := 17) (t' := 18) (n := 24) ⟨rfl, rfl, rfl⟩ (by exact fun _ => rfl)) $$ H
  iintro H
  iapply wpc_ret
  iapply Hk
  iexact H

theorem part25 (c : Dev nD) (v38 v42 v110 : BitVec 32) (Q : (Σ' (v781 : FVec F S256x256 .f32) (v785 : F .f32), BitVec 32) → sProp 𝕄) :
    iprop(Rt m c 18 24 ∗ Gm m c 4 ∗ (∀ w2, (Rt m c 18 26 ∗ Gm m c 4) -∗ Q ⟨k0_pay15 (halfX m (rel 4 c) 0) (WF m c), k0_pay16 (halfX m (rel 4 c) 0) (WF m c), w2⟩)) ⊢ wpc c (onArgs (k0_part25 (F := F)) c v38 v42 v110) Q := by
  rw [k0_part25_eq_skeleton]
  unfold k0_part25_skel
  simp only [Prog.lift, Prog.bind_op, Prog.bind_ret, Prog.pure_eq_ret]
  iintro ⟨H, HG, Hk⟩
  iapply (site m 24 (t := 18) (n := 24) (n' := 25) ⟨rfl, rfl, rfl⟩ (by rfl) (by rfl) (by rfl) (by rfl) (by exact ⟨rfl, rfl⟩)) $$ H
  iintro H
  iapply (site m 25 (t := 18) (n := 25) (n' := 26) ⟨rfl, rfl, rfl⟩ (by rfl) (by rfl) (by rfl) (by rfl) (by exact ⟨rfl, rfl⟩)) $$ H
  iintro H
  iapply (wp_half m 4 0 (t := 18) (n := 26) (by decide) (by decide) (by exact progIn_eq c 4)) $$ H
  iintro H
  iapply (wp_wload m) $$ HG
  iintro HG
  iapply wpc_ret
  iapply Hk
  isplitl [H] <;> iassumption

theorem part26 (c : Dev nD) (v23 v234 v786 : BitVec 32) (Q : (F .f32) → sProp 𝕄) :
    iprop(Rt m c 18 26 ∗ Gm m c 4 ∗ ((Rt m c 19 26 ∗ Gm m c 6) -∗ Q (k0_pay18 (halfX m (rel 4 c) 1) (WF m c)))) ⊢ wpc c (onArgs (k0_part26 (F := F)) c v23 v234 (k0_pay15 (halfX m (rel 4 c) 0) (WF m c)) v786) Q := by
  rw [k0_part26_eq_skeleton]
  unfold k0_part26_skel
  simp only [Prog.lift, Prog.bind_op, Prog.bind_ret, Prog.pure_eq_ret]
  iintro ⟨H, HG, Hk⟩
  iapply (wp_oload m) $$ HG
  iintro %_ HG
  iapply (wp_yhalf m 4 0 (n := 4) (n' := 5) rfl rfl (by decide) rfl rfl (by exact progOut_eq c 4) (by rfl)) $$ HG
  iintro HG
  iapply (wp_half m 4 1 (t := 18) (n := 26) (by decide) (by decide) (by exact progIn_eq c 5)) $$ H
  iintro H
  iapply (wp_wload m) $$ HG
  iintro HG
  iapply (wp_oload m) $$ HG
  iintro %_ HG
  iapply (wp_yhalf m 5 1 (n := 5) (n' := 6) rfl rfl (by decide) rfl rfl (by exact progOut_eq c 5) (by rfl)) $$ HG
  iintro HG
  iapply (recv m 16 (t := 18) (t' := 19) (n := 26) ⟨rfl, rfl, rfl⟩ (by exact fun _ => rfl)) $$ H
  iintro H
  iapply wpc_ret
  iapply Hk
  isplitl [H] <;> iassumption

theorem part27 (c : Dev nD) (v23 v38 : BitVec 32) (Q : (PUnit) → sProp 𝕄) :
    iprop(Rt m c 19 26 ∗ ((Rt m c 21 27) -∗ Q ⟨⟩)) ⊢ wpc c (onArgs (k0_part27 (F := F)) c v23 v38) Q := by
  rw [k0_part27_eq_skeleton]
  unfold k0_part27_skel
  simp only [Prog.lift, Prog.bind_op, Prog.bind_ret, Prog.pure_eq_ret]
  iintro ⟨H, Hk⟩
  iapply (recv m 17 (t := 19) (t' := 20) (n := 26) ⟨rfl, rfl, rfl⟩ (by exact fun _ => rfl)) $$ H
  iintro H
  iapply (site m 26 (t := 20) (n := 26) (n' := 27) ⟨rfl, rfl, rfl⟩ (by rfl) (by rfl) (by rfl) (by rfl) (by exact ⟨rfl, rfl⟩)) $$ H
  iintro H
  iapply (recv m 18 (t := 20) (t' := 21) (n := 27) ⟨rfl, rfl, rfl⟩ (by exact fun _ => rfl)) $$ H
  iintro H
  iapply wpc_ret
  iapply Hk
  iexact H

theorem part28 (c : Dev nD) (v38 v157 v281 : BitVec 32) (Q : (Σ' (v867 : F .f32), Vec F S1x256x4096 .bf16) → sProp 𝕄) :
    iprop(Rt m c 21 27 ∗ Gm m c 6 ∗ ((Rt m c 22 28 ∗ Gm m c 7) -∗ Q ⟨k0_pay20 (halfX m (rel 5 c) 0) (WF m c), (halfX m (rel 6 c) 1)⟩)) ⊢ wpc c (onArgs (k0_part28 (F := F)) c v38 v157 v281) Q := by
  rw [k0_part28_eq_skeleton]
  unfold k0_part28_skel
  simp only [Prog.lift, Prog.bind_op, Prog.bind_ret, Prog.pure_eq_ret]
  iintro ⟨H, HG, Hk⟩
  iapply (recv m 19 (t := 21) (t' := 22) (n := 27) ⟨rfl, rfl, rfl⟩ (by exact fun _ => rfl)) $$ H
  iintro H
  iapply (site m 27 (t := 22) (n := 27) (n' := 28) ⟨rfl, rfl, rfl⟩ (by rfl) (by rfl) (by rfl) (by rfl) (by exact ⟨rfl, rfl⟩)) $$ H
  iintro H
  iapply (wp_half m 5 0 (t := 22) (n := 28) (by decide) (by decide) (by exact progIn_eq c 6)) $$ H
  iintro H
  iapply (wp_wload m) $$ HG
  iintro HG
  iapply (wp_oload m) $$ HG
  iintro %_ HG
  iapply (wp_yhalf m 6 0 (n := 6) (n' := 7) rfl rfl (by decide) rfl rfl (by exact progOut_eq c 6) (by rfl)) $$ HG
  iintro HG
  iapply (wp_half m 6 1 (t := 22) (n := 28) (by decide) (by decide) (by exact progIn_eq c 7)) $$ H
  iintro H
  iapply wpc_ret
  iapply Hk
  isplitl [H] <;> iassumption

theorem part29 (c : Dev nD) (v23 v281 : BitVec 32) (Q : (F .f32) → sProp 𝕄) :
    iprop(Rt m c 22 28 ∗ Gm m c 7 ∗ ((Rt m c 24 28 ∗ Gm m c 8) -∗ Q (k0_pay22 (halfX m (rel 6 c) 1) (WF m c)))) ⊢ wpc c (onArgs (k0_part29 (F := F)) c v23 v281 (halfX m (rel 6 c) 1)) Q := by
  rw [k0_part29_eq_skeleton]
  unfold k0_part29_skel
  simp only [Prog.lift, Prog.bind_op, Prog.bind_ret, Prog.pure_eq_ret]
  iintro ⟨H, HG, Hk⟩
  iapply (wp_wload m) $$ HG
  iintro HG
  iapply (wp_oload m) $$ HG
  iintro %_ HG
  iapply (wp_yhalf m 7 1 (n := 7) (n' := 8) rfl rfl (by decide) rfl rfl (by exact progOut_eq c 7) (by rfl)) $$ HG
  iintro HG
  iapply (recv m 20 (t := 22) (t' := 23) (n := 28) ⟨rfl, rfl, rfl⟩ (by exact fun _ => rfl)) $$ H
  iintro H
  iapply (recv m 21 (t := 23) (t' := 24) (n := 28) ⟨rfl, rfl, rfl⟩ (by exact fun _ => rfl)) $$ H
  iintro H
  iapply wpc_ret
  iapply Hk
  isplitl [H] <;> iassumption

end Cert.RingProof

end
-- ==== Proof.PartsC.lean ====
/-
# The ring phase, last third: the landings' last matmuls and the ends of the sites
-/
module

public import proofs.«01_k».proof.Proof.Ring

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem part30 (c : Dev nD) (v38 v125 : BitVec 32) (Q : (Σ' (v925 : FVec F S256x256 .f32) (v929 : F .f32), BitVec 32) → sProp 𝕄) :
    iprop(Rt m c 24 28 ∗ Gm m c 8 ∗ (∀ w2, (Rt m c 26 28 ∗ Gm m c 8) -∗ Q ⟨k0_pay23 (halfX m (rel 2 c) 0) (WF m c), k0_pay24 (halfX m (rel 2 c) 0) (WF m c), w2⟩)) ⊢ wpc c (onArgs (k0_part30 (F := F)) c v38 v125) Q := by
  rw [k0_part30_eq_skeleton]
  unfold k0_part30_skel
  simp only [Prog.lift, Prog.bind_op, Prog.bind_ret, Prog.pure_eq_ret]
  iintro ⟨H, HG, Hk⟩
  iapply (recv m 23 (t := 24) (t' := 25) (n := 28) ⟨rfl, rfl, rfl⟩ (by exact fun _ => rfl)) $$ H
  iintro H
  iapply (recv m 24 (t := 25) (t' := 26) (n := 28) ⟨rfl, rfl, rfl⟩ (by exact fun _ => rfl)) $$ H
  iintro H
  iapply (wp_half m 2 0 (t := 26) (n := 28) (by decide) (by decide) (by exact progIn_eq c 8)) $$ H
  iintro H
  iapply (wp_wload m) $$ HG
  iintro HG
  iapply wpc_ret
  iapply Hk
  isplitl [H] <;> iassumption

theorem part31 (c : Dev nD) (v42 v249 v931 : BitVec 32) (Q : (F .f32) → sProp 𝕄) :
    iprop(Rt m c 26 28 ∗ Gm m c 8 ∗ ((Rt m c 27 28 ∗ Gm m c 10) -∗ Q (k0_pay26 (halfX m (rel 1 c) 1) (WF m c)))) ⊢ wpc c (onArgs (k0_part31 (F := F)) c v42 v249 (k0_pay23 (halfX m (rel 2 c) 0) (WF m c)) v931) Q := by
  rw [k0_part31_eq_skeleton]
  unfold k0_part31_skel
  simp only [Prog.lift, Prog.bind_op, Prog.bind_ret, Prog.pure_eq_ret]
  iintro ⟨H, HG, Hk⟩
  iapply (wp_oload m) $$ HG
  iintro %_ HG
  iapply (wp_yhalf m 8 0 (n := 8) (n' := 9) rfl rfl (by decide) rfl rfl (by exact progOut_eq c 8) (by rfl)) $$ HG
  iintro HG
  iapply (wp_half m 1 1 (t := 26) (n := 28) (by decide) (by decide) (by exact progIn_eq c 9)) $$ H
  iintro H
  iapply (wp_wload m) $$ HG
  iintro HG
  iapply (wp_oload m) $$ HG
  iintro %_ HG
  iapply (wp_yhalf m 9 1 (n := 9) (n' := 10) rfl rfl (by decide) rfl rfl (by exact progOut_eq c 9) (by rfl)) $$ HG
  iintro HG
  iapply (recv m 9 (t := 26) (t' := 27) (n := 28) ⟨rfl, rfl, rfl⟩ (by exact fun _ => rfl)) $$ H
  iintro H
  iapply wpc_ret
  iapply Hk
  isplitl [H] <;> iassumption

theorem part32 (c : Dev nD) (v42 v189 : BitVec 32) (Q : (F .f32) → sProp 𝕄) :
    iprop(Rt m c 27 28 ∗ Gm m c 10 ∗ ((Rt m c 29 28 ∗ Gm m c 11) -∗ Q (k0_pay28 (halfX m (rel 6 c) 0) (WF m c)))) ⊢ wpc c (onArgs (k0_part32 (F := F)) c v42 v189) Q := by
  rw [k0_part32_eq_skeleton]
  unfold k0_part32_skel
  simp only [Prog.lift, Prog.bind_op, Prog.bind_ret, Prog.pure_eq_ret]
  iintro ⟨H, HG, Hk⟩
  iapply (recv m 11 (t := 27) (t' := 28) (n := 28) ⟨rfl, rfl, rfl⟩ (by exact fun _ => rfl)) $$ H
  iintro H
  iapply (wp_half m 6 0 (t := 28) (n := 28) (by decide) (by decide) (by exact progIn_eq c 10)) $$ H
  iintro H
  iapply (wp_wload m) $$ HG
  iintro HG
  iapply (wp_oload m) $$ HG
  iintro %_ HG
  iapply (wp_yhalf m 10 0 (n := 10) (n' := 11) rfl rfl (by decide) rfl rfl (by exact progOut_eq c 10) (by rfl)) $$ HG
  iintro HG
  iapply (recv m 13 (t := 28) (t' := 29) (n := 28) ⟨rfl, rfl, rfl⟩ (by exact fun _ => rfl)) $$ H
  iintro H
  iapply wpc_ret
  iapply Hk
  isplitl [H] <;> iassumption

theorem part33 (c : Dev nD) (v23 v42 v313 : BitVec 32) (Q : (F .f32) → sProp 𝕄) :
    iprop(Rt m c 29 28 ∗ Gm m c 11 ∗ ((Rt m c 31 28 ∗ Gm m c 12) -∗ Q (k0_pay30 (halfX m (rel 5 c) 1) (WF m c)))) ⊢ wpc c (onArgs (k0_part33 (F := F)) c v23 v42 v313) Q := by
  rw [k0_part33_eq_skeleton]
  unfold k0_part33_skel
  simp only [Prog.lift, Prog.bind_op, Prog.bind_ret, Prog.pure_eq_ret]
  iintro ⟨H, HG, Hk⟩
  iapply (recv m 15 (t := 29) (t' := 30) (n := 28) ⟨rfl, rfl, rfl⟩ (by exact fun _ => rfl)) $$ H
  iintro H
  iapply (wp_half m 5 1 (t := 30) (n := 28) (by decide) (by decide) (by exact progIn_eq c 11)) $$ H
  iintro H
  iapply (wp_wload m) $$ HG
  iintro HG
  iapply (wp_oload m) $$ HG
  iintro %_ HG
  iapply (wp_yhalf m 11 1 (n := 11) (n' := 12) rfl rfl (by decide) rfl rfl (by exact progOut_eq c 11) (by rfl)) $$ HG
  iintro HG
  iapply (recv m 26 (t := 30) (t' := 31) (n := 28) ⟨rfl, rfl, rfl⟩ (by exact fun _ => rfl)) $$ H
  iintro H
  iapply wpc_ret
  iapply Hk
  isplitl [H] <;> iassumption

theorem part34 (c : Dev nD) (v38 v42 v173 : BitVec 32) (Q : (F .f32) → sProp 𝕄) :
    iprop(Rt m c 31 28 ∗ Gm m c 12 ∗ ((Rt m c 33 28 ∗ Gm m c 13) -∗ Q (k0_pay32 (halfX m (rel 7 c) 0) (WF m c)))) ⊢ wpc c (onArgs (k0_part34 (F := F)) c v38 v42 v173) Q := by
  rw [k0_part34_eq_skeleton]
  unfold k0_part34_skel
  simp only [Prog.lift, Prog.bind_op, Prog.bind_ret, Prog.pure_eq_ret]
  iintro ⟨H, HG, Hk⟩
  iapply (recv m 22 (t := 31) (t' := 32) (n := 28) ⟨rfl, rfl, rfl⟩ (by exact fun _ => rfl)) $$ H
  iintro H
  iapply (wp_half m 7 0 (t := 32) (n := 28) (by decide) (by decide) (by exact progIn_eq c 12)) $$ H
  iintro H
  iapply (wp_wload m) $$ HG
  iintro HG
  iapply (wp_oload m) $$ HG
  iintro %_ HG
  iapply (wp_yhalf m 12 0 (n := 12) (n' := 13) rfl rfl (by decide) rfl rfl (by exact progOut_eq c 12) (by rfl)) $$ HG
  iintro HG
  iapply (recv m 27 (t := 32) (t' := 33) (n := 28) ⟨rfl, rfl, rfl⟩ (by exact fun _ => rfl)) $$ H
  iintro H
  iapply wpc_ret
  iapply Hk
  isplitl [H] <;> iassumption

theorem part35 (c : Dev nD) (v297 : BitVec 32) (Q : (F .f32) → sProp 𝕄) :
    iprop(Rt m c 33 28 ∗ Gm m c 13 ∗ ((Rt m c 35 28 ∗ Gm m c 14) -∗ Q (k0_pay34 (halfX m (rel 7 c) 1) (WF m c)))) ⊢ wpc c (onArgs (k0_part35 (F := F)) c v297) Q := by
  rw [k0_part35_eq_skeleton]
  unfold k0_part35_skel
  simp only [Prog.lift, Prog.bind_op, Prog.bind_ret, Prog.pure_eq_ret]
  iintro ⟨H, HG, Hk⟩
  iapply (recv m 25 (t := 33) (t' := 34) (n := 28) ⟨rfl, rfl, rfl⟩ (by exact fun _ => rfl)) $$ H
  iintro H
  iapply (wp_half m 7 1 (t := 34) (n := 28) (by decide) (by decide) (by exact progIn_eq c 13)) $$ H
  iintro H
  iapply (wp_wload m) $$ HG
  iintro HG
  iapply (wp_oload m) $$ HG
  iintro %_ HG
  iapply (wp_yhalf m 13 1 (n := 13) (n' := 14) rfl rfl (by decide) rfl rfl (by exact progOut_eq c 13) (by rfl)) $$ HG
  iintro HG
  iapply (sent m 0 (t := 34) (t' := 35) ⟨rfl, rfl⟩ (by exact fun _ => rfl)) $$ H
  iintro H
  iapply wpc_ret
  iapply Hk
  isplitl [H] <;> iassumption

theorem part36 (c : Dev nD) (Q : (PUnit) → sProp 𝕄) :
    iprop(Rt m c 35 28 ∗ ((Rt m c 39 28) -∗ Q ⟨⟩)) ⊢ wpc c (onArgs (k0_part36 (F := F)) c) Q := by
  rw [k0_part36_eq_skeleton]
  unfold k0_part36_skel
  simp only [Prog.lift, Prog.bind_op, Prog.bind_ret, Prog.pure_eq_ret]
  iintro ⟨H, Hk⟩
  iapply (sent m 1 (t := 35) (t' := 36) ⟨rfl, rfl⟩ (by exact fun _ => rfl)) $$ H
  iintro H
  iapply (sent m 2 (t := 36) (t' := 37) ⟨rfl, rfl⟩ (by exact fun _ => rfl)) $$ H
  iintro H
  iapply (sent m 3 (t := 37) (t' := 38) ⟨rfl, rfl⟩ (by exact fun _ => rfl)) $$ H
  iintro H
  iapply (sent m 4 (t := 38) (t' := 39) ⟨rfl, rfl⟩ (by exact fun _ => rfl)) $$ H
  iintro H
  iapply wpc_ret
  iapply Hk
  iexact H

theorem part37 (c : Dev nD) (Q : (PUnit) → sProp 𝕄) :
    iprop(Rt m c 39 28 ∗ ((Rt m c 43 28) -∗ Q ⟨⟩)) ⊢ wpc c (onArgs (k0_part37 (F := F)) c) Q := by
  rw [k0_part37_eq_skeleton]
  unfold k0_part37_skel
  simp only [Prog.lift, Prog.bind_op, Prog.bind_ret, Prog.pure_eq_ret]
  iintro ⟨H, Hk⟩
  iapply (sent m 5 (t := 39) (t' := 40) ⟨rfl, rfl⟩ (by exact fun _ => rfl)) $$ H
  iintro H
  iapply (sent m 6 (t := 40) (t' := 41) ⟨rfl, rfl⟩ (by exact fun _ => rfl)) $$ H
  iintro H
  iapply (sent m 7 (t := 41) (t' := 42) ⟨rfl, rfl⟩ (by exact fun _ => rfl)) $$ H
  iintro H
  iapply (sent m 8 (t := 42) (t' := 43) ⟨rfl, rfl⟩ (by exact fun _ => rfl)) $$ H
  iintro H
  iapply wpc_ret
  iapply Hk
  iexact H

theorem part38 (c : Dev nD) (Q : (PUnit) → sProp 𝕄) :
    iprop(Rt m c 43 28 ∗ ((Rt m c 47 28) -∗ Q ⟨⟩)) ⊢ wpc c (onArgs (k0_part38 (F := F)) c) Q := by
  rw [k0_part38_eq_skeleton]
  unfold k0_part38_skel
  simp only [Prog.lift, Prog.bind_op, Prog.bind_ret, Prog.pure_eq_ret]
  iintro ⟨H, Hk⟩
  iapply (sent m 9 (t := 43) (t' := 44) ⟨rfl, rfl⟩ (by exact fun _ => rfl)) $$ H
  iintro H
  iapply (sent m 10 (t := 44) (t' := 45) ⟨rfl, rfl⟩ (by exact fun _ => rfl)) $$ H
  iintro H
  iapply (sent m 11 (t := 45) (t' := 46) ⟨rfl, rfl⟩ (by exact fun _ => rfl)) $$ H
  iintro H
  iapply (sent m 12 (t := 46) (t' := 47) ⟨rfl, rfl⟩ (by exact fun _ => rfl)) $$ H
  iintro H
  iapply wpc_ret
  iapply Hk
  iexact H

theorem part39 (c : Dev nD) (Q : (PUnit) → sProp 𝕄) :
    iprop(Rt m c 47 28 ∗ ((Rt m c 51 28) -∗ Q ⟨⟩)) ⊢ wpc c (onArgs (k0_part39 (F := F)) c) Q := by
  rw [k0_part39_eq_skeleton]
  unfold k0_part39_skel
  simp only [Prog.lift, Prog.bind_op, Prog.bind_ret, Prog.pure_eq_ret]
  iintro ⟨H, Hk⟩
  iapply (sent m 13 (t := 47) (t' := 48) ⟨rfl, rfl⟩ (by exact fun _ => rfl)) $$ H
  iintro H
  iapply (sent m 14 (t := 48) (t' := 49) ⟨rfl, rfl⟩ (by exact fun _ => rfl)) $$ H
  iintro H
  iapply (sent m 15 (t := 49) (t' := 50) ⟨rfl, rfl⟩ (by exact fun _ => rfl)) $$ H
  iintro H
  iapply (sent m 16 (t := 50) (t' := 51) ⟨rfl, rfl⟩ (by exact fun _ => rfl)) $$ H
  iintro H
  iapply wpc_ret
  iapply Hk
  iexact H

theorem part40 (c : Dev nD) (Q : (PUnit) → sProp 𝕄) :
    iprop(Rt m c 51 28 ∗ ((Rt m c 55 28) -∗ Q ⟨⟩)) ⊢ wpc c (onArgs (k0_part40 (F := F)) c) Q := by
  rw [k0_part40_eq_skeleton]
  unfold k0_part40_skel
  simp only [Prog.lift, Prog.bind_op, Prog.bind_ret, Prog.pure_eq_ret]
  iintro ⟨H, Hk⟩
  iapply (sent m 17 (t := 51) (t' := 52) ⟨rfl, rfl⟩ (by exact fun _ => rfl)) $$ H
  iintro H
  iapply (sent m 18 (t := 52) (t' := 53) ⟨rfl, rfl⟩ (by exact fun _ => rfl)) $$ H
  iintro H
  iapply (sent m 19 (t := 53) (t' := 54) ⟨rfl, rfl⟩ (by exact fun _ => rfl)) $$ H
  iintro H
  iapply (sent m 20 (t := 54) (t' := 55) ⟨rfl, rfl⟩ (by exact fun _ => rfl)) $$ H
  iintro H
  iapply wpc_ret
  iapply Hk
  iexact H

theorem part41 (c : Dev nD) (Q : (PUnit) → sProp 𝕄) :
    iprop(Rt m c 55 28 ∗ ((Rt m c 59 28) -∗ Q ⟨⟩)) ⊢ wpc c (onArgs (k0_part41 (F := F)) c) Q := by
  rw [k0_part41_eq_skeleton]
  unfold k0_part41_skel
  simp only [Prog.lift, Prog.bind_op, Prog.bind_ret, Prog.pure_eq_ret]
  iintro ⟨H, Hk⟩
  iapply (sent m 21 (t := 55) (t' := 56) ⟨rfl, rfl⟩ (by exact fun _ => rfl)) $$ H
  iintro H
  iapply (sent m 22 (t := 56) (t' := 57) ⟨rfl, rfl⟩ (by exact fun _ => rfl)) $$ H
  iintro H
  iapply (sent m 23 (t := 57) (t' := 58) ⟨rfl, rfl⟩ (by exact fun _ => rfl)) $$ H
  iintro H
  iapply (sent m 24 (t := 58) (t' := 59) ⟨rfl, rfl⟩ (by exact fun _ => rfl)) $$ H
  iintro H
  iapply wpc_ret
  iapply Hk
  iexact H

theorem part42 (c : Dev nD) (v449 : F .f32) (v576 : F .f32) (v591 : F .f32) (v678 : F .f32) (v785 : F .f32) (v800 : F .f32) (v867 : F .f32) (v882 : F .f32) (v929 : F .f32) (v944 : F .f32) (v975 : F .f32) (v1006 : F .f32) (v1037 : F .f32) (v1068 : F .f32) (Q : (FVec F S1 .f32) → sProp 𝕄) :
    iprop(Rt m c 59 28 ∗ ((Rt m c 62 28) -∗ Q (k0_pay35 v449 v576 v591 v678 v785 v800 v867 v882 v929 v944 v975 v1006 v1037 v1068))) ⊢ wpc c (onArgs (k0_part42 (F := F)) c v449 v576 v591 v678 v785 v800 v867 v882 v929 v944 v975 v1006 v1037 v1068) Q := by
  rw [k0_part42_eq_skeleton]
  unfold k0_part42_skel
  simp only [Prog.lift, Prog.bind_op, Prog.bind_ret, Prog.pure_eq_ret]
  iintro ⟨H, Hk⟩
  iapply (sent m 25 (t := 59) (t' := 60) ⟨rfl, rfl⟩ (by exact fun _ => rfl)) $$ H
  iintro H
  iapply (sent m 26 (t := 60) (t' := 61) ⟨rfl, rfl⟩ (by exact fun _ => rfl)) $$ H
  iintro H
  iapply (sent m 27 (t := 61) (t' := 62) ⟨rfl, rfl⟩ (by exact fun _ => rfl)) $$ H
  iintro H
  iapply wpc_ret
  iapply Hk
  iexact H

end Cert.RingProof

end
-- ==== Proof.Amax.lean ====
/-
# One lemma per kind of step: the exchange of the maxima
-/
module

public import proofs.«01_k».proof.Proof.Steps
public import proofs.«01_k».proof.Proof.Offsets
public import proofs.«01_k».proof.Proof.Gemm

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The state -/

def asendCr (c : Dev nD) (k : Fin 7) : sProp 𝕄 := cred (tallyAt (kcell (c, asendIx k)) () amaxAmt)
/-- The shares of the source buffer that are here. -/
def ASrc (c : Dev nD) (k t : ℕ) : sProp 𝕄 := bigSep (Finset.univ.filter fun i : Fin 7 => k ≤ i.val ∨ 69 + i.val < t) (fun i => sP m c (Transfers.shareTokN fullShare i.val))
def ATgt (c : Dev nD) (k : ℕ) : sProp 𝕄 := bigSep (Finset.univ.filter fun i : Fin 7 => k ≤ i.val) (fun i => aAny (amaxDest i c) c)
def AGot (c : Dev nD) (t : ℕ) : sProp 𝕄 := bigSep (Finset.univ.filter fun i : Fin 7 => 62 + i.val < t) (fun i => aGot m c (amaxDest i c))
def ACr (c : Dev nD) (k t : ℕ) : sProp 𝕄 := bigSep (Finset.univ.filter fun i : Fin 7 => i.val < k ∧ t ≤ 69 + i.val) (asendCr c)

/-- What device `c` holds in the exchange of the maxima, after `k` transfers and `t` waits. -/
def At (c : Dev nD) (k t : ℕ) : sProp 𝕄 := iprop(St m c (31 + k) t ∗ ASrc m c k t ∗ ATgt c k ∗ AGot m c t ∗ ACr c k t)

theorem asrc_send {c : Dev nD} (k : Fin 7) : ASrc m c k.val 62 = iprop(sP m c (Transfers.shareTokN fullShare k.val) ∗ ASrc m c (k.val + 1) 62) := by
  unfold ASrc
  rw [← bs_insert (i := k) (by simp; omega) (fun i : Fin 7 => sP m c (Transfers.shareTokN fullShare i.val))]
  congr 1
  ext i; simp only [Finset.mem_filter, Finset.mem_univ, _root_.true_and, Finset.mem_insert, Fin.ext_iff]; omega
theorem acr_send {c : Dev nD} (k : Fin 7) : ACr (F := F) c (k.val + 1) 62 = iprop(asendCr c k ∗ ACr c k.val 62) := by
  unfold ACr
  rw [← bs_insert (i := k) (by simp [Finset.mem_filter]) (asendCr (F := F) c)]
  congr 1
  ext i; simp only [Finset.mem_filter, Finset.mem_univ, _root_.true_and, Finset.mem_insert, Fin.ext_iff]; omega
theorem agot_recv {c : Dev nD} (k : Fin 7) : AGot m c (62 + k.val + 1) = iprop(aGot m c (amaxDest k c) ∗ AGot m c (62 + k.val)) := by
  unfold AGot
  rw [← bs_insert (i := k) (by simp) (fun i : Fin 7 => aGot m c (amaxDest i c))]
  congr 1
  ext i; simp only [Finset.mem_filter, Finset.mem_univ, _root_.true_and, Finset.mem_insert, Fin.ext_iff]; omega
theorem asrc_recv {c : Dev nD} (k : Fin 7) : ASrc m c 7 (62 + k.val) = ASrc m c 7 (62 + k.val + 1) := by
  unfold ASrc
  congr 1
  ext i; simp only [Finset.mem_filter, Finset.mem_univ, _root_.true_and]; omega
theorem acr_recv {c : Dev nD} (k : Fin 7) : ACr (F := F) c 7 (62 + k.val) = ACr c 7 (62 + k.val + 1) := by
  unfold ACr
  congr 1
  ext i; simp only [Finset.mem_filter, Finset.mem_univ, _root_.true_and]; omega
theorem asrc_end {c : Dev nD} (k : Fin 7) : ASrc m c 7 (69 + k.val + 1) = iprop(sP m c (Transfers.shareTokN fullShare k.val) ∗ ASrc m c 7 (69 + k.val)) := by
  unfold ASrc
  rw [← bs_insert (i := k) (by have := k.isLt; simp) (fun i : Fin 7 => sP m c (Transfers.shareTokN fullShare i.val))]
  congr 1
  ext i; simp only [Finset.mem_filter, Finset.mem_univ, _root_.true_and, Finset.mem_insert, Fin.ext_iff]; omega
theorem agot_end {c : Dev nD} (k : Fin 7) : AGot m c (69 + k.val) = AGot m c (69 + k.val + 1) := by
  unfold AGot
  congr 1
  ext i; simp only [Finset.mem_filter, Finset.mem_univ, _root_.true_and]; omega
theorem acr_end {c : Dev nD} (k : Fin 7) : ACr (F := F) c 7 (69 + k.val) = iprop(asendCr c k ∗ ACr c 7 (69 + k.val + 1)) := by
  unfold ACr
  rw [← bs_insert (i := k) (by simp [Finset.mem_filter]) (asendCr (F := F) c)]
  congr 1
  ext i; simp only [Finset.mem_filter, Finset.mem_univ, _root_.true_and, Finset.mem_insert, Fin.ext_iff]; omega

/-! ## The transfers -/

theorem amax_pays (c : Dev nD) (k : Fin 7) : payKey c ⟨31 + k.val, by omega⟩ = (amaxDest k c, arecvIx c) ∧ payAmt ⟨31 + k.val, by omega⟩ = amaxAmt
    ∧ paySend ⟨31 + k.val, by omega⟩ = asendIx k := by
  have hk := k.isLt
  refine ⟨?_, ?_, ?_⟩
  · unfold payKey
    rw [dif_neg (by show ¬ 31 + k.val < 3; omega), dif_neg (by show ¬ 31 + k.val < 31; omega)]
    exact congrArg (fun i : Fin 7 => (amaxDest i c, arecvIx c)) (Fin.ext (by simp))
  · unfold payAmt
    rw [dif_neg (by show ¬ 31 + k.val < 3; omega), dif_neg (by show ¬ 31 + k.val < 31; omega)]
  · revert k; decide

theorem amaxDest_ne (k : Fin 7) (c : Dev nD) : amaxDest k c ≠ c := by revert k c; decide
theorem arecvIx_ne (s : Fin 8) : arecvIx s ≠ 0 := by revert s; decide
theorem asendIx_ne (k : Fin 7) : asendIx k ≠ 0 := by revert k; decide

/-- A row of the amax buffer. -/
abbrev aRow (off : Fin 2 → ℕ) (inb : ∀ a, off a + S1x128.size a ≤ S8x128.size a) : Memref sig .tc .vmem S1x128 .f32 :=
  aM.slice (Rect.unit (s := S8x128) off S1x128.size inb) (fun _ => rfl)

theorem aRow_eq (c s : Dev nD) {off : Fin 2 → ℕ} {inb : ∀ a, off a + S1x128.size a ≤ S8x128.size a} (ho : off = ![s.val, 0]) (f : (cc0_scratch5 : Ref sig .tc).ty.Contents (Elt F)) :
    (((c : Thread nD τ).loc cc0_scratch5) ↦[arow s]{fullShare} f : sProp 𝕄) = ((aRow off inb).view.loc (c : Thread nD τ) ↦[(aRow off inb).view.set]{fullShare} f) :=
  (congrArg (fun I : Finset S8x128.Idx => (((c : Thread nD τ).loc cc0_scratch5) ↦[I]{fullShare} f : sProp 𝕄))
    ((View.set_slice_whole cc0_scratch5 (Rect.unit (s := S8x128) off S1x128.size inb)).trans (arow_rect inb ho rfl))).symm

theorem amax_land (c e : Dev nD) {off : Fin 2 → ℕ} {inb : ∀ a, off a + S1x128.size a ≤ S8x128.size a} (ho : off = ![c.val, 0]) (fd : (cc0_scratch5 : Ref sig .tc).ty.Contents (Elt F)) :
    ((aRow off inb).view.loc (e : Thread nD τ) ↦[(aRow off inb).view.set]{fullShare} ((aRow off inb).view.write (Elt F) fd (sM.view.read (Elt F) (amaxRow m c)) Finset.univ) : sProp 𝕄)
      ⊢ aGot m e c := by
  have ew : (aRow off inb).view.write (Elt F) fd (sM.view.read (Elt F) (amaxRow m c)) Finset.univ
      = (Rect.unit (s := S8x128) off S1x128.size inb).set.piecewise (AF m) fd :=
    write_rect cc0_scratch5 (Rect.unit (s := S8x128) off S1x128.size inb) fd (AF m) _ fun x => amax_pay m c ho inb x
  rw [ew, ← aRow_eq e c ho]
  exact Entails.of_eq (pointsTo_congr fun i hi => Finset.piecewise_eq_of_mem _ _ _ (by rw [arow_rect inb ho rfl]; exact hi))

theorem wp_asend {c : Dev nD} (k : Fin 7) {n n' : ℕ} (hn : k.val = n ∧ n + 1 = n')
    {off : Fin 2 → ℕ} {inb : ∀ a, off a + S1x128.size a ≤ S8x128.size a} (ho : off = ![c.val, 0])
    {d : Dev nD} (hd : d.val = progAmax c k) {sS sR : SemLoc sig} (hS : sS = csem (asendIx k)) (hR : sR = csem (arecvIx c))
    {hsc : (aRow off inb : Memref sig (Dev.tc d : Thread nD τ).2.kind .vmem S1x128 .f32).view.ref.isScScratch = false}
    {hsrc : sM.view.WordExact} {hdst : (aRow off inb).view.WordExact}
    {hsem : DmaTarget.Typed .vmem sR (.remote (Dev.tc d : Thread nD τ) (aRow off inb) sS hsc)}
    {α : Type} {kk : PUnit → Prog (TpuEff nD τ sig (Elt F) Λ₀ .tc) α} {Q : α → sProp 𝕄} :
    At m c n 62 ⊢ iprop((At m c n' 62 -∗ wpc c (kk ⟨⟩) Q)
      -∗ wpc c (.op (.enqueueDma sM (.remote (Dev.tc d : Thread nD τ) (aRow off inb) sS hsc) sR hsrc hdst hsem) kk) Q) := by
  obtain ⟨h1, h2⟩ := hn
  have hd' : d = amaxDest k c := Fin.ext (hd.trans (progAmax_eq c k))
  have hamt : (aRow off inb).view.amount sR = amaxAmt := by unfold View.amount; rw [hR, csem_dma (arecvIx_ne c)]; rfl
  have hk := k.isLt
  obtain ⟨hk1, hk2, hk3⟩ := amax_pays c k
  have hmem : (0 : Fin 3) ∈ ({0} : Finset (Fin 3)) := Finset.mem_singleton_self _
  have hmem2 : (0 : Fin 3) ∈ roleDuties (amaxDest k c) (.arecv c) := by
    show (0 : Fin 3) ∈ (if c = amaxDest k c then (∅ : Finset (Fin 3)) else {0})
    rw [if_neg (fun h => amaxDest_ne k c h.symm)]; exact hmem
  have hsset : sM.view.set = Finset.univ := View.set_whole cc0_scratch4
  subst h2 h1 hd' hS hR
  unfold At
  iintro ⟨Hst, Hs, Htg, Hgot, Hcr⟩ Hk
  ihave Hs' := (Entails.of_eq (asrc_send m k)) $$ Hs
  icases Hs' with ⟨Hsrc, Hs⟩
  unfold ATgt
  ihave Htg' := (Entails.of_eq (bigSep_from_succ k (fun i : Fin 7 => aAny (F := F) (amaxDest i c) c))) $$ Htg
  icases Htg' with ⟨Ht, Htg⟩
  unfold aAny
  icases Ht with ⟨%fd, Hdst⟩
  ihave Hdst2 := (Entails.of_eq (aRow_eq (inb := inb) (amaxDest k c) c ho fd)) $$ Hdst
  iapply (wp_pay m ⟨31 + k.val, by omega⟩ (by simp; omega) hk1 (t := 62) (q := Transfers.shareTokN fullShare k.val) (fs := amaxRow m c) (fd := fd) (X := iprop(emp))
    (sS := csem (asendIx k)) (by rw [hk3]) rfl (by rw [hk2]; exact hamt)
    (by rw [hk3, hk2, role_asend]; rfl) (by rw [hk2, role_arecv]; rfl) (by rw [hk3, role_asend]; exact hmem) (by rw [role_arecv]; exact hmem2)
    (by rw [hk3, role_asend, hsset]; exact Entails.of_eq rfl)
    (by
      rw [role_arecv, sep_emp_eq]
      exact amax_land m c (amaxDest k c) ho fd)) $$ [Hst Hsrc Hdst2]
  · isplitl [Hst]; · iexact Hst
    isplitl [Hsrc]
    · rw [hsset]; unfold sP; iexact Hsrc
    rw [sep_emp_eq]
    iexact Hdst2
  iintro ⟨Hst, Hc⟩
  iapply Hk
  isplitl [Hst]; · iexact Hst
  isplitl [Hs]; · iexact Hs
  isplitl [Htg]; · iexact Htg
  isplitl [Hgot]; · iexact Hgot
  iapply (Entails.of_eq (acr_send (F := F) (c := c) k).symm)
  isplitl [Hc]
  · have e : asendCr (F := F) c k = cred (tallyAt (kcell (c, paySend ⟨31 + k.val, by omega⟩)) () (payAmt ⟨31 + k.val, by omega⟩)) := by
      rw [hk2, hk3]; rfl
    iapply (Entails.of_eq e.symm); iexact Hc
  iexact Hcr

/-! ## The waits -/

theorem wait_arecv (k : Fin 7) (c : Dev nD) : waitIx c ⟨62 + k.val, by omega⟩ = arecvIx (amaxDest k c) := by revert k c; decide
theorem wait_asend (k : Fin 7) (c : Dev nD) : waitIx c ⟨69 + k.val, by omega⟩ = asendIx k := by revert k c; decide

theorem wp_arecv {c : Dev nD} (k : Fin 7) {t t' : ℕ} (ht : 62 + k.val = t ∧ t + 1 = t')
    {sp : Space} {s : Shape} {e : EltTy} {sp' : Space} {src : Memref sig .tc sp s e} {dst : Memref sig .tc sp' s e} {sm : DmaSem sig}
    (hsm : SemLoc.dma sm = csem (arecvIx (amaxDest k c))) (hamt : dst.view.dmaCredit = amaxAmt) {h1 : src.view.WordExact} {h2 : dst.view.WordExact}
    {α : Type} {kk : PUnit → Prog (TpuEff nD τ sig (Elt F) Λ₀ .tc) α} {Q : α → sProp 𝕄} :
    At m c 7 t ⊢ iprop((At m c 7 t' -∗ wpc c (kk ⟨⟩) Q) -∗ wpc c (.op (.waitDma2 sm src dst h1 h2) kk) Q) := by
  obtain ⟨h3, h4⟩ := ht
  subst h4 h3
  have hk := k.isLt
  unfold At
  iintro ⟨Hst, Hs, Htg, Hgot, Hcr⟩ Hk
  iapply (wp_wait_cell m (t := ⟨62 + k.val, by omega⟩) (wait_arecv k c) (n := 31 + 7) (by rw [role_arecv]; exact if_neg (amaxDest_ne k c))
    (by intro j hj; have := j.isLt; omega)
    (iprop(emp)) (by rw [launchCr_arecv (amaxDest_ne k c), sep_emp_eq, role_arecv]; exact Entails.of_eq rfl)
    (by rw [role_arecv, ← hsm, show roleAmt (.arecv (amaxDest k c)) = dst.view.dmaCredit from hamt.symm]; exact fun _ => rfl)) $$ [Hst]
  · rw [sep_emp_eq]; iexact Hst
  rw [role_arecv]
  have e : rolePay m c (.arecv (amaxDest k c)) 0 = aGot m c (amaxDest k c) := rfl
  rw [e]
  iintro ⟨Hst, Hg⟩
  iapply Hk
  isplitl [Hst]; · iexact Hst
  isplitl [Hs]; · iapply (Entails.of_eq (asrc_recv m k)); iexact Hs
  isplitl [Htg]; · iexact Htg
  isplitl [Hgot Hg]
  · iapply (Entails.of_eq (agot_recv m k).symm)
    isplitl [Hg] <;> iassumption
  iapply (Entails.of_eq (acr_recv (F := F) k)); iexact Hcr

theorem wp_asent {c : Dev nD} (k : Fin 7) {t t' : ℕ} (ht : 69 + k.val = t ∧ t + 1 = t')
    {α : Type} {w : TpuEff nD τ sig (Elt F) Λ₀ .tc PUnit} {kk : PUnit → Prog (TpuEff nD τ sig (Elt F) Λ₀ .tc) α} {Q : α → sProp 𝕄}
    (hw : ∀ K : PUnit → sProp 𝕄, wpE (defs₀ (F := F)) 𝒱₀ (c : Thread nD τ) none Set.univ w K
      = waitSpec (c : Thread nD τ) Set.univ (csem (asendIx k)) amaxAmt K) :
    At m c 7 t ⊢ iprop((At m c 7 t' -∗ wpc c (kk ⟨⟩) Q) -∗ wpc c (.op w kk) Q) := by
  obtain ⟨h3, h4⟩ := ht
  subst h4 h3
  have hk := k.isLt
  unfold At
  iintro ⟨Hst, Hs, Htg, Hgot, Hcr⟩ Hk
  ihave Hcr' := (Entails.of_eq (acr_end (F := F) k)) $$ Hcr
  icases Hcr' with ⟨Hc, Hcr⟩
  iapply (wp_wait_cell m (t := ⟨69 + k.val, by omega⟩) (wait_asend k c) (n := 31 + 7) (by rw [role_asend]; rfl)
    (by intro j hj; have := j.isLt; omega)
    (asendCr c k) (by
      rw [launchCr_asend, role_asend]; unfold asendCr
      iintro ⟨-, H⟩
      iexact H) (by rw [role_asend]; exact hw)) $$ [Hst Hc]
  · isplitl [Hst] <;> iassumption
  rw [role_asend]
  have e : rolePay m c (.asend k) 0 = sP m c (Transfers.shareTokN fullShare k.val) := rfl
  rw [e]
  iintro ⟨Hst, Hg⟩
  iapply Hk
  isplitl [Hst]; · iexact Hst
  isplitl [Hs Hg]
  · iapply (Entails.of_eq (asrc_end m k).symm)
    isplitl [Hg] <;> iassumption
  isplitl [Htg]; · iexact Htg
  isplitl [Hgot]; · iapply (Entails.of_eq (agot_end m k)); iexact Hgot
  iexact Hcr

/-! ## The start and the end -/

/-- The end of the ring phase. -/
theorem rt_end (c : Dev nD) :
    Rt m c 62 28 ⊢ iprop(St m c 31 62 ∗ (((c : Thread nD τ).loc cc0_scratch0) ↦{fullShare} GF m) ∗ aAny c c ∗ bigSep Finset.univ fun k : Fin 7 => aAny (amaxDest k c) c) := by
  unfold Rt
  iintro ⟨Hst, Hp, Hi, -, -⟩
  isplitl [Hst]; · iexact Hst
  isplitl [Hp]; · iapply (Entails.of_eq (gather_join m c)); iexact Hp
  iapply (Entails.of_eq (items_end (F := F) c (t := 62) (by decide))); iexact Hi

theorem at_start (c : Dev nD) :
    iprop(St m c 31 62 ∗ (((c : Thread nD τ).loc cc0_scratch4) ↦{fullShare} amaxRow m c) ∗ bigSep Finset.univ fun k : Fin 7 => aAny (F := F) (amaxDest k c) c)
      ⊢ iprop(At m c 0 62 ∗ sP m c (Transfers.shareDrop fullShare 7)) := by
  have h1 : ASrc m c 0 62 = bigSep Finset.univ fun i : Fin 7 => sP m c (Transfers.shareTokN fullShare i.val) := by
    unfold ASrc; rw [Finset.filter_true_of_mem (fun _ _ => Or.inl (Nat.zero_le _))]
  have h2 : ATgt (F := F) c 0 = bigSep Finset.univ fun i : Fin 7 => aAny (amaxDest i c) c := by
    unfold ATgt; rw [Finset.filter_true_of_mem (fun _ _ => Nat.zero_le _)]
  have h3 : AGot m c 62 = iprop(emp) := by
    unfold AGot; rw [Finset.filter_eq_empty_iff.mpr (fun i _ h => by omega)]; exact BI.bigSep_empty
  have h4 : ACr (F := F) c 0 62 = iprop(emp) := by
    unfold ACr; rw [Finset.filter_eq_empty_iff.mpr (fun i _ h => by omega)]; exact BI.bigSep_empty
  unfold At
  rw [h1, h2, h3, h4]
  iintro ⟨Hst, Hs, Ht⟩
  ihave Hs' := (Transfers.pointsTo_toks_split (fullShare : PosShare TreeShare) 7) $$ Hs
  icases Hs' with ⟨Hd, Hs⟩
  isplitr [Hd]
  · isplitl [Hst]; · iexact Hst
    isplitl [Hs]; · iexact Hs
    isplitl [Ht]; · iexact Ht
    isplitr <;> iempintro
  unfold sP; iexact Hd

theorem at_end (c : Dev nD) :
    iprop(At m c 7 76 ∗ sP m c (Transfers.shareDrop fullShare 7) ∗ aGot m c c)
      ⊢ iprop(St m c 38 76 ∗ (((c : Thread nD τ).loc cc0_scratch4) ↦{fullShare} amaxRow m c) ∗ (((c : Thread nD τ).loc cc0_scratch5) ↦{fullShare} AF m)) := by
  have h1 : ASrc m c 7 76 = bigSep Finset.univ fun i : Fin 7 => sP m c (Transfers.shareTokN fullShare i.val) := by
    unfold ASrc; rw [Finset.filter_true_of_mem (fun i _ => Or.inr (by have := i.isLt; omega))]
  have h3 : AGot m c 76 = bigSep Finset.univ fun i : Fin 7 => aGot m c (amaxDest i c) := by
    unfold AGot; rw [Finset.filter_true_of_mem (fun i _ => by have := i.isLt; omega)]
  unfold At
  rw [h1, h3]
  unfold sP
  iintro ⟨⟨Hst, Hs, -, Hg, -⟩, Hd, Ho⟩
  isplitl [Hst]; · iexact Hst
  isplitl [Hs Hd]
  · iapply (Transfers.pointsTo_toks_join (fullShare : PosShare TreeShare) 7)
    isplitl [Hd]; · iexact Hd
    iexact Hs
  iapply (Entails.of_eq (amax_join m c))
  isplitl [Ho] <;> iassumption

/-! ## The device's own maximum -/

theorem wp_amaxput {c : Dev nD} {off : Fin 2 → ℕ} {inb : ∀ a, off a + S1x128.size a ≤ S8x128.size a} (ho : off = ![c.val, 0])
    {inb₁ : ∀ a, (![0, 0] : Fin 2 → ℕ) a + S1x128.size a ≤ S1x128.size a} {p₁ p₂ : Vec F S1x128 .f32} (hp₁ : p₁ = amaxRow m c) (hp₂ : p₂ = amaxRow m c)
    {hl₁ : sM.view.LoadsAt (Rect.unit (s := S1x128) ![0, 0] S1x128.size inb₁).toLoadRect}
    {hx₁ : (sM.access (Rect.unit (s := S1x128) ![0, 0] S1x128.size inb₁)).Stores Finset.univ} {hm₁}
    {hl₂ : aM.view.LoadsAt (Rect.unit (s := S8x128) off S1x128.size inb).toLoadRect}
    {hx₂ : (aM.access (Rect.unit (s := S8x128) off S1x128.size inb)).Stores Finset.univ} {hm₂} {f : (cc0_scratch4 : Ref sig .tc).ty.Contents (Elt F)}
    {α : Type} {kk : PUnit → Prog (TpuEff nD τ sig (Elt F) Λ₀ .tc) α} {Q : α → sProp 𝕄} :
    iprop((((c : Thread nD τ).loc cc0_scratch4) ↦{fullShare} f) ∗ aAny c c)
      ⊢ iprop(((((c : Thread nD τ).loc cc0_scratch4) ↦{fullShare} amaxRow m c) ∗ aGot m c c -∗ wpc c (kk ⟨⟩) Q)
        -∗ wpc c (.op (.load sM (Rect.unit (s := S1x128) ![0, 0] S1x128.size inb₁).toLoadRect hl₁) fun _ =>
          .op (.store sM (Rect.unit (s := S1x128) ![0, 0] S1x128.size inb₁) p₁ Finset.univ hx₁ hm₁) fun _ =>
          .op (.load aM (Rect.unit (s := S8x128) off S1x128.size inb).toLoadRect hl₂) fun _ =>
          .op (.store aM (Rect.unit (s := S8x128) off S1x128.size inb) p₂ Finset.univ hx₂ hm₂) kk) Q) := by
  subst hp₁ hp₂
  have hset : (Rect.unit (s := S8x128) off S1x128.size inb).set = arow c := arow_rect inb ho rfl
  have hS : ((aM.access (Rect.unit (s := S8x128) off S1x128.size inb)).set : Finset S8x128.Idx) ⊆ arow c := by
    rw [View.set_slice_whole cc0_scratch5, hset]
  unfold aAny
  iintro ⟨Hs, %g, Ha⟩ Hk
  iapply (wp_load_rect 𝒱₀ (c : Thread nD τ) none Set.univ (m := sM) (r := Rect.unit (s := S1x128) ![0, 0] S1x128.size inb₁) (Finset.subset_univ _)) $$ Hs
  iintro Hs
  iapply (wp_store 𝒱₀ (c : Thread nD τ) none Set.univ (m := sM) (r := Rect.unit (s := S1x128) ![0, 0] S1x128.size inb₁) (S := Finset.univ) (Finset.subset_univ _)) $$ Hs
  iintro Hs
  have e2 : (sM.access (Rect.unit (s := S1x128) ![0, 0] S1x128.size inb₁)).write (Elt F) f (amaxRow m c) Finset.univ = amaxRow m c :=
    Memref.write_access_unit_zero_univ (Elt F) cc0_scratch4 zero2 inb₁ f (amaxRow m c)
  rw [e2]
  iapply (wp_load_rect 𝒱₀ (c : Thread nD τ) none Set.univ (m := aM) (r := Rect.unit (s := S8x128) off S1x128.size inb) hS) $$ Ha
  iintro Ha
  iapply (wp_store 𝒱₀ (c : Thread nD τ) none Set.univ (m := aM) (r := Rect.unit (s := S8x128) off S1x128.size inb) (S := arow c) hS) $$ Ha
  iintro Ha
  have ew := write_rect cc0_scratch5 (Rect.unit (s := S8x128) off S1x128.size inb) g (AF m) (amaxRow m c) (fun x => amax_pay m c ho inb x)
  have e5 : (((c : Thread nD τ).loc cc0_scratch5) ↦[arow c]{fullShare}
        ((aM.access (Rect.unit (s := S8x128) off S1x128.size inb)).write (Elt F) g (amaxRow m c) Finset.univ) : sProp 𝕄) = aGot m c c := by
    rw [ew]
    exact pointsTo_congr fun i hi => Finset.piecewise_eq_of_mem _ _ _ (by rw [hset]; exact hi)
  iapply Hk
  isplitl [Hs]; · iexact Hs
  iapply (Entails.of_eq e5); iexact Ha

end Cert.RingProof

end
-- ==== Proof.PartsD.lean ====
/-
# The parts of the body: the exchange of the maxima
-/
module

public import proofs.«01_k».proof.Proof.Ring
public import proofs.«01_k».proof.Proof.Amax

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem row_inb (s : Fin 8) : ∀ a, (![s.val] : Fin 1 → ℕ) a + S1.size a ≤ S8.size a := by revert s; decide

theorem row_sem (s : Fin 8) :
    SemLoc.dma (((cc0_scratch13 : DmaSems sig S8).slice (Rect.unit (s := S8) ![s.val] S1.size (row_inb s))).squeeze S_ squeezes_S1_S_).sem = csem (arecvIx s) := by
  revert s; decide

/-- The semaphore of a device's row in the exchange. -/
theorem arecv_sem (s : Fin 8) {off : Fin 1 → ℕ} (ho : off = ![s.val]) (inb : ∀ a, off a + S1.size a ≤ S8.size a) :
    SemLoc.dma (((cc0_scratch13 : DmaSems sig S8).slice (Rect.unit (s := S8) off S1.size inb)).squeeze S_ squeezes_S1_S_).sem = csem (arecvIx s) := by
  rw [SemArray.slice_unit_congr (cc0_scratch13 : DmaSems sig S8) ho inb (row_inb s)]
  exact row_sem s

theorem part43 (c : Dev nD) (v2 v5 : BitVec 32) (v1257 : FVec F S1 .f32) (hv : v1257 = amaxOf m c) (Q : (Σ' (v1292 : BitVec 32) (c8_i32_1140 : BitVec 32), BitVec 1) → sProp 𝕄) :
    iprop(St m c 31 62 ∗ (∃ f : (cc0_scratch4 : Ref sig .tc).ty.Contents (Elt F), ((c : Thread nD τ).loc cc0_scratch4) ↦{fullShare} f) ∗ aAny c c ∗ (bigSep Finset.univ fun k : Fin 7 => aAny (amaxDest k c) c) ∗ (∀ w0 w1 w2, (At m c 1 62 ∗ sP m c (Transfers.shareDrop fullShare 7) ∗ aGot m c c) -∗ Q ⟨w0, w1, w2⟩)) ⊢ wpc c (onArgs (k0_part43 (F := F)) c v2 v5 v1257) Q := by
  rw [k0_part43_eq_skeleton]
  unfold k0_part43_skel
  simp only [Prog.lift, Prog.bind_op, Prog.bind_ret, Prog.pure_eq_ret]
  subst hv
  iintro ⟨Hst, ⟨%f, Hs⟩, Ha, Ht, Hk⟩
  iapply (wp_amaxput m (c := c) (by exact off39_eq c) (by rfl) (by rfl)) $$ [Hs Ha]
  · isplitl [Hs] <;> iassumption
  iintro ⟨Hs, Ha⟩
  ihave H' := (at_start m c) $$ [Hst Hs Ht]
  · isplitl [Hst]; · iexact Hst
    isplitl [Hs] <;> iassumption
  icases H' with ⟨H, Hd⟩
  iapply (wp_asend m 0 (n := 0) (n' := 1) ⟨rfl, rfl⟩ (by exact off41_eq c) (by rfl) (by rfl) (by exact arecv_sem c (off40_eq c) (k0_off40_inb c))) $$ H
  iintro H
  iapply wpc_ret
  iapply Hk
  isplitl [H]; · iexact H
  isplitl [Hd] <;> iassumption

theorem part44 (c : Dev nD) (v5 v1292 c8_i32_1140 : BitVec 32) (v1293 : BitVec 1) (Q : PUnit → sProp 𝕄) :
    iprop(At m c 1 62 ∗ ((At m c 2 62) -∗ Q ⟨⟩)) ⊢ wpc c (onArgs (k0_part44 (F := F)) c v5 v1292 c8_i32_1140 v1293) Q := by
  rw [k0_part44_eq_skeleton]
  unfold k0_part44_skel
  simp only [Prog.lift, Prog.bind_op, Prog.bind_ret, Prog.pure_eq_ret]
  iintro ⟨H, Hk⟩
  iapply (wp_asend m 1 (n := 1) (n' := 2) ⟨rfl, rfl⟩ (by exact off41_eq c) (by rfl) (by rfl) (by exact arecv_sem c (off40_eq c) (k0_off40_inb c))) $$ H
  iintro H
  iapply wpc_ret
  iapply Hk
  iexact H

theorem part45 (c : Dev nD) (v5 : BitVec 32) (Q : (Σ' (v1360 : BitVec 32) (v1361 : BitVec 32) (v1362 : BitVec 1) (v1363 : BitVec 1), BitVec 1) → sProp 𝕄) :
    iprop(At m c 2 62 ∗ (∀ w0 w1 w2 w3 w4, (At m c 4 62) -∗ Q ⟨w0, w1, w2, w3, w4⟩)) ⊢ wpc c (onArgs (k0_part45 (F := F)) c v5) Q := by
  rw [k0_part45_eq_skeleton]
  unfold k0_part45_skel
  simp only [Prog.lift, Prog.bind_op, Prog.bind_ret, Prog.pure_eq_ret]
  iintro ⟨H, Hk⟩
  iapply (wp_asend m 2 (n := 2) (n' := 3) ⟨rfl, rfl⟩ (by exact off41_eq c) (by rfl) (by rfl) (by exact arecv_sem c (off40_eq c) (k0_off40_inb c))) $$ H
  iintro H
  iapply (wp_asend m 3 (n := 3) (n' := 4) ⟨rfl, rfl⟩ (by exact off41_eq c) (by rfl) (by rfl) (by exact arecv_sem c (off40_eq c) (k0_off40_inb c))) $$ H
  iintro H
  iapply wpc_ret
  iapply Hk
  iexact H

theorem part46 (c : Dev nD) (v5 v1360 v1361 : BitVec 32) (v1362 v1363 v1364 : BitVec 1) (Q : (BitVec 32) → sProp 𝕄) :
    iprop(At m c 4 62 ∗ (∀ w0, (At m c 6 62) -∗ Q w0)) ⊢ wpc c (onArgs (k0_part46 (F := F)) c v5 v1360 v1361 v1362 v1363 v1364) Q := by
  rw [k0_part46_eq_skeleton]
  unfold k0_part46_skel
  simp only [Prog.lift, Prog.bind_op, Prog.bind_ret, Prog.pure_eq_ret]
  iintro ⟨H, Hk⟩
  iapply (wp_asend m 4 (n := 4) (n' := 5) ⟨rfl, rfl⟩ (by exact off41_eq c) (by rfl) (by rfl) (by exact arecv_sem c (off40_eq c) (k0_off40_inb c))) $$ H
  iintro H
  iapply (wp_asend m 5 (n := 5) (n' := 6) ⟨rfl, rfl⟩ (by exact off41_eq c) (by rfl) (by rfl) (by exact arecv_sem c (off40_eq c) (k0_off40_inb c))) $$ H
  iintro H
  iapply wpc_ret
  iapply Hk
  iexact H

theorem part47 (c : Dev nD) (v5 v1401 : BitVec 32) (Q : (BitVec 32) → sProp 𝕄) :
    iprop(At m c 6 62 ∗ (∀ w0, (At m c 7 62) -∗ Q w0)) ⊢ wpc c (onArgs (k0_part47 (F := F)) c v5 v1401) Q := by
  rw [k0_part47_eq_skeleton]
  unfold k0_part47_skel
  simp only [Prog.lift, Prog.bind_op, Prog.bind_ret, Prog.pure_eq_ret]
  iintro ⟨H, Hk⟩
  iapply (wp_asend m 6 (n := 6) (n' := 7) ⟨rfl, rfl⟩ (by exact off41_eq c) (by rfl) (by rfl) (by exact arecv_sem c (off40_eq c) (k0_off40_inb c))) $$ H
  iintro H
  iapply wpc_ret
  iapply Hk
  iexact H

theorem part48 (c : Dev nD) (v5 v1437 : BitVec 32) (Q : (Σ' (v1466 : BitVec 32) (v1467 : BitVec 32) (v1468 : BitVec 1) (v1469 : BitVec 1), BitVec 32) → sProp 𝕄) :
    iprop(At m c 7 62 ∗ (∀ w0 w1 w2 w3 w4, (At m c 7 64) -∗ Q ⟨w0, w1, w2, w3, w4⟩)) ⊢ wpc c (onArgs (k0_part48 (F := F)) c v5 v1437) Q := by
  rw [k0_part48_eq_skeleton]
  unfold k0_part48_skel
  simp only [Prog.lift, Prog.bind_op, Prog.bind_ret, Prog.pure_eq_ret]
  iintro ⟨H, Hk⟩
  iapply (wp_arecv m 0 (t := 62) (t' := 63) ⟨rfl, rfl⟩ (by exact arecv_sem (amaxDest 0 c) (off42_eq c 0) (k0_off42_inb c 0)) (by rfl)) $$ H
  iintro H
  iapply (wp_arecv m 1 (t := 63) (t' := 64) ⟨rfl, rfl⟩ (by exact arecv_sem (amaxDest 1 c) (off42_eq c 1) (k0_off42_inb c 1)) (by rfl)) $$ H
  iintro H
  iapply wpc_ret
  iapply Hk
  iexact H

theorem part49 (c : Dev nD) (v5 v1466 v1467 : BitVec 32) (v1468 v1469 : BitVec 1) (c0 : BitVec 32) (Q : (Σ' (v1504 : BitVec 32), BitVec 32) → sProp 𝕄) :
    iprop(At m c 7 64 ∗ (∀ w0 w1, (At m c 7 66) -∗ Q ⟨w0, w1⟩)) ⊢ wpc c (onArgs (k0_part49 (F := F)) c v5 v1466 v1467 v1468 v1469 c0) Q := by
  rw [k0_part49_eq_skeleton]
  unfold k0_part49_skel
  simp only [Prog.lift, Prog.bind_op, Prog.bind_ret, Prog.pure_eq_ret]
  iintro ⟨H, Hk⟩
  iapply (wp_arecv m 2 (t := 64) (t' := 65) ⟨rfl, rfl⟩ (by exact arecv_sem (amaxDest 2 c) (off42_eq c 2) (k0_off42_inb c 2)) (by rfl)) $$ H
  iintro H
  iapply (wp_arecv m 3 (t := 65) (t' := 66) ⟨rfl, rfl⟩ (by exact arecv_sem (amaxDest 3 c) (off42_eq c 3) (k0_off42_inb c 3)) (by rfl)) $$ H
  iintro H
  iapply wpc_ret
  iapply Hk
  iexact H

theorem part50 (c : Dev nD) (v5 v1504 c8 : BitVec 32) (Q : PUnit → sProp 𝕄) :
    iprop(At m c 7 66 ∗ ((At m c 7 67) -∗ Q ⟨⟩)) ⊢ wpc c (onArgs (k0_part50 (F := F)) c v5 v1504 c8) Q := by
  rw [k0_part50_eq_skeleton]
  unfold k0_part50_skel
  simp only [Prog.lift, Prog.bind_op, Prog.bind_ret, Prog.pure_eq_ret]
  iintro ⟨H, Hk⟩
  iapply (wp_arecv m 4 (t := 66) (t' := 67) ⟨rfl, rfl⟩ (by exact arecv_sem (amaxDest 4 c) (off42_eq c 4) (k0_off42_inb c 4)) (by rfl)) $$ H
  iintro H
  iapply wpc_ret
  iapply Hk
  iexact H

theorem part51 (c : Dev nD) (v5 : BitVec 32) (Q : PUnit → sProp 𝕄) :
    iprop(At m c 7 67 ∗ ((At m c 7 71) -∗ Q ⟨⟩)) ⊢ wpc c (onArgs (k0_part51 (F := F)) c v5) Q := by
  rw [k0_part51_eq_skeleton]
  unfold k0_part51_skel
  simp only [Prog.lift, Prog.bind_op, Prog.bind_ret, Prog.pure_eq_ret]
  iintro ⟨H, Hk⟩
  iapply (wp_arecv m 5 (t := 67) (t' := 68) ⟨rfl, rfl⟩ (by exact arecv_sem (amaxDest 5 c) (off42_eq c 5) (k0_off42_inb c 5)) (by rfl)) $$ H
  iintro H
  iapply (wp_arecv m 6 (t := 68) (t' := 69) ⟨rfl, rfl⟩ (by exact arecv_sem (amaxDest 6 c) (off42_eq c 6) (k0_off42_inb c 6)) (by rfl)) $$ H
  iintro H
  iapply (wp_asent m 0 (t := 69) (t' := 70) ⟨rfl, rfl⟩ (by exact fun _ => rfl)) $$ H
  iintro H
  iapply (wp_asent m 1 (t := 70) (t' := 71) ⟨rfl, rfl⟩ (by exact fun _ => rfl)) $$ H
  iintro H
  iapply wpc_ret
  iapply Hk
  iexact H

end Cert.RingProof

end
-- ==== Proof.Chain.lean ====
/-
# The parts of the body in order
-/
module

public import proofs.«01_k».proof.Proof.PartsS
public import proofs.«01_k».proof.Proof.PartsA
public import proofs.«01_k».proof.Proof.PartsB
public import proofs.«01_k».proof.Proof.PartsC
public import proofs.«01_k».proof.Proof.PartsD

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- What the first part starts from. -/
def bodyStart (c : Dev nD) : sProp 𝕄 :=
  iprop(St m c 0 0 ∗ (xIn m c 0 ∗ xIn m c 1 ∗ xIn m c 2 ∗ xIn m c 3) ∗ wIn m c ∗ (barPay (back 0 c) 0 ∗ barPay (back 1 c) 1 ∗ barPay (back 2 c) 2)
    ∗ bigSep ({0, 1, 2, 3, 16} : Finset (Fin 17)) (aItem (F := F) c) ∗ (gAny c c 0 128 ∗ gAny c c 128 256 ∗ gAny c c 256 384 ∗ gAny c c 384 512)
    ∗ (∃ f : (cc0_scratch3 : Ref sig .tc).ty.Contents (Elt F), ((c : Thread nD τ).loc cc0_scratch3) ↦{fullShare} f) ∗ Out m c 0
    ∗ (∃ f : (cc0_scratch4 : Ref sig .tc).ty.Contents (Elt F), ((c : Thread nD τ).loc cc0_scratch4) ↦{fullShare} f))
/-- What the parts end with. -/
def bodyEnd (c : Dev nD) (t : ℕ) : sProp 𝕄 :=
  iprop(At m c 7 t ∗ (sP m c (Transfers.shareDrop fullShare 7) ∗ aGot m c c) ∗ (xEnd m c 0 ∗ xEnd m c 1 ∗ xEnd m c 2 ∗ xEnd m c 3) ∗ wEnd m c ∗ Gm m c 14
    ∗ (((c : Thread nD τ).loc cc0_scratch0) ↦{fullShare} GF m))

theorem wpc_bind {c : Dev nD} {α β : Type} {p : Prog (TpuEff nD τ sig (Elt F) Λ₀ .tc) α} {k : α → Prog (TpuEff nD τ sig (Elt F) Λ₀ .tc) β} {Q : β → sProp 𝕄} :
    wpc c p (fun v => wpc c (k v) Q) ⊢ wpc c (p >>= k) Q :=
  Entails.of_eq (wp_bind frame (wpE (defs₀ (F := F)) 𝒱₀ (c : Thread nD τ) none) Set.univ p k Q).symm

theorem amax_vals (c : Dev nD) :
    k0_pay35 (k0_pay8 (chunkX m c) (WF m c)) (k0_pay10 (halfX m (rel 1 c) 0) (WF m c)) (k0_pay12 (halfX m (rel 2 c) 1) (WF m c)) (k0_pay14 (chunkX m (rel 3 c)) (WF m c))
      (k0_pay16 (halfX m (rel 4 c) 0) (WF m c)) (k0_pay18 (halfX m (rel 4 c) 1) (WF m c)) (k0_pay20 (halfX m (rel 5 c) 0) (WF m c)) (k0_pay22 (halfX m (rel 6 c) 1) (WF m c))
      (k0_pay24 (halfX m (rel 2 c) 0) (WF m c)) (k0_pay26 (halfX m (rel 1 c) 1) (WF m c)) (k0_pay28 (halfX m (rel 6 c) 0) (WF m c)) (k0_pay30 (halfX m (rel 5 c) 1) (WF m c))
      (k0_pay32 (halfX m (rel 7 c) 0) (WF m c)) (k0_pay34 (halfX m (rel 7 c) 1) (WF m c)) = amaxOf m c := by
  have e : rho (rho c) = lam (lam c) := by revert c; decide
  have h12 : k0_pay12 (F := F) = k0_pay10 := rfl
  have h14 : k0_pay14 (F := F) = k0_pay8 := rfl
  have h16 : k0_pay16 (F := F) = k0_pay10 := rfl
  have h18 : k0_pay18 (F := F) = k0_pay10 := rfl
  have h20 : k0_pay20 (F := F) = k0_pay10 := rfl
  have h22 : k0_pay22 (F := F) = k0_pay10 := rfl
  have h24 : k0_pay24 (F := F) = k0_pay10 := rfl
  have h26 : k0_pay26 (F := F) = k0_pay10 := rfl
  have h28 : k0_pay28 (F := F) = k0_pay10 := rfl
  have h30 : k0_pay30 (F := F) = k0_pay10 := rfl
  have h32 : k0_pay32 (F := F) = k0_pay10 := rfl
  have h34 : k0_pay34 (F := F) = k0_pay10 := rfl
  unfold amaxOf chunkMax halfMax
  rw [h12, h14, h16, h18, h20, h22, h24, h26, h28, h30, h32, h34, e]
  rfl

theorem part52 (c : Dev nD) (Q : Dev nD → sProp 𝕄) :
    iprop(bodyStart m c ∗ (bodyEnd m c 73 -∗ Q c)) ⊢ wpc c (onArgs (k0_part52 (F := F))) Q := by
  rw [k0_part52_eq_skeleton]
  unfold k0_part52_skel bodyStart
  iintro ⟨⟨Hst, ⟨Hx0, Hx1, Hx2, Hx3⟩, Hw, ⟨Hb0, Hb1, Hb2⟩, Hi, ⟨Hg0, Hg1, Hg2, Hg3⟩, Hwb, Ho, Hs⟩, Hk⟩
  iapply wpc_bind
  iapply (part1 c _)
  iintro %w
  rcases w with ⟨v2, v5, v7, v8, v23, v35⟩
  dsimp only
  iapply wpc_bind
  iapply (part2 m c _ _ _)
  isplitl [Hst]; · iexact Hst
  isplitl [Hx0 Hx1 Hx2 Hx3]
  · isplitl [Hx0]; · iexact Hx0
    isplitl [Hx1]; · iexact Hx1
    isplitl [Hx2] <;> iassumption
  isplitl [Hw]; · iexact Hw
  isplitl [Hb0]; · iexact Hb0
  iintro %v38 %v42 ⟨Hst, ⟨Hx0, Hx1, Hx2, Hx3⟩, Hw⟩
  dsimp only
  iapply wpc_bind
  iapply (part3 m c _ _ _ _ _)
  isplitl [Hst]; · iexact Hst
  isplitl [Hb1]; · iexact Hb1
  isplitl [Hb2]; · iexact Hb2
  isplitl [Hi]; · iexact Hi
  iintro %w H
  rcases w with ⟨v92, v93⟩
  dsimp only
  iapply wpc_bind
  iapply (part4 c _ _ _ _ _)
  iintro %w
  rcases w with ⟨v95, v110, v125, v128, v129, c0⟩
  dsimp only
  iapply wpc_bind
  iapply (part5 c _ _ _ _ _ _)
  iintro %w
  rcases w with ⟨v157, v161, v166, v167⟩
  dsimp only
  iapply wpc_bind
  iapply (part6 c _ _ _ _ _ _)
  iintro %w
  rcases w with ⟨v173, v189, c1⟩
  dsimp only
  iapply wpc_bind
  iapply (part7 c _ _ _ _)
  iintro %w
  rcases w with ⟨v219, v234, v237, v238, v239, v240, c2⟩
  dsimp only
  iapply wpc_bind
  iapply (part8 c _ _ _ _ _ _ _ _)
  iintro %w
  rcases w with ⟨v249, v278, v279⟩
  dsimp only
  iapply wpc_bind
  iapply (part9 c _ _ _ _ _)
  iintro %w
  rcases w with ⟨v281, v297, v313⟩
  dsimp only
  iapply wpc_bind
  iapply (part10 m c _ _ _ _)
  isplitl [H]; · iexact H
  isplitl [Hx0 Hg0]
  · unfold xMid
    isplitl [Hx0] <;> iassumption
  iintro ⟨H, Hx0⟩
  iapply wpc_bind
  iapply (part11 m c _ _ _ _)
  isplitl [H]; · iexact H
  isplitl [Hx2 Hg2]
  · unfold xMid
    isplitl [Hx2] <;> iassumption
  iintro ⟨H, Hx2⟩
  iapply wpc_bind
  iapply (part12 m c _ _ _ _)
  isplitl [H]; · iexact H
  isplitl [Hx1 Hg1]
  · unfold xMid
    isplitl [Hx1] <;> iassumption
  iintro ⟨H, Hx1⟩
  iapply wpc_bind
  iapply (part13 m c _ _ _ _)
  isplitl [H]; · iexact H
  isplitl [Hx3 Hg3]
  · unfold xMid
    isplitl [Hx3] <;> iassumption
  isplitl [Hw]; · iexact Hw
  iintro ⟨H, Hx3, Hw⟩
  iapply wpc_bind
  iapply (part14 m c _ _ _)
  isplitl [H]; · iexact H
  isplitl [Hw]; · iexact Hw
  isplitl [Hwb]; · iexact Hwb
  isplitl [Ho]; · iexact Ho
  iintro %w ⟨H, G, Hw⟩
  dsimp only
  iapply wpc_bind
  iapply (part15 m c _ _ _ _)
  isplitl [H]; · iexact H
  iintro %w0 H
  iapply wpc_bind
  iapply (part16 m c _ _ _ _)
  isplitl [H]; · iexact H
  iintro %w0 %w1 H
  dsimp only
  iapply wpc_bind
  iapply (part17 m c _ _ _ _ _)
  isplitl [H]; · iexact H
  iintro H
  iapply wpc_bind
  iapply (part18 m c _ _ _ _)
  isplitl [H]; · iexact H
  isplitl [G]; · iexact G
  iintro ⟨H, G⟩
  iapply wpc_bind
  iapply (part19 m c _ _ _ _)
  isplitl [H]; · iexact H
  isplitl [G]; · iexact G
  iintro ⟨H, G⟩
  iapply wpc_bind
  iapply (part20 m c _ _ _)
  isplitl [H]; · iexact H
  iintro H
  iapply wpc_bind
  iapply (part21 m c _ _ _)
  isplitl [H]; · iexact H
  iintro H
  iapply wpc_bind
  iapply (part22 m c _ _ _)
  isplitl [H]; · iexact H
  isplitl [G]; · iexact G
  iintro ⟨H, G⟩
  iapply wpc_bind
  iapply (part23 m c _ _ _)
  isplitl [H]; · iexact H
  iintro H
  iapply wpc_bind
  iapply (part24 m c _ _)
  isplitl [H]; · iexact H
  iintro H
  iapply wpc_bind
  iapply (part25 m c _ _ _ _)
  isplitl [H]; · iexact H
  isplitl [G]; · iexact G
  iintro %w2 ⟨H, G⟩
  dsimp only
  iapply wpc_bind
  iapply (part26 m c _ _ _ _)
  isplitl [H]; · iexact H
  isplitl [G]; · iexact G
  iintro ⟨H, G⟩
  iapply wpc_bind
  iapply (part27 m c _ _ _)
  isplitl [H]; · iexact H
  iintro H
  iapply wpc_bind
  iapply (part28 m c _ _ _ _)
  isplitl [H]; · iexact H
  isplitl [G]; · iexact G
  iintro ⟨H, G⟩
  dsimp only
  iapply wpc_bind
  iapply (part29 m c _ _ _)
  isplitl [H]; · iexact H
  isplitl [G]; · iexact G
  iintro ⟨H, G⟩
  iapply wpc_bind
  iapply (part30 m c _ _ _)
  isplitl [H]; · iexact H
  isplitl [G]; · iexact G
  iintro %w2 ⟨H, G⟩
  dsimp only
  iapply wpc_bind
  iapply (part31 m c _ _ _ _)
  isplitl [H]; · iexact H
  isplitl [G]; · iexact G
  iintro ⟨H, G⟩
  iapply wpc_bind
  iapply (part32 m c _ _ _)
  isplitl [H]; · iexact H
  isplitl [G]; · iexact G
  iintro ⟨H, G⟩
  iapply wpc_bind
  iapply (part33 m c _ _ _ _)
  isplitl [H]; · iexact H
  isplitl [G]; · iexact G
  iintro ⟨H, G⟩
  iapply wpc_bind
  iapply (part34 m c _ _ _ _)
  isplitl [H]; · iexact H
  isplitl [G]; · iexact G
  iintro ⟨H, G⟩
  iapply wpc_bind
  iapply (part35 m c _ _)
  isplitl [H]; · iexact H
  isplitl [G]; · iexact G
  iintro ⟨H, G⟩
  iapply wpc_bind
  iapply (part36 m c _)
  isplitl [H]; · iexact H
  iintro H
  iapply wpc_bind
  iapply (part37 m c _)
  isplitl [H]; · iexact H
  iintro H
  iapply wpc_bind
  iapply (part38 m c _)
  isplitl [H]; · iexact H
  iintro H
  iapply wpc_bind
  iapply (part39 m c _)
  isplitl [H]; · iexact H
  iintro H
  iapply wpc_bind
  iapply (part40 m c _)
  isplitl [H]; · iexact H
  iintro H
  iapply wpc_bind
  iapply (part41 m c _)
  isplitl [H]; · iexact H
  iintro H
  iapply wpc_bind
  iapply (part42 m c _ _ _ _ _ _ _ _ _ _ _ _ _ _ _)
  isplitl [H]; · iexact H
  iintro H
  ihave H' := (rt_end m c) $$ H
  icases H' with ⟨Hst, Hgf, Ha, Ht⟩
  iapply wpc_bind
  iapply (part43 m c _ _ _ (amax_vals m c) _)
  isplitl [Hst]; · iexact Hst
  isplitl [Hs]; · iexact Hs
  isplitl [Ha]; · iexact Ha
  isplitl [Ht]; · iexact Ht
  iintro %w0 %w1 %w2 ⟨H, Hd, Ha⟩
  dsimp only
  iapply wpc_bind
  iapply (part44 m c _ _ _ _ _)
  isplitl [H]; · iexact H
  iintro H
  iapply wpc_bind
  iapply (part45 m c _ _)
  isplitl [H]; · iexact H
  iintro %u0 %u1 %u2 %u3 %u4 H
  dsimp only
  iapply wpc_bind
  iapply (part46 m c _ _ _ _ _ _ _)
  isplitl [H]; · iexact H
  iintro %u0 H
  iapply wpc_bind
  iapply (part47 m c _ _ _)
  isplitl [H]; · iexact H
  iintro %u0 H
  iapply wpc_bind
  iapply (part48 m c _ _ _)
  isplitl [H]; · iexact H
  iintro %u0 %u1 %u2 %u3 %u4 H
  dsimp only
  iapply wpc_bind
  iapply (part49 m c _ _ _ _ _ _ _)
  isplitl [H]; · iexact H
  iintro %u0 %u1 H
  dsimp only
  iapply wpc_bind
  iapply (part50 m c _ _ _ _)
  isplitl [H]; · iexact H
  iintro H
  iapply wpc_bind
  iapply (part51 m c _ _)
  isplitl [H]; · iexact H
  iintro H
  simp only [Prog.lift, Prog.bind_op, Prog.bind_ret, Prog.pure_eq_ret]
  iapply (wp_asent m 2 (t := 71) (t' := 72) ⟨rfl, rfl⟩ (by exact fun _ => rfl)) $$ H
  iintro H
  iapply (wp_asent m 3 (t := 72) (t' := 73) ⟨rfl, rfl⟩ (by exact fun _ => rfl)) $$ H
  iintro H
  iapply wpc_ret
  iapply Hk
  unfold bodyEnd
  isplitl [H]; · iexact H
  isplitl [Hd Ha]
  · isplitl [Hd] <;> iassumption
  isplitl [Hx0 Hx1 Hx2 Hx3]
  · isplitl [Hx0]; · iexact Hx0
    isplitl [Hx1]; · iexact Hx1
    isplitl [Hx2] <;> iassumption
  isplitl [Hw]; · iexact Hw
  isplitl [G] <;> iassumption

end Cert.RingProof

end
-- ==== Proof.Body.lean ====
/-
# The whole body

From the blocks of the arguments and the scratch buffers to the result: the parts, the last three waits, the final
quantization, and the closing of all the cells.
-/
module

public import proofs.«01_k».proof.Proof.Chain

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Lists of four and of five -/

theorem bs_fin4 (Φ : Fin 4 → sProp 𝕄) : bigSep Finset.univ Φ = iprop(Φ 0 ∗ Φ 1 ∗ Φ 2 ∗ Φ 3) := bigSep_univ_eq_bigSepL [0, 1, 2, 3] (by decide) (by decide) Φ
theorem bs_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ

/-- A persistent fact may be used for every member of a list. -/
theorem bs_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## The four pieces of a block of `x` -/

theorem xrows_cover : (Finset.univ : Finset S512x4096.Idx) = Finset.univ.biUnion fun s : Fin 4 => xrows (128 * s.val) (128 * s.val + 128) := by
  ext x
  simp only [Finset.mem_univ, true_iff, Finset.mem_biUnion, _root_.true_and]
  have h6 : (x 0).val < 512 := (x 0).isLt
  refine ⟨⟨(x 0).val / 128, by omega⟩, ?_⟩
  unfold xrows
  exact Finset.mem_filter.mpr ⟨Finset.mem_univ _, by dsimp only; omega, by dsimp only; omega⟩
theorem xrows_disj : ∀ s ∈ (Finset.univ : Finset (Fin 4)), ∀ s' ∈ (Finset.univ : Finset (Fin 4)), s ≠ s' → Disjoint (xrows (128 * s.val) (128 * s.val + 128)) (xrows (128 * s'.val) (128 * s'.val + 128)) := by
  intro s _ s' _ hne
  rw [Finset.disjoint_left]
  intro x hx hy
  unfold xrows at hx hy
  have h1 := (Finset.mem_filter.mp hx).2
  have h2 := (Finset.mem_filter.mp hy).2
  exact hne (Fin.ext (by omega))

theorem x_split (c : Dev nD) (f : (main_arg0 : Ref sig .tc).ty.Contents (Elt F)) :
    (((c : Thread nD τ).loc main_arg0) ↦{fullShare} f : sProp 𝕄)
      = bigSep Finset.univ fun s : Fin 4 => ((c : Thread nD τ).loc main_arg0) ↦[xrows (128 * s.val) (128 * s.val + 128)]{fullShare} f :=
  (congrArg (fun I : Finset S512x4096.Idx => (((c : Thread nD τ).loc main_arg0) ↦[I]{fullShare} f : sProp 𝕄)) xrows_cover).trans (pointsTo_biUnion _ _ xrows_disj)
theorem xv_split (c : Dev nD) (f : (cc0_scratch1 : Ref sig .tc).ty.Contents (Elt F)) :
    (((c : Thread nD τ).loc cc0_scratch1) ↦{fullShare} f : sProp 𝕄)
      = bigSep Finset.univ fun s : Fin 4 => ((c : Thread nD τ).loc cc0_scratch1) ↦[xrows (128 * s.val) (128 * s.val + 128)]{fullShare} f :=
  (congrArg (fun I : Finset S512x4096.Idx => (((c : Thread nD τ).loc cc0_scratch1) ↦[I]{fullShare} f : sProp 𝕄)) xrows_cover).trans (pointsTo_biUnion _ _ xrows_disj)

/-! ## What the body starts from and ends with -/

/-- The six scratch buffers, each at any contents. -/
def restAny (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f))
/-- The device's blocks of the arguments. -/
def argsHeld (c : Dev nD) : sProp 𝕄 :=
  iprop((((c : Thread nD τ).loc main_arg0) ↦{fullShare} xArg m c) ∗ ((c : Thread nD τ).loc main_arg1) ↦{fullShare} wArg m c)
/-- The index of the cell of local copy `i`. -/
abbrev localIx (i : Fin 5) : Fin 81 := ⟨76 + i.val, by omega⟩

def bodyIn (c : Dev nD) : sProp 𝕄 :=
  iprop(St m c 0 0 ∗ (bigSep Finset.univ fun i : Fin 5 => todo c (idleIx c i)) ∗ (bigSep Finset.univ fun i : Fin 5 => copyTok (F := F) c (localIx i))
    ∗ argsHeld m c ∗ restAny c ∗ ∃ f : (cc0_stg0_0 : Ref sig .tc).ty.Contents (Elt F), ((c : Thread nD τ).loc cc0_stg0_0) ↦{fullShare} f)
/-- The result on device `c`. -/
def outAt (c : Dev nD) : (cc0_stg0_0 : Ref sig .tc).ty.Contents (Elt F) := k0_pay1 (AF m) (YF m c)
def bodyOut (c : Dev nD) : sProp 𝕄 :=
  iprop((∃ W : Waits sig Unit, owes (c : Thread nD τ) 0 W) ∗ (bigSep Finset.univ fun i : Fin 81 => semVal (kcell (c, i)) 0)
    ∗ argsHeld m c ∗ restAny c ∗ ((c : Thread nD τ).loc cc0_stg0_0) ↦{fullShare} outAt m c)

theorem body_start (c : Dev nD) :
    bodyIn m c ⊢ iprop(bodyStart m c ∗ bigSep Finset.univ fun i : Fin 5 => todo c (idleIx c i)) := by
  have hx : iprop((bigSep Finset.univ fun i : Fin 5 => copyTok (F := F) c (localIx i)) ∗ (((c : Thread nD τ).loc main_arg0) ↦{fullShare} xArg m c)
        ∗ ∃ f : Buf (Elt F) ((c : Thread nD τ).loc cc0_scratch1), ((c : Thread nD τ).loc cc0_scratch1) ↦{fullShare} f)
      ⊢ iprop((xIn m c 0 ∗ xIn m c 1 ∗ xIn m c 2 ∗ xIn m c 3) ∗ copyTok (F := F) c 80) := by
    rw [bs_fin5, x_split, bs_fin4]
    unfold xIn xAny xHas
    iintro ⟨⟨T0, T1, T2, T3, T4⟩, ⟨X0, X1, X2, X3⟩, %f, V⟩
    ihave V' := (Entails.of_eq ((xv_split c f).trans (bs_fin4 _))) $$ V
    icases V' with ⟨V0, V1, V2, V3⟩
    isplitr [T4]
    · isplitl [T0 X0 V0]
      · isplitl [V0]; · iexists f; iexact V0
        isplitl [X0] <;> iassumption
      isplitl [T1 X1 V1]
      · isplitl [V1]; · iexists f; iexact V1
        isplitl [X1] <;> iassumption
      isplitl [T2 X2 V2]
      · isplitl [V2]; · iexists f; iexact V2
        isplitl [X2] <;> iassumption
      isplitl [V3]; · iexists f; iexact V3
      isplitl [X3] <;> iassumption
    iexact T4
  unfold bodyIn bodyStart argsHeld restAny wIn
  iintro ⟨Hst, Hidle, Htok, ⟨Hx, Hw⟩, ⟨⟨%f0, G0⟩, G1, G2, G3, G4, ⟨%f5, G5⟩⟩, %fo, Ho⟩
  ihave Hxs := hx $$ [Htok Hx G1]
  · isplitl [Htok]; · iexact Htok
    isplitl [Hx] <;> iassumption
  icases Hxs with ⟨Hxs, Tw⟩
  ihave G0' := (gather_split c f0) $$ G0
  icases G0' with ⟨⟨P0, P2, P1, P3⟩, Gr⟩
  ihave G5' := (amax_split c f5) $$ G5
  icases G5' with ⟨A1, A2⟩
  ihave Hb := (bar_split c) $$ [Gr A1]
  · isplitl [Gr] <;> iassumption
  isplitr [Hidle]
  · isplitl [Hst]; · iexact Hst
    isplitl [Hxs]; · iexact Hxs
    isplitl [G2 Hw Tw]
    · isplitl [G2]; · iexact G2
      isplitl [Hw] <;> iassumption
    isplitl [Hb]; · iexact Hb
    isplitl [A2]; · iexact A2
    isplitl [P0 P1 P2 P3]
    · isplitl [P0]; · iexact P0
      isplitl [P1]; · iexact P1
      isplitl [P2] <;> iassumption
    isplitl [G3]; · iexact G3
    isplitl [Ho]; · iapply (out_start m fo); iexact Ho
    iexact G4
  iexact Hidle

/-! ## The cells that are never waited on -/

theorem idle_duties (c : Dev nD) (i : Fin 5) : ∀ r, 0 ≤ r → (Rd (F := F) m).duties (kcell (c, idleIx c i)) r = ∅ := by
  have h : ∀ (c : Dev nD) (i : Fin 5), roleDuties c (roleOf (csem (idleIx c i))) = ∅ := by decide
  intro r _
  rcases Nat.eq_zero_or_pos r with rfl | hr
  · rw [duties_cell, h]
  · exact duties_later m _ r hr

theorem idle_close (K : Dev nD × Fin 81 → ℕ) (c : Dev nD) :
    iprop(records m K ∗ bigSep Finset.univ fun i : Fin 5 => todo c (idleIx c i))
      ⊢ |={Set.univ}=> bigSep Finset.univ fun i : Fin 5 => (semVal (kcell (c, idleIx c i)) 0 : sProp 𝕄) := by
  refine (bs_with (Ψ := fun i : Fin 5 => iprop(|={Set.univ}=> semVal (kcell (c, idleIx c i)) 0)) fun i _ => ?_).trans (bigSep_fupd _ _)
  have h : iprop(records m K ∗ todo c (idleIx c i)) ⊢ iprop(cellInv ER (Rd m) (K (c, idleIx c i)) (kcell (c, idleIx c i)) ∗ atPos ER (kcell (c, idleIx c i)) 0 ∅ 0) := by
    unfold todo
    iintro ⟨Hr, Ha, -⟩
    isplitl [Hr]; · iapply (inv_at m K (c, idleIx c i)); iexact Hr
    iexact Ha
  exact h.trans (Rounds.cell_close ER (Rd m) (Set.mem_univ (K (c, idleIx c i))) (fun h => h) (R := 0) (idle_duties m c i))

/-- All cells are those waited on and those that are not. -/
theorem all_cells (c : Dev nD) (Φ : Fin 81 → sProp 𝕄) :
    bigSep Finset.univ Φ = iprop((bigSep Finset.univ fun i : Fin 76 => Φ (waitIx c i)) ∗ bigSep Finset.univ fun i : Fin 5 => Φ (idleIx c i)) := by
  have hb := cellIx_bij c
  have h1 : ∀ s, s ∈ (Finset.univ : Finset (Fin 81)) ↔ s ∈ Finset.univ.image (waitIx c) ∨ s ∈ Finset.univ.image (idleIx c) := by
    intro s
    refine ⟨fun _ => ?_, fun _ => Finset.mem_univ _⟩
    obtain ⟨x, hx⟩ := hb.2 s
    rcases x with i | i
    · exact Or.inl (Finset.mem_image.mpr ⟨i, Finset.mem_univ _, hx⟩)
    · exact Or.inr (Finset.mem_image.mpr ⟨i, Finset.mem_univ _, hx⟩)
  have h2 : ∀ s, s ∈ Finset.univ.image (waitIx c) → s ∈ Finset.univ.image (idleIx c) → False := by
    intro s hs hs'
    obtain ⟨i, _, hi⟩ := Finset.mem_image.mp hs
    obtain ⟨j, _, hj⟩ := Finset.mem_image.mp hs'
    have := hb.1 (show cellIx c (.inl i) = cellIx c (.inr j) from hi.trans hj.symm)
    cases this
  have h3 : Set.InjOn (waitIx c) (Finset.univ : Finset (Fin 76)) := fun i _ j _ h => Sum.inl.inj (hb.1 (show cellIx c (.inl i) = cellIx c (.inl j) from h))
  have h4 : Set.InjOn (idleIx c) (Finset.univ : Finset (Fin 5)) := fun i _ j _ h => Sum.inr.inj (hb.1 (show cellIx c (.inr i) = cellIx c (.inr j) from h))
  rw [bs_union h1 h2, BI.bigSep_image_of_injOn h3, BI.bigSep_image_of_injOn h4]

/-- At the end every cell is closed and nothing is owed. -/
theorem st_end (c : Dev nD) :
    iprop(St m c 38 76 ∗ bigSep Finset.univ fun i : Fin 5 => todo c (idleIx c i))
      ⊢ |={Set.univ}=> iprop((∃ W : Waits sig Unit, owes (c : Thread nD τ) 0 W) ∗ bigSep Finset.univ fun i : Fin 81 => semVal (kcell (c, i)) 0) := by
  have hf : (Finset.univ.filter fun i : Fin 76 => i.val < 76) = Finset.univ := Finset.filter_true_of_mem fun i _ => i.isLt
  unfold St cellsAt
  rw [owedFrom_end, hf, all_cells c]
  iintro ⟨⟨%K, %W, #Hrec, -, HO, -, Hc, -⟩, Hi⟩
  imod (idle_close m K c) $$ [Hi] with Hz
  · isplitr; · iexact Hrec
    iexact Hi
  imodintro
  isplitl [HO]; · iexists W; iexact HO
  isplitl [Hc] <;> iassumption

/-! ## The body -/

theorem x_end (c : Dev nD) :
    iprop(xEnd m c 0 ∗ xEnd m c 1 ∗ xEnd m c 2 ∗ xEnd m c 3)
      ⊢ iprop((((c : Thread nD τ).loc cc0_scratch1) ↦{fullShare} xArg m c) ∗ (((c : Thread nD τ).loc main_arg0) ↦{fullShare} xArg m c)) := by
  rw [x_split, xv_split, bs_fin4, bs_fin4]
  unfold xEnd xGot xHas
  iintro ⟨⟨V0, X0⟩, ⟨V1, X1⟩, ⟨V2, X2⟩, V3, X3⟩
  isplitl [V0 V1 V2 V3]
  · isplitl [V0]; · iexact V0
    isplitl [V1]; · iexact V1
    isplitl [V2] <;> iassumption
  isplitl [X0]; · iexact X0
  isplitl [X1]; · iexact X1
  isplitl [X2] <;> iassumption

theorem body (c : Dev nD) (Q : PUnit → sProp 𝕄) :
    iprop(bodyIn m c ∗ (bodyOut m c -∗ Q ⟨⟩)) ⊢ wpc c (onArgs (cc0_body (F := F))) Q := by
  rw [cc0_body_eq_skeleton]
  unfold cc0_body_skel
  iintro ⟨Hin, Hk⟩
  ihave Hin' := (body_start m c) $$ Hin
  icases Hin' with ⟨Hs, Hidle⟩
  iapply wpc_bind
  iapply (part52 m c _)
  isplitl [Hs]; · iexact Hs
  unfold bodyEnd
  iintro ⟨H, ⟨Hd, Ha⟩, Hx, Hw, G, Hg⟩
  simp only [Prog.lift, Prog.bind_op, Prog.bind_ret, Prog.pure_eq_ret]
  iapply (wp_asent m 4 (t := 73) (t' := 74) ⟨rfl, rfl⟩ (by exact fun _ => rfl)) $$ H
  iintro H
  iapply (wp_asent m 5 (t := 74) (t' := 75) ⟨rfl, rfl⟩ (by exact fun _ => rfl)) $$ H
  iintro H
  iapply (wp_asent m 6 (t := 75) (t' := 76) ⟨rfl, rfl⟩ (by exact fun _ => rfl)) $$ H
  iintro H
  ihave He := (at_end m c) $$ [H Hd Ha]
  · isplitl [H]; · iexact H
    isplitl [Hd] <;> iassumption
  icases He with ⟨Hst, Hs, Ha⟩
  unfold Gm
  icases G with ⟨Hwb, Ho⟩
  ihave Ho := (out_end m) $$ Ho
  iapply (wp_load_rect 𝒱₀ (c : Thread nD τ) none Set.univ (m := aM) (r := Rect.unit (s := S8x128) ![0, 0] S8x128.size inb_S8x128_S8x128_0_0) (Finset.subset_univ _)) $$ Ha
  iintro Ha
  have e1 : (aM.access (Rect.unit (s := S8x128) ![0, 0] S8x128.size inb_S8x128_S8x128_0_0)).read (Elt F) (AF m) = AF m :=
    Memref.read_access_unit_zero (Elt F) cc0_scratch5 zero2 _ (AF m)
  rw [e1]
  iapply (wp_load_rect 𝒱₀ (c : Thread nD τ) none Set.univ (m := oM) (r := Rect.unit (s := S4096x256) ![0, 0] S4096x256.size inb_S4096x256_S4096x256_0_0) (Finset.subset_univ _)) $$ Ho
  iintro Ho
  have e2 : (oM.access (Rect.unit (s := S4096x256) ![0, 0] S4096x256.size inb_S4096x256_S4096x256_0_0)).read (Elt F) (YF m c) = YF m c :=
    Memref.read_access_unit_zero (Elt F) cc0_stg0_0 zero2 _ (YF m c)
  rw [e2]
  iapply (wp_load_rect 𝒱₀ (c : Thread nD τ) none Set.univ (m := oM) (r := Rect.unit (s := S4096x256) ![0, 0] S4096x256.size inb_S4096x256_S4096x256_0_0) (Finset.subset_univ _)) $$ Ho
  iintro Ho
  iapply (wp_store 𝒱₀ (c : Thread nD τ) none Set.univ (m := oM) (r := Rect.unit (s := S4096x256) ![0, 0] S4096x256.size inb_S4096x256_S4096x256_0_0) (S := Finset.univ) (Finset.subset_univ _)) $$ Ho
  iintro Ho
  have e3 : (oM.access (Rect.unit (s := S4096x256) ![0, 0] S4096x256.size inb_S4096x256_S4096x256_0_0)).write (Elt F) (YF m c) (k0_pay1 (AF m) (YF m c)) Finset.univ = outAt m c :=
    Memref.write_access_unit_zero_univ (Elt F) cc0_stg0_0 zero2 _ (YF m c) _
  rw [e3]
  imod (st_end m c) $$ [Hst Hidle] with ⟨HO, Hz⟩
  · isplitl [Hst] <;> iassumption
  ihave Hx' := (x_end m c) $$ Hx
  icases Hx' with ⟨Hv, Hx⟩
  unfold wEnd
  icases Hw with ⟨Hv2, Hw⟩
  iapply wpc_ret
  iapply Hk
  unfold bodyOut argsHeld restAny
  isplitl [HO]; · iexact HO
  isplitl [Hz]; · iexact Hz
  isplitl [Hx Hw]
  · isplitl [Hx] <;> iassumption
  isplitr [Ho]
  · isplitl [Hg]; · iexists _; iexact Hg
    isplitl [Hv]; · iexists _; iexact Hv
    isplitl [Hv2]; · iexists _; iexact Hv2
    isplitl [Hwb]; · iexists _; iexact Hwb
    isplitl [Hs]; · iexists _; iexact Hs
    iexists _; iexact Ha
  iexact Ho

end Cert.RingProof

end
-- ==== Proof.Tokens.lean ====
/-
# The launch: cells, tokens, credit

All 81 cells of every device are set up at once; every device gets the tokens it pays with, and the credit for what the
others owe its cells.
-/
module

public import proofs.«01_k».proof.Proof.Body

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Lists over sums and over the cells -/

theorem bs_sum {A B : Type} [Fintype A] [Fintype B] [DecidableEq A] [DecidableEq B] (Φ : A ⊕ B → sProp 𝕄) :
    bigSep Finset.univ Φ = iprop((bigSep Finset.univ fun a => Φ (.inl a)) ∗ bigSep Finset.univ fun b => Φ (.inr b)) := by
  have h1 : ∀ x, x ∈ (Finset.univ : Finset (A ⊕ B)) ↔ x ∈ Finset.univ.image Sum.inl ∨ x ∈ Finset.univ.image Sum.inr := by
    intro x
    refine ⟨fun _ => ?_, fun _ => Finset.mem_univ _⟩
    rcases x with a | b
    · exact Or.inl (Finset.mem_image_of_mem _ (Finset.mem_univ a))
    · exact Or.inr (Finset.mem_image_of_mem _ (Finset.mem_univ b))
  have h2 : ∀ x : A ⊕ B, x ∈ Finset.univ.image Sum.inl → x ∈ Finset.univ.image Sum.inr → False := by
    intro x hx hy
    obtain ⟨a, _, ha⟩ := Finset.mem_image.mp hx
    obtain ⟨b, _, hb⟩ := Finset.mem_image.mp hy
    cases ha.trans hb.symm
  rw [bs_union h1 h2, BI.bigSep_image_of_injOn (Sum.inl_injective.injOn), BI.bigSep_image_of_injOn (Sum.inr_injective.injOn)]

/-- The barrier cell, and the eighty others. -/
theorem bs_cells (Φ : Fin 81 → sProp 𝕄) : bigSep Finset.univ Φ = iprop(Φ 0 ∗ bigSep Finset.univ fun i : Fin 80 => Φ i.succ) := by
  have h1 : ∀ x, x ∈ (Finset.univ : Finset (Fin 81)) ↔ x ∈ ({0} : Finset (Fin 81)) ∨ x ∈ (Finset.univ : Finset (Fin 80)).image Fin.succ := by
    intro x
    refine ⟨fun _ => ?_, fun _ => Finset.mem_univ _⟩
    rcases Fin.eq_zero_or_eq_succ x with rfl | ⟨i, rfl⟩
    · exact Or.inl (Finset.mem_singleton_self _)
    · exact Or.inr (Finset.mem_image_of_mem _ (Finset.mem_univ i))
  have h2 : ∀ x : Fin 81, x ∈ ({0} : Finset (Fin 81)) → x ∈ (Finset.univ : Finset (Fin 80)).image Fin.succ → False := by
    intro x hx hy
    obtain ⟨i, _, hi⟩ := Finset.mem_image.mp hy
    exact Fin.succ_ne_zero i (hi.trans (Finset.mem_singleton.mp hx))
  rw [bs_union h1 h2, BI.bigSep_singleton, BI.bigSep_image_of_injOn ((Fin.succ_injective 80).injOn)]

/-! ## The cells and the tokens minted at launch -/

theorem kcell_injective : Function.Injective (kcell : Dev nD × Fin 81 → GSem nD τ sig) := by
  rintro ⟨c, k⟩ ⟨c', k'⟩ h
  have h1 : c = c' := congrArg (fun g : GSem nD τ sig => g.1.1) h
  have h2 : csem k = csem k' := congrArg Prod.snd h
  rw [h1, csem_inj h2]
def ringCells : Finset (GSem nD τ sig) := Finset.univ.map ⟨kcell, kcell_injective⟩

/-- The tokens of a device: of the cells it pays, of its own send cells, of its local copies. -/
abbrev Tok : Type := Fin 38 ⊕ Fin 38 ⊕ Fin 5
/-- The cell, round and duty of a token. (A barrier signal has no send cell: its place is taken by a token of a later
    round, which is never used.) -/
def tokKey (x : Dev nD × Tok) : (Dev nD × Fin 81) × ℕ × Fin 3 :=
  match x.2 with
  | .inl j => (payKey x.1 j, 0, payDuty j)
  | .inr (.inl j) => if h : j.val < 3 then ((x.1, 0), 1, ⟨j.val, h⟩) else ((x.1, paySend j), 0, 0)
  | .inr (.inr i) => ((x.1, localIx i), 0, 0)
/-- The token of a cell, round and duty. -/
def tokOf (y : (Dev nD × Fin 81) × ℕ × Fin 3) : Dev nD × Tok :=
  if y.2.1 = 1 then (y.1.1, .inr (.inl ⟨y.2.2.val, by omega⟩)) else
    match roleOf (csem y.1.2) with
    | .bar => (step y.2.2 y.1.1, .inl ⟨y.2.2.val, by omega⟩)
    | .recv k => (orig k y.1.1, .inl ⟨k.val + 3, by omega⟩)
    | .arecv s => (s, .inl (Fin.ofNat 38 (31 + (ringPos y.1.1 - ringPos s - 1).val)))
    | .send k => (y.1.1, .inr (.inl ⟨k.val + 3, by omega⟩))
    | .asend k => (y.1.1, .inr (.inl ⟨k.val + 31, by omega⟩))
    | .xin s => (y.1.1, .inr (.inr ⟨s.val, by omega⟩))
    | .win | .idle => (y.1.1, .inr (.inr 4))
theorem tokOf_key : ∀ x : Dev nD × Tok, tokOf (tokKey x) = x := by decide +kernel
abbrev tokAt (x : Dev nD × Tok) : GSem nD τ sig × ℕ × Fin 3 := (kcell (tokKey x).1, (tokKey x).2)
theorem tokAt_injective : Function.Injective tokAt := by
  intro x y h
  have h1 : (tokKey x).1 = (tokKey y).1 := kcell_injective (congrArg Prod.fst h)
  have h2 : (tokKey x).2 = (tokKey y).2 := congrArg (fun z : GSem nD τ sig × ℕ × Fin 3 => z.2) h
  rw [← tokOf_key x, ← tokOf_key y, Prod.ext h1 h2]
def ringToks : Finset (GSem nD τ sig × ℕ × Fin 3) := Finset.univ.map ⟨tokAt, tokAt_injective⟩

def u₀ : UU := (initOf (Pipeline.cells cfgs cellOf_inj) (Pipeline.launchToks cfgs cellOf_inj), initOf ringCells ringToks)

/-- The tokens that device `c` pays with. -/
def ptoks (c : Dev nD) : sProp 𝕄 :=
  iprop((bigSep Finset.univ fun j : Fin 38 => payTok c j) ∗ bigSep Finset.univ fun i : Fin 5 => copyTok (F := F) c (localIx i))

theorem toks_intro (c : Dev nD) :
    (bigSep Finset.univ fun t : Tok => (dutyTok ER (kcell (tokKey (c, t)).1) (tokKey (c, t)).2.1 (tokKey (c, t)).2.2 : sProp 𝕄)) ⊢ ptoks c := by
  rw [bs_sum, bs_sum]
  have e : ∀ j : Fin 38, (dutyTok ER (kcell (tokKey (c, .inr (.inl j))).1) (tokKey (c, .inr (.inl j))).2.1 (tokKey (c, .inr (.inl j))).2.2 : sProp 𝕄)
      ⊢ (if j.val < 3 then iprop(emp) else dutyTok ER (kcell (c, paySend j)) 0 (0 : Fin 3)) := by
    intro j
    by_cases h : j.val < 3
    · rw [if_pos h]; iintro -; iempintro
    · rw [if_neg h, show tokKey (c, .inr (.inl j)) = ((c, paySend j), 0, 0) from dif_neg h]
  unfold ptoks payTok copyTok
  rw [bigSep_sep']
  iintro ⟨H1, H2, H3⟩
  isplitl [H1 H2]
  · isplitl [H1]; · iexact H1
    have h2 : (bigSep Finset.univ fun j : Fin 38 => (dutyTok ER (kcell (tokKey (c, .inr (.inl j))).1) (tokKey (c, .inr (.inl j))).2.1 (tokKey (c, .inr (.inl j))).2.2 : sProp 𝕄))
      ⊢ bigSep Finset.univ fun j : Fin 38 => (if j.val < 3 then iprop(emp) else dutyTok ER (kcell (c, paySend j)) 0 (0 : Fin 3)) := bigSep_mono fun j _ => e j
    iapply h2; iexact H2
  iexact H3

/-- What the launch element deals device `c`. -/
def G (c : Dev nD) : sProp 𝕄 :=
  iprop((bigSep Finset.univ fun i : Fin 81 => roundState ER (Rd m) (kcell (c, i)) 0)
    ∗ (bigSep Finset.univ fun i : Fin 81 => iprop(atPos ER (kcell (c, i)) 0 ∅ 0 ∗ reached ER (kcell (c, i)) 0)) ∗ ptoks c)
/-- What is made of it. -/
def G' (c : Dev nD) : sProp 𝕄 :=
  iprop(∃ K, records m K ∗ (bigSep Finset.univ fun i : Fin 81 => atPos ER (kcell (c, i)) 0 ∅ 0) ∗ ptoks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 81 => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => ptoks c := by
    unfold ringToks; rw [bigSep_map, bigSep_univ_prod]
    exact bigSep_mono fun c _ => toks_intro c
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ## The semaphores at launch -/

/-- The kernel's own semaphores. -/
abbrev osem (i : Fin 80) : SemLoc sig := .dma i.succ
theorem ownSemFacts : Pipeline.OwnSemFacts cfg0.spec osem := by decide +kernel

theorem sems_eq (c : Dev nD) :
    (bigSep Finset.univ fun i : Fin 81 => (semVal (kcell (c, i)) 0 : sProp 𝕄))
      = iprop((unscopedSems0 c) ∗ Pipeline.ownSems0 (Ix := Unit) (Name := ℕ) (U := UU) (Lvl := ℕ) (Val := Elt F) (τ := τ) osem c) := by
  rw [bs_cells]
  have h : (unscopedSems0 c : sProp 𝕄) = semVal (kcell (c, 0)) 0 := by
    unfold unscopedSems0; rw [bigSep_eq_bigSepL_of_eq [SemLoc.reg barS] (by decide +kernel) (by decide)]; rfl
  rw [h]
  unfold Pipeline.ownSems0
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 81 => iprop(∃ κ : ℕ, cellInv ER (Rd m) κ (kcell (c, k))))
          ∗ (bigSep Finset.univ fun k : Fin 81 => iprop(atPos ER (kcell (c, k)) 0 ∅ 0 ∗ reached ER (kcell (c, k)) 0)) ∗ ptoks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun k : Fin 81 => semVal (kcell (c, k)) 0) ∗ bigSep Finset.univ fun k : Fin 81 => roundState ER (Rd m) (kcell (c, k)) 0)
      ⊢ (|={Set.univ}=> bigSep Finset.univ fun k : Fin 81 => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun k : Fin 81 => iprop(∃ κ : ℕ, cellInv ER (Rd m) κ (kcell (c, k))))
          ∗ (bigSep Finset.univ fun k : Fin 81 => iprop(atPos ER (kcell (c, k)) 0 ∅ 0 ∗ reached ER (kcell (c, k)) 0)) ∗ ptoks c) : sProp 𝕄)
      ⊢ bigSep Finset.univ (G' m) := by
  rw [bigSep_sep', bigSep_sep', ← bigSep_univ_prod (fun ck : Dev nD × Fin 81 => iprop(∃ κ : ℕ, cellInv ER (Rd m) κ (kcell ck))),
    bigSep_congr (s := Finset.univ) (fun (c : Dev nD) _ => bigSep_sep' Finset.univ (fun k : Fin 81 => (atPos ER (kcell (c, k)) 0 ∅ 0 : sProp 𝕄)) (fun k => reached ER (kcell (c, k)) 0)),
    bigSep_sep', ← bigSep_univ_prod (fun ck : Dev nD × Fin 81 => (reached ER (kcell ck) 0 : sProp 𝕄))]
  iintro ⟨HI, ⟨Hat, #HR⟩, Htok⟩
  ihave HK := (BI.bigSep_exists_pi Finset.univ (fun (ck : Dev nD × Fin 81) (κ : ℕ) => (cellInv ER (Rd m) κ (kcell ck) : sProp 𝕄))) $$ HI
  icases HK with ⟨%K, #HI⟩
  have hg : ∀ c ∈ (Finset.univ : Finset (Dev nD)), iprop(records m K ∗ (bigSep Finset.univ fun i : Fin 81 => (atPos ER (kcell (c, i)) 0 ∅ 0 : sProp 𝕄)) ∗ ptoks c) ⊢ G' m c := by
    intro c _
    unfold G'
    iintro H
    iexists K
    iexact H
  iapply (bs_with hg)
  isplitr
  · unfold records; isplitl; · iexact HI
    iexact HR
  · iapply (Entails.of_eq (bigSep_sep' Finset.univ (fun c : Dev nD => bigSep Finset.univ fun k : Fin 81 => (atPos ER (kcell (c, k)) 0 ∅ 0 : sProp 𝕄)) ptoks).symm)
    isplitl [Hat]; · iexact Hat
    iexact Htok

/-- All devices' cells are set up at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

abbrev O₀ (c : Dev nD) : CellTallies nD τ sig Unit := owedFrom c 0

theorem owed_at (d : Dev nD) (ci : Dev nD × Fin 81) : O₀ d (kcell ci) () = ∑ j : Fin 38, if payKey d j = ci then payAmt j else 0 := by
  show (∑ j ∈ paysFrom 0, tallyAt (kcell (payKey d j)) () (payAmt j)) (kcell ci) () = _
  rw [Finset.sum_apply, Finsupp.finset_sum_apply, show paysFrom 0 = Finset.univ from Finset.filter_true_of_mem fun j _ => Nat.zero_le _]
  refine Finset.sum_congr rfl fun j _ => ?_
  rw [tallyAt_apply]
  by_cases h : payKey d j = ci
  · rw [if_pos h, if_pos ⟨by rw [h], rfl⟩]
  · rw [if_neg h, if_neg fun h' => h (kcell_injective h'.1.symm)]

/-- What a cell is owed in all. -/
abbrev owedAll (ci : Dev nD × Fin 81) : ℕ := ∑ d : Dev nD, ∑ j : Fin 38, if payKey d j = ci then payAmt j else 0

theorem owed_one {ci : Dev nD × Fin 81} {d₀ : Dev nD} {j₀ : Fin 38} (h : payKey d₀ j₀ = ci) (hu : ∀ d j, payKey d j = ci → d = d₀ ∧ j = j₀) :
    owedAll ci = payAmt j₀ := by
  show (∑ d : Dev nD, ∑ j : Fin 38, if payKey d j = ci then payAmt j else 0) = _
  rw [Finset.sum_eq_single d₀ (fun d _ hd => Finset.sum_eq_zero fun j _ => if_neg fun h' => hd (hu d j h').1) (fun h' => absurd (Finset.mem_univ _) h'),
    Finset.sum_eq_single j₀ (fun j _ hj => if_neg fun h' => hj (hu d₀ j h').2) (fun h' => absurd (Finset.mem_univ _) h'), if_pos h]

theorem pay_bar : ∀ (d : Dev nD) (j : Fin 38), (payKey d j).2 = 0 → j.val < 3 := by decide +kernel
theorem pay_bar_sum : ∀ c : Dev nD, (∑ d : Dev nD, ∑ j : Fin 38, if payKey d j = (c, 0) then 1 else 0) = 3 := by decide +kernel
theorem pay_recv : ∀ (k : Fin 28) (d : Dev nD) (j : Fin 38), (payKey d j).2 = recvIx k → j.val = k.val + 3 := by decide +kernel
theorem pay_recv_dev : ∀ (k : Fin 28) (d c : Dev nD), payKey d ⟨k.val + 3, by omega⟩ = (c, recvIx k) ↔ d = orig k c := by decide +kernel
theorem pay_arecv : ∀ (s d : Dev nD) (j : Fin 38), (payKey d j).2 = arecvIx s → d = s ∧ 31 ≤ j.val := by decide +kernel
/-- The amax transfer of `s` to `c`. -/
abbrev amaxNo (s c : Dev nD) : Fin 38 := Fin.ofNat 38 (31 + (ringPos c - ringPos s - 1).val)
theorem pay_arecv_dev : ∀ s c : Dev nD, s ≠ c → payKey s (amaxNo s c) = (c, arecvIx s) ∧ 31 ≤ (amaxNo s c).val := by decide +kernel
theorem pay_arecv_no : ∀ (s c : Dev nD) (j : Fin 38), payKey s j = (c, arecvIx s) → j = amaxNo s c := by decide +kernel

theorem owed_bar (c : Dev nD) : owedAll (c, 0) = 3 := by
  refine Eq.trans (Finset.sum_congr rfl fun d _ => Finset.sum_congr rfl fun j _ => ?_) (pay_bar_sum c)
  by_cases h : payKey d j = (c, 0)
  · rw [if_pos h, if_pos h]; exact dif_pos (pay_bar d j (by rw [h]))
  · rw [if_neg h, if_neg h]
theorem owed_recv (c : Dev nD) (k : Fin 28) : owedAll (c, recvIx k) = siteAmt k := by
  have hk := k.isLt
  rw [owed_one (d₀ := orig k c) (j₀ := ⟨k.val + 3, by omega⟩) ((pay_recv_dev k _ c).mpr rfl) fun d j h => by
    have hj : j = ⟨k.val + 3, by omega⟩ := Fin.ext (pay_recv k d j (by rw [h]))
    subst hj
    exact ⟨(pay_recv_dev k d c).mp h, rfl⟩]
  unfold payAmt
  rw [dif_neg (by dsimp only; omega), dif_pos (by dsimp only; omega)]
  rfl
theorem owed_arecv (c s : Dev nD) (h : s ≠ c) : owedAll (c, arecvIx s) = amaxAmt := by
  rw [owed_one (pay_arecv_dev s c h).1 fun d j h => by
    obtain ⟨rfl, -⟩ := pay_arecv s d j (by rw [h])
    exact ⟨rfl, pay_arecv_no d c j h⟩]
  have := (pay_arecv_dev s c h).2
  unfold payAmt
  rw [dif_neg (by omega), dif_neg (by omega)]

theorem launch_at (ci : Dev nD × Fin 81) :
    tallyOn (kcell ci) (launchCredit (Pipeline.owing O₀) 0 (kcell ci)) = (tallyAt (kcell ci) () (owedAll ci) : CellTallies nD τ sig Unit) := by
  unfold tallyAt; refine congrArg _ (Finsupp.ext fun u => ?_); cases u
  rw [Pipeline.launchCredit_owing, Finsupp.single_eq_same]
  exact Finset.sum_congr rfl fun d _ => owed_at d ci

theorem role_bar_only : ∀ i : Fin 81, roleOf (csem i) = .bar → i = 0 := by decide +kernel
theorem role_recv_only : ∀ (i : Fin 81) (k : Fin 28), roleOf (csem i) = .recv k → i = recvIx k := by decide +kernel
theorem role_arecv_only : ∀ (i : Fin 81) (s : Fin 8), roleOf (csem i) = .arecv s → i = arecvIx s := by decide +kernel

theorem cred_cell (c : Dev nD) (i : Fin 81) :
    (cred (tallyAt (kcell (c, i)) () (owedAll (c, i))) : sProp 𝕄) ⊢ launchCr c i := by
  unfold launchCr
  rcases hr : roleOf (csem i) with _ | k | k | k | s | s | _ | _ <;> dsimp only
  · obtain rfl := role_bar_only i hr
    rw [owed_bar]
  · iintro -; iempintro
  · obtain rfl := role_recv_only i k hr
    rw [owed_recv]
  · iintro -; iempintro
  · obtain rfl := role_arecv_only i s hr
    by_cases h : s = c
    · rw [if_pos h]; iintro -; iempintro
    · rw [if_neg h, owed_arecv c s h]
  · iintro -; iempintro
  · iintro -; iempintro
  · iintro -; iempintro

theorem creds (c : Dev nD) : (Pipeline.launchCred O₀ c : sProp 𝕄) ⊢ bigSep Finset.univ fun i : Fin 81 => launchCr c i := by
  unfold Pipeline.launchCred
  rw [bs_union (u := Finset.univ) (s := Finset.univ.image csem) (t := Finset.univ.filter fun sm : SemLoc sig => sm ∉ Finset.univ.image csem)
    (fun sm => ⟨fun _ => (em (sm ∈ Finset.univ.image csem)).imp id fun h => Finset.mem_filter.mpr ⟨Finset.mem_univ _, h⟩, fun _ => Finset.mem_univ _⟩)
    (fun sm h h' => (Finset.mem_filter.mp h').2 h), BI.bigSep_image_of_injOn (csem_inj.injOn)]
  have h : (bigSep Finset.univ fun i : Fin 81 => (cred (tallyOn (kcell (c, i)) (launchCredit (Pipeline.owing O₀) 0 (kcell (c, i)))) : sProp 𝕄))
      ⊢ bigSep Finset.univ fun i : Fin 81 => launchCr c i :=
    bigSep_mono fun i _ => by rw [launch_at]; exact cred_cell c i
  iintro ⟨H, -⟩
  iapply h; iexact H

end Cert.RingProof

end
-- ==== Proof.Run.lean ====
/-
# The run

The kernel launched on the eight devices: every run ends, with each device's result in place, its arguments unchanged and
all semaphores at zero.
-/
module

public import Idealize.ShloMosaic.Lib.Pipeline.Launch
public import Idealize.ShloMosaic.Lib.Pipeline.Kit
public import Idealize.ShloMosaic.Lib.Pipeline.CollectiveSegs
public import Idealize.ShloMosaic.Lib.Quiescent
public import proofs.«01_k».proof.Proof.Gen.KernelIdeal.Launch
public import proofs.«01_k».proof.Proof.Gen.KernelIdeal.Points
public import proofs.«01_k».proof.Proof.Tokens
public import proofs.«01_k».proof.Proof.Body

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The launch's data -/

def s₀ : MemSt nD τ sig (Elt F) := ⟨m, fun _ => 0, ρ⟩

/-- What a device starts from, but for the scratch buffers and what it owes. -/
def start (c : Dev nD) : sProp 𝕄 :=
  iprop(G' m c ∗ levAts L lv ∗ (bigSep Finset.univ fun i : Fin 81 => launchCr c i) ∗ argsHeld m c)
def Φ₀ (c : Dev nD) : sProp 𝕄 := iprop(start m c ∗ restAny c)
def Φ₁ (c : Dev nD) : sProp 𝕄 :=
  iprop((bigSep Finset.univ fun i : Fin 81 => semVal (kcell (c, i)) 0) ∗ argsHeld m c ∗ restAny c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
theorem owns_whole_eq (c : Dev nD) (b : Ref sig .tc) (X : b.ty.Contents (Elt F)) :
    (owns (c : Thread nD τ) (Memref.whole b) fullShare X : sProp 𝕄) = stg c b X := by
  unfold owns
  simp only [Memref.view_whole, View.read_whole, View.set_whole]

/-! ## The body -/

theorem start_in (c : Dev nD) (W : Waits sig Unit) :
    iprop(Φ₀ m c ∗ owes (c : Thread nD τ) (O₀ c) W ∗ ∃ f : Buf (Elt F) ((c : Thread nD τ).loc cc0_stg0_0), ((c : Thread nD τ).loc cc0_stg0_0) ↦{fullShare} f) ⊢ bodyIn m c := by
  unfold Φ₀ start G' ptoks bodyIn St
  have e1 : (Finset.univ.filter fun i : Fin 76 => i.val < 0) = ∅ := Finset.filter_false_of_mem fun i _ => Nat.not_lt_zero _
  have e2 : (Finset.univ.filter fun i : Fin 76 => 0 ≤ i.val) = Finset.univ := Finset.filter_true_of_mem fun i _ => Nat.zero_le _
  have e3 : paysFrom 0 = Finset.univ := Finset.filter_true_of_mem fun j _ => Nat.zero_le _
  have e4 : iprop((bigSep Finset.univ fun i : Fin 81 => (atPos ER (kcell (c, i)) 0 ∅ 0 : sProp 𝕄)) ∗ bigSep Finset.univ fun i : Fin 81 => launchCr c i)
      = iprop((bigSep Finset.univ fun i : Fin 76 => todo c (waitIx c i)) ∗ bigSep Finset.univ fun i : Fin 5 => todo c (idleIx c i)) := by
    rw [← all_cells c fun i => todo c i, ← bigSep_sep']; rfl
  have e5 : (bigSep Finset.univ fun i : Fin 76 => (todo c (waitIx c i) : sProp 𝕄)) ⊢ cellsAt c 0 := by
    unfold cellsAt
    rw [e1, e2, BI.bigSep_empty]
    iintro H
    isplitr; · iempintro
    iexact H
  iintro ⟨⟨⟨⟨%K, #Hrec, Hat, Htok, Hcp⟩, #Hlev, Hcr, Hargs⟩, Hrest⟩, Ho, Hout⟩
  ihave Hc := (Entails.of_eq e4) $$ [Hat Hcr]
  · isplitl [Hat] <;> iassumption
  icases Hc with ⟨Hw, Hi⟩
  isplitl [Ho Htok Hw]
  · iexists K; iexists W
    isplitr; · iexact Hrec
    isplitr; · iexact Hlev
    isplitl [Ho]; · iexact Ho
    isplitl [Htok]; · iapply (Entails.of_eq (congrArg (fun s => bigSep s fun j : Fin 38 => (payTok c j : sProp 𝕄)) e3.symm)); iexact Htok
    iapply e5; iexact Hw
  isplitl [Hi]; · iexact Hi
  isplitl [Hcp]; · iexact Hcp
  isplitl [Hargs]; · iexact Hargs
  isplitl [Hrest]; · iexact Hrest
  iexact Hout

def bodyPre (c : Dev nD) : sProp 𝕄 :=
  iprop(Φ₀ m c ∗ (dats m ρ 0 c).owesAt () t₀.castSucc ∗ (∃ d, stg c cc0_stg0_0 ((dats m ρ 0 c).before (0 : Fin 1) t₀ d)))
def bodyPost (c : Dev nD) : sProp 𝕄 :=
  iprop(Φ₁ m c ∗ (dats m ρ 0 c).owesAt () t₀.succ ∗ stg c cc0_stg0_0 (outAt m c))

theorem sound_body (c : Dev nD) : bodyPre m ρ c ⊢ wpc c (onArgs (cc0_body (F := F))) fun _ => bodyPost m ρ c := by
  unfold bodyPre Dat.owesAt Pipeline.owesWithin
  rw [show (dats m ρ 0 c).owed t₀.castSucc = O₀ c from rfl]
  iintro ⟨HΦ, ⟨%W, %hW, HO⟩, ⟨%d, %f, %hf, Hout⟩⟩
  iapply (body m c fun _ => bodyPost m ρ c)
  isplitl [HΦ HO Hout]
  · iapply (start_in m c W)
    isplitl [HΦ]; · iexact HΦ
    isplitl [HO]; · iexact HO
    iexists f; iexact Hout
  · unfold bodyOut bodyPost Φ₁ Dat.owesAt Pipeline.owesWithin
    rw [show (dats m ρ 0 c).owed t₀.succ = 0 from rfl]
    iintro ⟨⟨%W', HO⟩, Hz, Ha, Hr, Hout⟩
    isplitl [Hz Ha Hr]
    · isplitl [Hz]; · iexact Hz
      isplitl [Ha] <;> iassumption
    isplitl [HO]
    · iexists W'
      isplitr; · ipureintro; exact fun _ _ => Or.inl trivial
      iexact HO
    iexists (outAt m c)
    isplitr; · ipureintro; rfl
    iexact Hout

set_option maxRecDepth 40000 in
theorem body_obligation (c : Dev nD) : BodyObligation (dats (F := F) m ρ 0 c) (defs₀ (F := F)) 𝒱₀ () Set.univ := fun t => by
  rw [fin_N t]
  rw [bigSep_W0, bigSep_W0]
  simp only [owns_whole_eq]
  exact sound_body m ρ c

theorem share_eq (c : Dev nD) (w : Fin cfg0.W) : (dats m ρ 0 c).share w = fullShare := by unfold Dat.share; split <;> rfl

/-! ## Side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hargs, Hlev, Hcr, -, HG⟩
  ihave Hc := (creds (F := F) c) $$ Hcr
  imodintro
  unfold start argsHeld
  isplitl
  · isplitl [HG]; · iexact HG
    isplitl [Hlev]; · iexact Hlev
    isplitl [Hc]; · iexact Hc
    iexact Hargs
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ restAny
  iintro ⟨Hs, -, Hr⟩
  isplitl [Hs]; · iexact Hs
  iexact Hr

theorem phi1_exit (c : Dev nD) :
    (dats m ρ 0 c).Φ (Fin.last cfg0.N) ⊢ iprop((unscopedSems0 c ∗ argsHeld m c) ∗ Pipeline.ownSems0 osem c ∗ Pipeline.scopedRest cfg0.spec c) := by
  rw [show (dats m ρ 0 c).Φ (Fin.last cfg0.N) = Φ₁ m c from rfl, scopedRest0_eq]
  unfold Φ₁ restAny
  rw [sems_eq]
  iintro ⟨⟨Hu, Ho⟩, Ha, Hr⟩
  isplitl [Hu Ha]
  · isplitl [Hu] <;> iassumption
  isplitl [Ho]; · iexact Ho
  iexact Hr

theorem pay_pos : ∀ j : Fin 38, 0 < payLev j := by decide +kernel

theorem may_none (c : Dev nD) (s : SemLoc sig) : (levAts L lv : sProp 𝕄) ⊢ MayWait (c : Thread nD τ) s () 0 := by
  rw [MayWait_zero]
  iintro -
  iempintro

theorem waits (c : Dev nD) : (levAts L lv : sProp 𝕄) ⊢ Pipeline.cellsWaits cfgs (dats m ρ) () 0 c :=
  Pipeline.cellsWaits_intro cfgs (dats m ρ) () 0 c fun w s t => by
    obtain rfl : w = (0 : Fin 1) := Fin.ext (Nat.lt_one_iff.mp w.isLt)
    obtain rfl : s = (0 : Fin 1) := Fin.ext (Nat.lt_one_iff.mp s.isLt)
    rcases t with ⟨_ | _, ht⟩
    · exact mayWait_of c _ 0 fun j _ => pay_pos j
    · exact may_none c _

/-- What is read at the end of a run besides the result. -/
abbrev QY (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1))
    ∧ ∀ sm : SemLoc sig, sm.isScoped .tc = false → s.sem ((c.tc : Thread nD τ), sm) = 0

theorem read_end (c : Dev nD) (s' : Phys nD τ sig (Elt F)) :
    iprop((unscopedSems0 c ∗ argsHeld m c) ∗ emp ∗ SI s') ⊢ (|={Set.univ}=> iprop(⌜QY m c s'.mem⌝ ∗ SI s') : sProp 𝕄) := by
  unfold argsHeld
  iintro ⟨⟨Hu, Hx, Hw⟩, -, HSI⟩
  ihave %hx := (SI_pointsTo_agree (st := s') (ℓ := (c : Thread nD τ).loc main_arg0) (I := Finset.univ) (q := fullShare) (f := xArg m c)) $$ [HSI Hx]
  · isplitl [HSI] <;> iassumption
  ihave %hw := (SI_pointsTo_agree (st := s') (ℓ := (c : Thread nD τ).loc main_arg1) (I := Finset.univ) (q := fullShare) (f := wArg m c)) $$ [HSI Hw]
  · isplitl [HSI] <;> iassumption
  imod (Pipeline.unscopedSems0_read (X := unscopedSems0 c) (c := c) fupd_intro s') $$ [Hu HSI] with ⟨%hz, HSI⟩
  · isplitl [Hu] <;> iassumption
  imodintro
  isplitr
  · ipureintro
    exact ⟨⟨funext fun i => hx i (Finset.mem_univ i), funext fun i => hw i (Finset.mem_univ i)⟩, hz⟩
  iexact HSI

/-! ## The run -/

/-- The result array at the end is what the body left in the staging buffer. -/
theorem final_out (c : Dev nD) : (dats m ρ 0 c).arrAt (0 : Fin 1) cfg0.N = (outAt m c : (main_v1 : Ref sig .tc).ty.Contents (Elt F)) := by
  have h : (win0_0.blk (0 : Fin 1)).view.read (Elt F) ((dats m ρ 0 c).arrAt (0 : Fin 1) cfg0.N) = outAt m c := by
    rw [show cfg0.N = ((0 : Fin 1) : Fin cfg0.N).val + 1 from rfl, (dats m ρ 0 c).arrAt_succ (0 : Fin 1) (0 : Fin 1)]
    rw [show (cfg0.win (0 : Fin 1)).flush (0 : Fin 1) = true from by decide, if_pos rfl]
    exact View.read_write_univ _ _
  have hz : (fun a => (win0_0.index (0 : Fin 1)) a * main_v1.ty.shape.size a) = fun _ => 0 := by decide
  exact (Memref.read_access_unit_zero (Elt F) main_v1 hz (fun a => le_of_eq (by rw [congrFun hz a]; exact Nat.zero_add _)) _).symm.trans h

set_option maxRecDepth 40000 in
/-- Every weakly fair run of the kernel on the eight devices ends, with the result of each device at `outAt`, the
    arguments unchanged and every semaphore counter at zero. -/
theorem run_main : θ_run defs (onTc (τ := τ) (main (F := F))) (s₀ m ρ) (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ argsHeld m c)) (Z := fun _ => iprop(emp))
    (hX := start_intro m ρ) (hin := phi0_intro m ρ) (hout := phi1_exit m ρ)
    (QY := QY m)
    (hY := read_end m)
    (hQ := fun _ h hs => ⟨fun c => ⟨((h c).1 (0 : Fin 1)).trans (final_out m ρ c), (h c).2.2.1.1, (h c).2.2.1.2⟩,
      sem_eq_zero hs fun c => (h c).2.2.2⟩)

end Cert.RingProof

end
-- ==== Proof.Maxima.lean ====
/-
# Largest entries over the extended reals

The kernel takes its largest product piece by piece and combines the pieces in four steps; the reference takes it at once.
Each of these maxima is told by its upper bounds: a bound of the maximum is a bound of every entry.
-/
module

public import proofs.«01_k».proof.Proof.Protocol
public import Idealize.ShloMosaic.Lib.Pointwise.Reshape
public import Idealize.ShloMosaic.PureOps.Ideal
public import Idealize.ShloMosaic.PureOps.Ideal.Laws
public import Idealize.ShloMosaic.PureOps.Reduce

@[expose] public section

noncomputable section

namespace Cert.RingProof

open Cert.KernelIdeal Cert.KernelIdeal.Gen
open Idealize.ShloMosaic
open Idealize.ShloMosaic.TcCoe

/-- The word that a maximum starts from is the least extended real. -/
theorem start_bot : (FloatOps.ofBits .f32 0xFF800000#32 : Ideal .f32) = (⊥ : EReal) := by
  show Ideal.ofBits .f32 0xFF800000#32 = ⊥
  simp [Ideal.ofBits, Ideal.ieee]

/-- The bounds of a fold of maxima from the least value. -/
theorem fold_le {ι : Type} (S : Finset ι) (f : ι → EReal) (z b : EReal) (hz : z = ⊥) :
    S.fold (FloatOps.maximumf (F := Ideal) (φ := .f32)) z f ≤ b ↔ ∀ i ∈ S, f i ≤ b := by
  have h : S.fold (FloatOps.maximumf (F := Ideal) (φ := .f32)) z f ≤ b ↔ z ≤ b ∧ ∀ i ∈ S, f i ≤ b :=
    Finset.fold_max_le (s := S) (b := z) (f := f) b
  rw [h, hz]
  exact ⟨fun h => h.2, fun h => ⟨bot_le, h⟩⟩

/-- The bounds of a kernel's maximum over all of a vector. -/
theorem reduction_le {s t : Shape} {axes : List (Fin s.rank)} [Subsingleton t.Idx] (src : FVec Ideal s .f32)
    (h : s.Reduces axes t) (hφ : FKind.Formats .f32) (hacc : 0xFF800000#32 = FKind.maximumf.neutral .f32 hφ) (j : t.Idx)
    (b : EReal) :
    (multiReduction .maximumf axes t src 0xFF800000#32 h hφ hacc j : EReal) ≤ b ↔ ∀ i, (src i : EReal) ≤ b := by
  rw [multiReduction_maximumf_eq_fold, fold_le _ _ _ _ start_bot]
  exact ⟨fun H i => H i (Finset.mem_filter.2 ⟨Finset.mem_univ _, Subsingleton.elim _ _⟩), fun H i _ => H i⟩

/-- The same entries under another shape have the same bounds. -/
theorem shapeCast_le {s t : Shape} (x : s.Idx → EReal) (h : s.ShapeCasts t) (b : EReal) :
    (∀ j, shapeCast t x h j ≤ b) ↔ ∀ i, x i ≤ b := by
  refine ⟨fun H i => ?_, fun H j => H _⟩
  have := H ((Shape.reshapeEquiv h).symm i)
  unfold shapeCast at this
  rwa [Equiv.apply_symm_apply] at this

instance : Subsingleton S1.Idx := ⟨fun i j => by
  funext a; apply Fin.ext
  match a with
  | ⟨0, _⟩ => have h1 : (i 0).val < 1 := (i 0).isLt; have h2 : (j 0).val < 1 := (j 0).isLt; show (i 0).val = (j 0).val; omega⟩

/-- The largest product of a chunk, -/
theorem chunkMax_le (m : (ℓ : Loc nD τ sig) → Buf (Elt Ideal) ℓ) (c o : Dev nD) (b : EReal) :
    (chunkMax m c o : EReal) ≤ b ↔ ∀ i, (chunkY m c o i : EReal) ≤ b := by
  unfold chunkMax k0_pay8 extractAt
  unfold shapeCast
  exact (reduction_le (t := S1) _ _ _ _ _ b).trans (shapeCast_le (k0_pay7 (chunkX m o) (WF m c)) _ b)

/-- and of a half of one. -/
theorem halfMax_le (m : (ℓ : Loc nD τ sig) → Buf (Elt Ideal) ℓ) (c o : Dev nD) (h : Fin 2) (b : EReal) :
    (halfMax m c o h : EReal) ≤ b ↔ ∀ i, (halfY m c o h i : EReal) ≤ b := by
  unfold halfMax k0_pay10 extractAt
  unfold shapeCast
  exact (reduction_le (t := S1) _ _ _ _ _ b).trans (shapeCast_le (k0_pay9 (halfX m o h) (WF m c)) _ b)

/-- The largest of the fourteen pieces of a device. -/
theorem pieces_le (v0 v1 v2 v3 v4 v5 v6 v7 v8 v9 v10 v11 v12 v13 : Ideal .f32) (i : S1.Idx) (b : EReal) :
    (k0_pay35 (F := Ideal) v0 v1 v2 v3 v4 v5 v6 v7 v8 v9 v10 v11 v12 v13 i : EReal) ≤ b
      ↔ (v0 : EReal) ≤ b ∧ (v1 : EReal) ≤ b ∧ (v2 : EReal) ≤ b ∧ (v3 : EReal) ≤ b ∧ (v4 : EReal) ≤ b ∧ (v5 : EReal) ≤ b ∧ (v6 : EReal) ≤ b ∧ (v7 : EReal) ≤ b ∧ (v8 : EReal) ≤ b ∧ (v9 : EReal) ≤ b ∧ (v10 : EReal) ≤ b ∧ (v11 : EReal) ≤ b ∧ (v12 : EReal) ≤ b ∧ (v13 : EReal) ≤ b := by
  have key : (k0_pay35 (F := Ideal) v0 v1 v2 v3 v4 v5 v6 v7 v8 v9 v10 v11 v12 v13 i : EReal) ≤ b ↔ ∀ n : Fin 14, (![v0, v1, v2, v3, v4, v5, v6, v7, v8, v9, v10, v11, v12, v13] : Fin 14 → EReal) n ≤ b := by
    unfold k0_pay35
    refine (reduction_le (t := S1) _ _ _ _ _ b).trans ((shapeCast_le _ _ b).trans ?_)
    refine ⟨fun H n => ?_, fun H j => ?_⟩
    · have := H (ix1 (n0 := 14) n)
      revert this
      fin_cases n <;> exact id
    · obtain ⟨n, rfl⟩ : ∃ n : Fin 14, j = ix1 (n0 := 14) n := ⟨j 0, by funext a; match a with | ⟨0, _⟩ => rfl⟩
      have := H n
      revert this
      fin_cases n <;> exact id
  rw [key]
  simp only [Fin.forall_fin_succ, Matrix.cons_val_zero, Matrix.cons_val_succ, IsEmpty.forall_iff, and_true]

/-- An amax vector holds its one value throughout. -/
theorem pay37_apply (v : FVec Ideal S1 .f32) (i : S1x128.Idx) (j : S1.Idx) : k0_pay37 v i = v j := by
  unfold k0_pay37
  rw [shapeCast_id]
  have e : k0_pay36 v = v j := by
    unfold k0_pay36 extractAt shapeCast
    exact congrArg v (Subsingleton.elim _ _)
  exact e

/-- Row `c` of the amax buffer is device `c`'s largest product throughout. -/
theorem AF_row (m : (ℓ : Loc nD τ sig) → Buf (Elt Ideal) ℓ) (c : Dev nD) (l : Fin 128) (j : S1.Idx) :
    (AF m (ix2 (n0 := 8) (n1 := 128) c l) : EReal) = (amaxOf m c j : EReal) := by
  have h : (AF m (ix2 (n0 := 8) (n1 := 128) c l) : EReal) = k0_pay37 (amaxOf m c) (ix2 (n0 := 1) (n1 := 128) 0 l) := rfl
  exact h.trans (pay37_apply (amaxOf m c) _ j)

/-- The largest of the entries of the amax buffer. -/
theorem amax_le (m : (ℓ : Loc nD τ sig) → Buf (Elt Ideal) ℓ) (b : EReal) (h h' hφ hacc) (j : S1.Idx) :
    (multiReduction (F := Ideal) (φ := .f32) .maximumf [1, 2] S1 (shapeCast S1x8x128 (AF m : FVec Ideal S8x128 .f32) h) 0xFF800000#32 h' hφ hacc j : EReal) ≤ b
      ↔ ∀ c : Dev nD, (amaxOf m c (ix1 (n0 := 1) 0) : EReal) ≤ b := by
  refine (reduction_le (t := S1) _ _ _ _ _ b).trans ((shapeCast_le (AF m : FVec Ideal S8x128 .f32) _ b).trans ?_)
  refine ⟨fun H c => le_of_eq_of_le (α := EReal) (AF_row m c 0 _).symm (H (ix2 (n0 := 8) (n1 := 128) c 0)), fun H i => ?_⟩
  obtain ⟨c, l, rfl⟩ : ∃ (c : Dev nD) (l : Fin 128), i = ix2 (n0 := 8) (n1 := 128) c l := ⟨_, _, eq_ix2 i⟩
  exact le_of_eq_of_le (α := EReal) (AF_row m c l _) (H c)

end Cert.RingProof

end
-- ==== Proof.Entries.lean ====
/-
# The kernel's products and their maximum over the extended reals

`entry m c o r j` is what device `c` computes for row `r` of device `o`'s block of `x` and column `j` of its own block of `w`.
Whether a chunk is computed whole or by halves, its entries are these; the amax that all devices settle on bounds exactly them.
-/
module

public import proofs.«01_k».proof.Proof.Maxima
public import Idealize.ShloMosaic.Lib.MatmulPlain
public import Idealize.ShloMosaic.Lib.ValueLayout

@[expose] public section

noncomputable section

namespace Cert.RingProof

open Cert.KernelIdeal Cert.KernelIdeal.Gen
open Idealize.ShloMosaic
open Idealize.ShloMosaic.TcCoe

variable (m : (ℓ : Loc nD τ sig) → Buf (Elt Ideal) ℓ)

/-- The entries of the blocks of `x` and of `w`. -/
def xE (o : Dev nD) (r : Fin 512) (k : Fin 4096) : EReal := xArg m o (ix2 (n0 := 512) (n1 := 4096) r k)
def wE (c : Dev nD) (k : Fin 4096) (j : Fin 256) : EReal := wArg m c (ix2 (n0 := 4096) (n1 := 256) k j)

/-- One entry of `relu (x w)`. -/
def entry (c o : Dev nD) (r : Fin 512) (j : Fin 256) : EReal := max (∑ k : Fin 4096, xE m o r k * wE m c k j) 0

/-- Row `r` of half `h` of a chunk. -/
abbrev halfRow (h : Fin 2) (r : Fin 256) : Fin 512 := ⟨256 * h.val + r.val, by have h1 := r.isLt; have h2 := h.isLt; omega⟩

/-- The word of zero. -/
theorem zero_word : (FloatOps.ofBits .f32 0x00000000#32 : Ideal .f32) = (0 : EReal) := by
  show Ideal.ofBits .f32 0 = 0
  simp

/-- The cast block of `w` holds the block's entries. -/
theorem WF_apply (c : Dev nD) (k : Fin 4096) (j : Fin 256) :
    (WF m c (ix2 (n0 := 4096) (n1 := 256) k j) : EReal) = wE m c k j := by
  unfold WF k0_pay6
  rw [shapeCast_id]
  rfl

/-- An entry of `relu` of a product of two matrices. -/
theorem relu_apply {M : ℕ} (A : FVec Ideal ⟨2, ![M, 4096]⟩ .bf16) (B : FVec Ideal ⟨2, ![4096, 256]⟩ .bf16) (r : Fin M) (j : Fin 256) :
    (maximumf (matmul (DotDims.plain M 4096 256) none A B (constant ⟨2, ![M, 256]⟩ .f32 0x00000000#32))
        (broadcast ⟨2, ![M, 256]⟩ (Scalar.ofBits .f32 0x00000000#32)) (ix2 (n0 := M) (n1 := 256) r j) : EReal)
      = max (∑ k : Fin 4096, (A (ix2 (n0 := M) (n1 := 4096) r k) : EReal) * (B (ix2 (n0 := 4096) (n1 := 256) k j) : EReal)) 0 := by
  refine (congrArg₂ (max : EReal → EReal → EReal) (Ideal.matmul_plain_apply none A B _ r j) zero_word).trans ?_
  refine congrArg (fun a : EReal => max a 0) ?_
  exact (congrArg (fun a : EReal => a + _) zero_word).trans (zero_add _)

/-- The entries of a chunk computed whole, -/
theorem chunkY_apply (c o : Dev nD) (r : Fin 512) (j : Fin 256) :
    (chunkY m c o (ix2 (n0 := 512) (n1 := 256) r j) : EReal) = entry m c o r j := by
  refine (relu_apply (shapeCast S512x4096 (chunkX m o) shapeCasts_S1x512x4096_S512x4096) (WF m c) r j).trans ?_
  refine congrArg (fun a : EReal => max a 0) (Finset.sum_congr rfl fun k _ => ?_)
  exact congrArg₂ (fun a b : EReal => a * b) (ValueIdx.shapeCast_1ab_ab_apply (chunkX m o) _ r k) (WF_apply m c k j)

/-- and of a half of one. -/
theorem halfY_apply (c o : Dev nD) (h : Fin 2) (r : Fin 256) (j : Fin 256) :
    (halfY m c o h (ix2 (n0 := 256) (n1 := 256) r j) : EReal) = entry m c o (halfRow h r) j := by
  refine (relu_apply (shapeCast S256x4096 (halfX m o h) shapeCasts_S1x256x4096_S256x4096) (WF m c) r j).trans ?_
  refine congrArg (fun a : EReal => max a 0) (Finset.sum_congr rfl fun k _ => ?_)
  exact congrArg₂ (fun a b : EReal => a * b) (ValueIdx.shapeCast_1ab_ab_apply (halfX m o h) _ r k) (WF_apply m c k j)

/-- The entries of all of a device's products. -/
theorem YF_apply (c : Dev nD) (r : Fin 4096) (j : Fin 256) :
    (YF m c (ix2 (n0 := 4096) (n1 := 256) r j) : EReal) = entry m c (rowChunk r) (rowIn r) j := by
  unfold YF
  by_cases h : rowChunk r = c ∨ rowChunk r = zed c
  · exact (if_pos h).trans (chunkY_apply m c _ _ _)
  · refine (if_neg h).trans ((halfY_apply m c _ _ _ _).trans (congrArg (fun a => entry m c (rowChunk r) a j) (Fin.ext ?_)))
    show 256 * (r.val % 512 / 256) + r.val % 256 = r.val % 512
    omega

/-! ## The amax -/

/-- The bounds of a chunk's maximum, -/
theorem chunkMax_entry (c o : Dev nD) (b : EReal) : (chunkMax m c o : EReal) ≤ b ↔ ∀ r j, entry m c o r j ≤ b := by
  rw [chunkMax_le]
  refine ⟨fun H r j => ?_, fun H i => ?_⟩
  · rw [← chunkY_apply]; exact H _
  · obtain ⟨r, j, rfl⟩ : ∃ (r : Fin 512) (j : Fin 256), i = ix2 (n0 := 512) (n1 := 256) r j := ⟨_, _, eq_ix2 i⟩
    rw [chunkY_apply]; exact H _ _

/-- of a half's, -/
theorem halfMax_entry (c o : Dev nD) (h : Fin 2) (b : EReal) :
    (halfMax m c o h : EReal) ≤ b ↔ ∀ (r : Fin 256) (j : Fin 256), entry m c o (halfRow h r) j ≤ b := by
  rw [halfMax_le]
  refine ⟨fun H r j => ?_, fun H i => ?_⟩
  · rw [← halfY_apply]; exact H _
  · obtain ⟨r, j, rfl⟩ : ∃ (r : Fin 256) (j : Fin 256), i = ix2 (n0 := 256) (n1 := 256) r j := ⟨_, _, eq_ix2 i⟩
    rw [halfY_apply]; exact H _ _

/-- and of both halves'. -/
theorem halves_entry (c o : Dev nD) (b : EReal) :
    ((halfMax m c o 0 : EReal) ≤ b ∧ (halfMax m c o 1 : EReal) ≤ b) ↔ ∀ r j, entry m c o r j ≤ b := by
  rw [halfMax_entry, halfMax_entry]
  refine ⟨fun H r j => ?_, fun H => ⟨fun r j => H _ _, fun r j => H _ _⟩⟩
  by_cases hr : r.val < 256
  · have := H.1 ⟨r.val, hr⟩ j
    rwa [show halfRow 0 ⟨r.val, hr⟩ = r from Fin.ext (by show 256 * 0 + r.val = r.val; omega)] at this
  · have := H.2 ⟨r.val - 256, by have := r.isLt; omega⟩ j
    rwa [show halfRow 1 ⟨r.val - 256, by have := r.isLt; omega⟩ = r from Fin.ext (by show 256 * 1 + (r.val - 256) = r.val; omega)] at this

/-- The eight devices, as a device reaches them. -/
theorem reach : ∀ c o : Dev nD, o = c ∨ o = zed c ∨ o = lam c ∨ o = rho c ∨ o = lam (lam c) ∨ o = zed (lam c) ∨ o = zed (rho c)
    ∨ o = zed (lam (lam c)) := by decide
theorem opposite : ∀ c : Dev nD, rho (rho c) = lam (lam c) := by decide

/-- The bounds of a device's amax are those of all its products. -/
theorem amaxOf_entry (c : Dev nD) (i : S1.Idx) (b : EReal) :
    (amaxOf m c i : EReal) ≤ b ↔ ∀ o r j, entry m c o r j ≤ b := by
  unfold amaxOf
  rw [pieces_le]
  refine ⟨fun ⟨p0, p1, p2, p3, p4, p5, p6, p7, p8, p9, p10, p11, p12, p13⟩ => ?_, fun H => ?_⟩
  · have h0 := (chunkMax_entry m c c b).1 (p0)
    have h1 := (chunkMax_entry m c _ b).1 (p3)
    have h2 := (halves_entry m c (lam c) b).1 ⟨p1, p9⟩
    have h3 := (halves_entry m c (rho c) b).1 ⟨p8, p2⟩
    have h4 := (halves_entry m c (lam (lam c)) b).1 ⟨p4, opposite c ▸ p5⟩
    have h5 := (halves_entry m c (zed (lam c)) b).1 ⟨p6, p11⟩
    have h6 := (halves_entry m c (zed (rho c)) b).1 ⟨p10, p7⟩
    have h7 := (halves_entry m c (zed (lam (lam c))) b).1 ⟨p12, opposite c ▸ p13⟩
    intro o
    rcases reach c o with e | e | e | e | e | e | e | e <;> rw [e] <;> assumption
  · have hc : ∀ o, (chunkMax m c o : EReal) ≤ b := fun o => (chunkMax_entry m c o b).2 (H o)
    have hh : ∀ o (h : Fin 2), (halfMax m c o h : EReal) ≤ b := fun o h => by
      have := (halves_entry m c o b).2 (H o)
      fin_cases h; exacts [this.1, this.2]
    exact ⟨hc _, hh _ _, hh _ _, hc _, hh _ _, hh _ _, hh _ _, hh _ _, hh _ _, hh _ _, hh _ _, hh _ _, hh _ _, hh _ _⟩

end Cert.RingProof

end
-- ==== Proof.Value.lean ====
/-
# The kernel's result against the reference's

The reference computes on the whole arrays what the kernel computes by blocks: its product's entry in row `512 o + r` and column
`256 c + j` is `entry m c o r j`. Its largest magnitude and the devices' amax have the same upper bounds, so they are equal, and
from there on both compute the same function of the amax and an entry.
-/
module

public import proofs.«01_k».proof.Proof.Entries
public import proofs.«01_k».proof.Proof.Body
public import proofs.«01_k».proof.Proof.Gen.ReferenceIdeal
public import proofs.«01_k».proof.Proof.Gen.ReferenceIdeal.Run
public import Idealize.ShloMosaic.Lib.StackMember
public import Idealize.ShloMosaic.Lib.Layout

@[expose] public section

noncomputable section

namespace Cert.RingProof

open Cert.KernelIdeal Cert.KernelIdeal.Gen
open Idealize.ShloMosaic
open Idealize.ShloMosaic.TcCoe

/-! ## The quantization of one entry -/

/-- An entry `y`, rounded to one of 255 levels of the scale `a / 127` and scaled back. -/
def quant (a y : Ideal .f32) : Ideal .f32 :=
  FloatOps.mulf (FloatOps.minimumf (FloatOps.ofBits .f32 0x42FE0000#32)
    (FloatOps.maximumf (FloatOps.ofBits .f32 0xC2FE0000#32)
      (FloatOps.roundeven (FloatOps.divf y (FloatOps.divf a (FloatOps.ofBits .f32 0x42FE0000#32))))))
    (FloatOps.divf a (FloatOps.ofBits .f32 0x42FE0000#32))

/-- The largest entry of an amax buffer. -/
def bufMax (A : FVec Ideal S8x128 .f32) : Ideal .f32 :=
  multiReduction (F := Ideal) (φ := .f32) .maximumf [1, 2] S1 (shapeCast S1x8x128 A shapeCasts_S8x128_S1x8x128) 0xFF800000#32
    reduces_S1x8x128_S1 (.inl rfl) rfl (ix1 (n0 := 1) 0)

/-- What the kernel stores, entry by entry. -/
theorem pay1_apply (A : FVec Ideal S8x128 .f32) (Y : FVec Ideal S4096x256 .f32) (i : S4096x256.Idx) :
    k0_pay1 A Y i = quant (bufMax A) (Y i) := by
  unfold k0_pay1
  rw [shapeCast_id]
  unfold extractAt
  rw [show (shapeCast S1x1x1 (multiReduction (F := Ideal) (φ := .f32) .maximumf [1, 2] S1 (shapeCast S1x8x128 A shapeCasts_S8x128_S1x8x128) 0xFF800000#32
    reduces_S1x8x128_S1 (.inl rfl) rfl) shapeCasts_S1_S1x1x1 fun a => ⟨![0, 0, 0] a, inpos_S1x1x1_p0_0_0 a⟩) = bufMax A from by
      unfold shapeCast bufMax
      exact congrArg _ (Subsingleton.elim _ _)]
  rfl

/-! ## The reference -/

namespace Ref

open Cert.ReferenceIdeal Cert.ReferenceIdeal.Gen

variable (X : FVec Ideal Cert.ReferenceIdeal.S4096x4096 .f32) (W : FVec Ideal Cert.ReferenceIdeal.S4096x2048 .f32)

/-- The reference's product, `relu (x w)`, -/
def prod : FVec Ideal Cert.ReferenceIdeal.S4096x2048 .f32 :=
  maximumf (Host.dotGeneral Cert.ReferenceIdeal.dot_S4096x4096_S4096x2048_S4096x2048_1_0_0_1_n_n none X W)
    (broadcastInDim Cert.ReferenceIdeal.S4096x2048 ![] Cert.ReferenceIdeal.Gen.bcast_S_S4096x2048 (constant Cert.ReferenceIdeal.S_ .f32 0x00000000#32))

/-- its largest magnitude, -/
def amax : FVec Ideal Cert.ReferenceIdeal.S_ .f32 :=
  Host.reduce FloatOps.maximumf (Host.absf (prod X W)) (constant Cert.ReferenceIdeal.S_ .f32 0xFF800000#32)
    Cert.ReferenceIdeal.Gen.reducesTo_S4096x2048_S_d0_1 Cert.ReferenceIdeal.Gen.h_S_

/-- its scale, -/
def scale : FVec Ideal Cert.ReferenceIdeal.S4096x2048 .f32 :=
  broadcastInDim Cert.ReferenceIdeal.S4096x2048 ![] Cert.ReferenceIdeal.Gen.bcast_S_S4096x2048
    (Host.divf (amax X W) (constant Cert.ReferenceIdeal.S_ .f32 0x42FE0000#32))

/-- and its result. -/
def out : FVec Ideal Cert.ReferenceIdeal.S4096x2048 .f32 :=
  mulf (minimumf (broadcastInDim Cert.ReferenceIdeal.S4096x2048 ![] Cert.ReferenceIdeal.Gen.bcast_S_S4096x2048 (id (constant Cert.ReferenceIdeal.S_ .f32 0x42FE0000#32)))
    (maximumf (broadcastInDim Cert.ReferenceIdeal.S4096x2048 ![] Cert.ReferenceIdeal.Gen.bcast_S_S4096x2048 (id (constant Cert.ReferenceIdeal.S_ .f32 0xC2FE0000#32)))
      (Host.roundeven (Host.divf (prod X W) (scale X W))))) (scale X W)

instance : Subsingleton Cert.ReferenceIdeal.S_.Idx := ⟨fun i j => by funext a; exact a.elim0⟩

/-- The reference's result, entry by entry. -/
theorem out_apply (i : Cert.ReferenceIdeal.S4096x2048.Idx) (z : Cert.ReferenceIdeal.S_.Idx) :
    out X W i = quant (amax X W z) (prod X W i) := by
  have hs : scale X W i = FloatOps.divf (amax X W z) (FloatOps.ofBits .f32 0x42FE0000#32) := by
    unfold scale broadcastInDim
    rw [Subsingleton.elim (fun a : Fin Cert.ReferenceIdeal.S_.rank => _) z]
    rfl
  unfold quant
  rw [← hs]
  rfl

/-- An entry of the reference's product. -/
theorem prod_apply (r : Fin 4096) (j : Fin 2048) :
    (prod X W (ix2 (n0 := 4096) (n1 := 2048) r j) : EReal)
      = max (∑ k : Fin 4096, (X (ix2 (n0 := 4096) (n1 := 4096) r k) : EReal) * (W (ix2 (n0 := 4096) (n1 := 2048) k j) : EReal)) 0 :=
  congrArg₂ (max : EReal → EReal → EReal) (StackMember.dotGeneral_plain_apply none X W r j) zero_word

/-- The bounds of the largest magnitude: no entry is negative, so they are the entries' own. -/
theorem amax_le (z : Cert.ReferenceIdeal.S_.Idx) (b : EReal) :
    (amax X W z : EReal) ≤ b ↔ ∀ r j, (prod X W (ix2 (n0 := 4096) (n1 := 2048) r j) : EReal) ≤ b := by
  have habs : ∀ r j, (Host.absf (prod X W) (ix2 (n0 := 4096) (n1 := 2048) r j) : EReal) = prod X W (ix2 (n0 := 4096) (n1 := 2048) r j) := by
    intro r j
    show max (prod X W (ix2 (n0 := 4096) (n1 := 2048) r j) : EReal) (-(prod X W (ix2 (n0 := 4096) (n1 := 2048) r j) : EReal)) = _
    have h0 : (0 : EReal) ≤ prod X W (ix2 (n0 := 4096) (n1 := 2048) r j) := by rw [prod_apply]; exact le_max_right _ _
    exact max_eq_left ((EReal.neg_le.2 (by simpa using h0) : -(prod X W (ix2 (n0 := 4096) (n1 := 2048) r j) : EReal) ≤ 0).trans h0)
  unfold amax
  rw [Host.reduce_eq_fold]
  refine (fold_le _ _ _ b start_bot).trans ⟨fun H r j => ?_, fun H i _ => ?_⟩
  · exact le_of_eq_of_le (α := EReal) (habs r j).symm (H _ (Finset.mem_filter.2 ⟨Finset.mem_univ _, Subsingleton.elim _ _⟩))
  · obtain ⟨r, j, rfl⟩ : ∃ (r : Fin 4096) (j : Fin 2048), i = ix2 (n0 := 4096) (n1 := 2048) r j := ⟨_, _, eq_ix2 i⟩
    exact le_of_eq_of_le (α := EReal) (habs r j) (H r j)

end Ref

/-! ## The two together -/

/-- Row `r` of device `o`'s block of rows, column `j` of device `c`'s block of columns. -/
abbrev rowAt (o : Dev nD) (r : Fin 512) : Fin 4096 := ⟨512 * o.val + r.val, by have h1 := r.isLt; have h2 : o.val < 8 := o.isLt; omega⟩
abbrev colAt (c : Dev nD) (j : Fin 256) : Fin 2048 := ⟨256 * c.val + j.val, by have h1 := j.isLt; have h2 : c.val < 8 := c.isLt; omega⟩

theorem rowAt_chunk (r : Fin 4096) : rowAt (rowChunk r) (rowIn r) = r := Fin.ext (by
  show 512 * (r.val / 512) + r.val % 512 = r.val
  omega)
theorem colAt_surj (j : Fin 2048) : ∃ (c : Dev nD) (k : Fin 256), colAt c k = j :=
  ⟨⟨j.val / 256, by have := j.isLt; show j.val / 256 < 8; omega⟩, ⟨j.val % 256, by omega⟩, Fin.ext (by
    show 256 * (j.val / 256) + j.val % 256 = j.val
    omega)⟩

/-- The blocks of `x`, and those of `w` and of the result. -/
theorem tilesX : Layout.Tiles ⟨2, ![512, 4096]⟩ ⟨2, ![4096, 4096]⟩ 0 8 := by decide
theorem tilesW : Layout.Tiles ⟨2, ![4096, 256]⟩ ⟨2, ![4096, 2048]⟩ 1 8 := by decide

section Match

variable (m : (ℓ : Loc nD τ sig) → Buf (Elt Ideal) ℓ)
variable (X : FVec Ideal Cert.ReferenceIdeal.S4096x4096 .f32) (W : FVec Ideal Cert.ReferenceIdeal.S4096x2048 .f32)
variable (hX : ∀ c : Dev nD, (xArg m c : S512x4096.Idx → EReal) = Layout.block ⟨2, ![512, 4096]⟩ ⟨2, ![4096, 4096]⟩ 0 8 c X tilesX)
variable (hW : ∀ c : Dev nD, (wArg m c : S4096x256.Idx → EReal) = Layout.block ⟨2, ![4096, 256]⟩ ⟨2, ![4096, 2048]⟩ 1 8 c W tilesW)
include hX hW

/-- The kernel's entries are the reference's. -/
theorem entry_eq (c o : Dev nD) (r : Fin 512) (j : Fin 256) :
    entry m c o r j = Ref.prod X W (ix2 (n0 := 4096) (n1 := 2048) (rowAt o r) (colAt c j)) := by
  rw [Ref.prod_apply]
  have h1 : ∀ k, xE m o r k = X (ix2 (n0 := 4096) (n1 := 4096) (rowAt o r) k) := fun k =>
    (congrFun (hX o) (ix2 (n0 := 512) (n1 := 4096) r k)).trans (congrArg X (by
      funext a; apply Fin.ext
      match a with
      | ⟨0, _⟩ => show o.val * 512 + r.val = 512 * o.val + r.val; omega
      | ⟨1, _⟩ => rfl))
  have h2 : ∀ k, wE m c k j = W (ix2 (n0 := 4096) (n1 := 2048) k (colAt c j)) := fun k =>
    (congrFun (hW c) (ix2 (n0 := 4096) (n1 := 256) k j)).trans (congrArg W (by
      funext a; apply Fin.ext
      match a with
      | ⟨0, _⟩ => rfl
      | ⟨1, _⟩ => show c.val * 256 + j.val = 256 * c.val + j.val; omega))
  unfold entry
  exact congrArg (fun a : EReal => max a 0) (Finset.sum_congr rfl fun k _ => congrArg₂ (fun a b : EReal => a * b) (h1 k) (h2 k))

/-- The devices' amax is the reference's. -/
theorem amax_eq (z : Cert.ReferenceIdeal.S_.Idx) : bufMax (AF m) = Ref.amax X W z := by
  refine eq_of_forall_ge_iff (α := EReal) fun b => (amax_le m b _ _ _ _ _).trans (Iff.trans ?_ (Ref.amax_le X W z b).symm)
  refine ⟨fun H r j => ?_, fun H c => (amaxOf_entry m c _ b).2 fun o r j => ?_⟩
  · obtain ⟨c, k, rfl⟩ := colAt_surj j
    have := (amaxOf_entry m c _ b).1 (H c) (rowChunk r) (rowIn r) k
    rwa [entry_eq m X W hX hW, rowAt_chunk] at this
  · rw [entry_eq m X W hX hW]
    exact H _ _

/-- Each device's result is its block of the reference's. -/
theorem outAt_eq (c : Dev nD) :
    (outAt m c : S4096x256.Idx → EReal) = Layout.block ⟨2, ![4096, 256]⟩ ⟨2, ![4096, 2048]⟩ 1 8 c (Ref.out X W) tilesW := by
  funext i
  obtain ⟨r, j, rfl⟩ : ∃ (r : Fin 4096) (j : Fin 256), i = ix2 (n0 := 4096) (n1 := 256) r j := ⟨_, _, eq_ix2 i⟩
  refine (pay1_apply (AF m) (YF m c) _).trans ?_
  have hi : (tilesW.idx c (ix2 (n0 := 4096) (n1 := 256) r j))
      = ix2 (n0 := 4096) (n1 := 2048) r (colAt c j) := by
    funext a; apply Fin.ext
    match a with
    | ⟨0, _⟩ => rfl
    | ⟨1, _⟩ => show c.val * 256 + j.val = 256 * c.val + j.val; omega
  rw [Layout.block_apply, hi, Ref.out_apply X W _ (fun a => a.elim0), amax_eq m X W hX hW (fun a => a.elim0)]
  refine congrArg (quant _) ((YF_apply m c r j).trans ?_)
  rw [entry_eq m X W hX hW, rowAt_chunk]

end Match

end Cert.RingProof

end
-- ==== Proof.lean ====
/-
# The claims

The runs of the kernel (at any float values) and of the reference, and the claims read off them.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem

section Same

attribute [local instance] Cert.Kernel.Gen.facts Cert.KernelIdeal.Gen.facts

set_option maxRecDepth 40000 in
theorem body_same : Cert.Kernel.cc0_body (F := Bits) = Cert.KernelIdeal.cc0_body (F := Bits) := rfl

set_option maxRecDepth 40000 in
/-- The two printed programs run the same body, -/
theorem bodies_same : Cert.Kernel.defs₀ (F := Bits) = Cert.KernelIdeal.defs₀ (F := Bits) := by
  unfold Cert.Kernel.defs₀ Cert.KernelIdeal.defs₀
  refine congrArg _ ?_
  funext l a
  match l with
  | ⟨0, _⟩ => rw [← body_same]

set_option maxRecDepth 40000 in
/-- so they are the same program. -/
theorem defs_same : Cert.Kernel.defs (F := Bits) = Cert.KernelIdeal.defs (F := Bits) :=
  congrArg (Pipeline.defs (Cert.Kernel.pcfgs (F := Bits))) bodies_same

end Same

set_option maxRecDepth 40000 in
/-- The kernel's frame over machine words. -/
theorem frame_kernel : Cert.quiescent_Kernel (hKernel := Cert.Kernel.Gen.facts) := fun m ρ _ => by
  rw [defs_same]
  exact (θ_run Cert.KernelIdeal.defs _ _).mono (fun _ h => ⟨fun c => (h.1 c).2, h.2⟩) (Cert.RingProof.run_main (F := Bits) m ρ)

/-- The kernel's frame over the reals. -/
theorem frame_kernelIdeal : Cert.quiescent_KernelIdeal (hKernelIdeal := Cert.KernelIdeal.Gen.facts) := fun m ρ _ =>
  (θ_run Cert.KernelIdeal.defs _ _).mono (fun _ h => ⟨fun c => (h.1 c).2, h.2⟩) (Cert.RingProof.run_main (F := Ideal) m ρ)

/-- The reference's frame over the reals. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

set_option maxRecDepth 40000 in
/-- Over the reals each device's result is its block of the reference's. -/
theorem algebraic : Cert.algebraic_KernelIdeal_ReferenceIdeal (hKernelIdeal := Cert.KernelIdeal.Gen.facts)
    (hReferenceIdeal := Cert.ReferenceIdeal.Gen.facts) := by
  intro m g m' g' _ h
  refine ⟨Cert.RingProof.Ref.out (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ hr c => ⟨(hr.1 c).1.trans (Cert.RingProof.outAt_eq m _ _ (fun c => (h c).1) (fun c => (h c).2) c), (hr.1 c).2⟩)
      (Cert.RingProof.run_main (F := Ideal) m g)
  · exact (θ_run Cert.ReferenceIdeal.defs _ _).mono (fun _ hr => hr 0) (Cert.ReferenceIdeal.Value.run (F := Ideal) m' g')

/-- All of the claims. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
